-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutReferenceIdeal (m : (ℓ : Loc Cert.GradOutReferenceIdeal.nD Cert.GradOutReferenceIdeal.τ Cert.GradOutReferenceIdeal.sig) → Buf (Elt Ideal) ℓ) : Prop :=
  True

def Pre_GradFfnIn (m : (ℓ : Loc Cert.GradFfnIn.nD Cert.GradFfnIn.τ Cert.GradFfnIn.sig) → Buf (Elt Bits) ℓ) : Prop :=
  True

def Pre_GradFfnInIdeal (m : (ℓ : Loc Cert.GradFfnInIdeal.nD Cert.GradFfnInIdeal.τ Cert.GradFfnInIdeal.sig) → Buf (Elt Ideal) ℓ) : Prop :=
  True

def Pre_GradFfnInReferenceIdeal (m : (ℓ : Loc Cert.GradFfnInReferenceIdeal.nD Cert.GradFfnInReferenceIdeal.τ Cert.GradFfnInReferenceIdeal.sig) → Buf (Elt Ideal) ℓ) : Prop :=
  True

def Pre_GradFfnOut (m : (ℓ : Loc Cert.GradFfnOut.nD Cert.GradFfnOut.τ Cert.GradFfnOut.sig) → Buf (Elt Bits) ℓ) : Prop :=
  True

def Pre_GradFfnOutIdeal (m : (ℓ : Loc Cert.GradFfnOutIdeal.nD Cert.GradFfnOutIdeal.τ Cert.GradFfnOutIdeal.sig) → Buf (Elt Ideal) ℓ) : Prop :=
  True

def Pre_GradFfnOutReferenceIdeal (m : (ℓ : Loc Cert.GradFfnOutReferenceIdeal.nD Cert.GradFfnOutReferenceIdeal.τ Cert.GradFfnOutReferenceIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInReferenceIdeal (m : (ℓ : Loc Cert.GradInReferenceIdeal.nD Cert.GradInReferenceIdeal.τ Cert.GradInReferenceIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInReferenceIdeal (m : (ℓ : Loc Cert.ProjInReferenceIdeal.nD Cert.ProjInReferenceIdeal.τ Cert.ProjInReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutReferenceIdeal [hGradOutReferenceIdeal : Cert.GradOutReferenceIdeal.Facts] : Prop :=
  ∀ (m : (ℓ : Loc Cert.GradOutReferenceIdeal.nD Cert.GradOutReferenceIdeal.τ Cert.GradOutReferenceIdeal.sig) → Buf (Elt Ideal) ℓ) (g : Dev Cert.GradOutReferenceIdeal.nD → PrngReg), Pre_GradOutReferenceIdeal m →
    θ_run (Cert.GradOutReferenceIdeal.defs (F := Ideal)) (onTc (τ := Cert.GradOutReferenceIdeal.τ) (Cert.GradOutReferenceIdeal.main (F := Ideal))) ⟨m, fun _ => 0, g⟩ (fun r => (∀ c : Dev Cert.GradOutReferenceIdeal.nD,
      r.2.mem ((c.tc : Thread Cert.GradOutReferenceIdeal.nD Cert.GradOutReferenceIdeal.τ).loc Cert.GradOutReferenceIdeal.main_arg0) = m ((c.tc : Thread Cert.GradOutReferenceIdeal.nD Cert.GradOutReferenceIdeal.τ).loc Cert.GradOutReferenceIdeal.main_arg0)
      ∧ r.2.mem ((c.tc : Thread Cert.GradOutReferenceIdeal.nD Cert.GradOutReferenceIdeal.τ).loc Cert.GradOutReferenceIdeal.main_arg1) = m ((c.tc : Thread Cert.GradOutReferenceIdeal.nD Cert.GradOutReferenceIdeal.τ).loc Cert.GradOutReferenceIdeal.main_arg1))
      ∧ r.2.sem = fun _ => 0)

def quiescent_GradFfnIn [hGradFfnIn : Cert.GradFfnIn.Facts] : Prop :=
  ∀ (m : (ℓ : Loc Cert.GradFfnIn.nD Cert.GradFfnIn.τ Cert.GradFfnIn.sig) → Buf (Elt Bits) ℓ) (g : Dev Cert.GradFfnIn.nD → PrngReg), Pre_GradFfnIn m →
    θ_run (Cert.GradFfnIn.defs (F := Bits)) (onTc (τ := Cert.GradFfnIn.τ) (Cert.GradFfnIn.main (F := Bits))) ⟨m, fun _ => 0, g⟩ (fun r => (∀ c : Dev Cert.GradFfnIn.nD,
      r.2.mem ((c.tc : Thread Cert.GradFfnIn.nD Cert.GradFfnIn.τ).loc Cert.GradFfnIn.main_arg0) = m ((c.tc : Thread Cert.GradFfnIn.nD Cert.GradFfnIn.τ).loc Cert.GradFfnIn.main_arg0)
      ∧ r.2.mem ((c.tc : Thread Cert.GradFfnIn.nD Cert.GradFfnIn.τ).loc Cert.GradFfnIn.main_arg1) = m ((c.tc : Thread Cert.GradFfnIn.nD Cert.GradFfnIn.τ).loc Cert.GradFfnIn.main_arg1))
      ∧ r.2.sem = fun _ => 0)

def quiescent_GradFfnInIdeal [hGradFfnInIdeal : Cert.GradFfnInIdeal.Facts] : Prop :=
  ∀ (m : (ℓ : Loc Cert.GradFfnInIdeal.nD Cert.GradFfnInIdeal.τ Cert.GradFfnInIdeal.sig) → Buf (Elt Ideal) ℓ) (g : Dev Cert.GradFfnInIdeal.nD → PrngReg), Pre_GradFfnInIdeal m →
    θ_run (Cert.GradFfnInIdeal.defs (F := Ideal)) (onTc (τ := Cert.GradFfnInIdeal.τ) (Cert.GradFfnInIdeal.main (F := Ideal))) ⟨m, fun _ => 0, g⟩ (fun r => (∀ c : Dev Cert.GradFfnInIdeal.nD,
      r.2.mem ((c.tc : Thread Cert.GradFfnInIdeal.nD Cert.GradFfnInIdeal.τ).loc Cert.GradFfnInIdeal.main_arg0) = m ((c.tc : Thread Cert.GradFfnInIdeal.nD Cert.GradFfnInIdeal.τ).loc Cert.GradFfnInIdeal.main_arg0)
      ∧ r.2.mem ((c.tc : Thread Cert.GradFfnInIdeal.nD Cert.GradFfnInIdeal.τ).loc Cert.GradFfnInIdeal.main_arg1) = m ((c.tc : Thread Cert.GradFfnInIdeal.nD Cert.GradFfnInIdeal.τ).loc Cert.GradFfnInIdeal.main_arg1))
      ∧ r.2.sem = fun _ => 0)

def quiescent_GradFfnInReferenceIdeal [hGradFfnInReferenceIdeal : Cert.GradFfnInReferenceIdeal.Facts] : Prop :=
  ∀ (m : (ℓ : Loc Cert.GradFfnInReferenceIdeal.nD Cert.GradFfnInReferenceIdeal.τ Cert.GradFfnInReferenceIdeal.sig) → Buf (Elt Ideal) ℓ) (g : Dev Cert.GradFfnInReferenceIdeal.nD → PrngReg), Pre_GradFfnInReferenceIdeal m →
    θ_run (Cert.GradFfnInReferenceIdeal.defs (F := Ideal)) (onTc (τ := Cert.GradFfnInReferenceIdeal.τ) (Cert.GradFfnInReferenceIdeal.main (F := Ideal))) ⟨m, fun _ => 0, g⟩ (fun r => (∀ c : Dev Cert.GradFfnInReferenceIdeal.nD,
      r.2.mem ((c.tc : Thread Cert.GradFfnInReferenceIdeal.nD Cert.GradFfnInReferenceIdeal.τ).loc Cert.GradFfnInReferenceIdeal.main_arg0) = m ((c.tc : Thread Cert.GradFfnInReferenceIdeal.nD Cert.GradFfnInReferenceIdeal.τ).loc Cert.GradFfnInReferenceIdeal.main_arg0)
      ∧ r.2.mem ((c.tc : Thread Cert.GradFfnInReferenceIdeal.nD Cert.GradFfnInReferenceIdeal.τ).loc Cert.GradFfnInReferenceIdeal.main_arg1) = m ((c.tc : Thread Cert.GradFfnInReferenceIdeal.nD Cert.GradFfnInReferenceIdeal.τ).loc Cert.GradFfnInReferenceIdeal.main_arg1))
      ∧ r.2.sem = fun _ => 0)

def quiescent_GradFfnOut [hGradFfnOut : Cert.GradFfnOut.Facts] : Prop :=
  ∀ (m : (ℓ : Loc Cert.GradFfnOut.nD Cert.GradFfnOut.τ Cert.GradFfnOut.sig) → Buf (Elt Bits) ℓ) (g : Dev Cert.GradFfnOut.nD → PrngReg), Pre_GradFfnOut m →
    θ_run (Cert.GradFfnOut.defs (F := Bits)) (onTc (τ := Cert.GradFfnOut.τ) (Cert.GradFfnOut.main (F := Bits))) ⟨m, fun _ => 0, g⟩ (fun r => (∀ c : Dev Cert.GradFfnOut.nD,
      r.2.mem ((c.tc : Thread Cert.GradFfnOut.nD Cert.GradFfnOut.τ).loc Cert.GradFfnOut.main_arg0) = m ((c.tc : Thread Cert.GradFfnOut.nD Cert.GradFfnOut.τ).loc Cert.GradFfnOut.main_arg0)
      ∧ r.2.mem ((c.tc : Thread Cert.GradFfnOut.nD Cert.GradFfnOut.τ).loc Cert.GradFfnOut.main_arg1) = m ((c.tc : Thread Cert.GradFfnOut.nD Cert.GradFfnOut.τ).loc Cert.GradFfnOut.main_arg1))
      ∧ r.2.sem = fun _ => 0)

def quiescent_GradFfnOutIdeal [hGradFfnOutIdeal : Cert.GradFfnOutIdeal.Facts] : Prop :=
  ∀ (m : (ℓ : Loc Cert.GradFfnOutIdeal.nD Cert.GradFfnOutIdeal.τ Cert.GradFfnOutIdeal.sig) → Buf (Elt Ideal) ℓ) (g : Dev Cert.GradFfnOutIdeal.nD → PrngReg), Pre_GradFfnOutIdeal m →
    θ_run (Cert.GradFfnOutIdeal.defs (F := Ideal)) (onTc (τ := Cert.GradFfnOutIdeal.τ) (Cert.GradFfnOutIdeal.main (F := Ideal))) ⟨m, fun _ => 0, g⟩ (fun r => (∀ c : Dev Cert.GradFfnOutIdeal.nD,
      r.2.mem ((c.tc : Thread Cert.GradFfnOutIdeal.nD Cert.GradFfnOutIdeal.τ).loc Cert.GradFfnOutIdeal.main_arg0) = m ((c.tc : Thread Cert.GradFfnOutIdeal.nD Cert.GradFfnOutIdeal.τ).loc Cert.GradFfnOutIdeal.main_arg0)
      ∧ r.2.mem ((c.tc : Thread Cert.GradFfnOutIdeal.nD Cert.GradFfnOutIdeal.τ).loc Cert.GradFfnOutIdeal.main_arg1) = m ((c.tc : Thread Cert.GradFfnOutIdeal.nD Cert.GradFfnOutIdeal.τ).loc Cert.GradFfnOutIdeal.main_arg1))
      ∧ r.2.sem = fun _ => 0)

def quiescent_GradFfnOutReferenceIdeal [hGradFfnOutReferenceIdeal : Cert.GradFfnOutReferenceIdeal.Facts] : Prop :=
  ∀ (m : (ℓ : Loc Cert.GradFfnOutReferenceIdeal.nD Cert.GradFfnOutReferenceIdeal.τ Cert.GradFfnOutReferenceIdeal.sig) → Buf (Elt Ideal) ℓ) (g : Dev Cert.GradFfnOutReferenceIdeal.nD → PrngReg), Pre_GradFfnOutReferenceIdeal m →
    θ_run (Cert.GradFfnOutReferenceIdeal.defs (F := Ideal)) (onTc (τ := Cert.GradFfnOutReferenceIdeal.τ) (Cert.GradFfnOutReferenceIdeal.main (F := Ideal))) ⟨m, fun _ => 0, g⟩ (fun r => (∀ c : Dev Cert.GradFfnOutReferenceIdeal.nD,
      r.2.mem ((c.tc : Thread Cert.GradFfnOutReferenceIdeal.nD Cert.GradFfnOutReferenceIdeal.τ).loc Cert.GradFfnOutReferenceIdeal.main_arg0) = m ((c.tc : Thread Cert.GradFfnOutReferenceIdeal.nD Cert.GradFfnOutReferenceIdeal.τ).loc Cert.GradFfnOutReferenceIdeal.main_arg0)
      ∧ r.2.mem ((c.tc : Thread Cert.GradFfnOutReferenceIdeal.nD Cert.GradFfnOutReferenceIdeal.τ).loc Cert.GradFfnOutReferenceIdeal.main_arg1) = m ((c.tc : Thread Cert.GradFfnOutReferenceIdeal.nD Cert.GradFfnOutReferenceIdeal.τ).loc Cert.GradFfnOutReferenceIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInReferenceIdeal [hGradInReferenceIdeal : Cert.GradInReferenceIdeal.Facts] : Prop :=
  ∀ (m : (ℓ : Loc Cert.GradInReferenceIdeal.nD Cert.GradInReferenceIdeal.τ Cert.GradInReferenceIdeal.sig) → Buf (Elt Ideal) ℓ) (g : Dev Cert.GradInReferenceIdeal.nD → PrngReg), Pre_GradInReferenceIdeal m →
    θ_run (Cert.GradInReferenceIdeal.defs (F := Ideal)) (onTc (τ := Cert.GradInReferenceIdeal.τ) (Cert.GradInReferenceIdeal.main (F := Ideal))) ⟨m, fun _ => 0, g⟩ (fun r => (∀ c : Dev Cert.GradInReferenceIdeal.nD,
      r.2.mem ((c.tc : Thread Cert.GradInReferenceIdeal.nD Cert.GradInReferenceIdeal.τ).loc Cert.GradInReferenceIdeal.main_arg0) = m ((c.tc : Thread Cert.GradInReferenceIdeal.nD Cert.GradInReferenceIdeal.τ).loc Cert.GradInReferenceIdeal.main_arg0)
      ∧ r.2.mem ((c.tc : Thread Cert.GradInReferenceIdeal.nD Cert.GradInReferenceIdeal.τ).loc Cert.GradInReferenceIdeal.main_arg1) = m ((c.tc : Thread Cert.GradInReferenceIdeal.nD Cert.GradInReferenceIdeal.τ).loc Cert.GradInReferenceIdeal.main_arg1))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1)
      ∧ r.2.mem ((c.tc : Thread Cert.ProjIn.nD Cert.ProjIn.τ).loc Cert.ProjIn.main_arg2) = m ((c.tc : Thread Cert.ProjIn.nD Cert.ProjIn.τ).loc Cert.ProjIn.main_arg2)
      ∧ r.2.mem ((c.tc : Thread Cert.ProjIn.nD Cert.ProjIn.τ).loc Cert.ProjIn.main_arg3) = m ((c.tc : Thread Cert.ProjIn.nD Cert.ProjIn.τ).loc Cert.ProjIn.main_arg3)
      ∧ r.2.mem ((c.tc : Thread Cert.ProjIn.nD Cert.ProjIn.τ).loc Cert.ProjIn.main_arg4) = m ((c.tc : Thread Cert.ProjIn.nD Cert.ProjIn.τ).loc Cert.ProjIn.main_arg4)
      ∧ r.2.mem ((c.tc : Thread Cert.ProjIn.nD Cert.ProjIn.τ).loc Cert.ProjIn.main_arg5) = m ((c.tc : Thread Cert.ProjIn.nD Cert.ProjIn.τ).loc Cert.ProjIn.main_arg5))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
      ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3)
      ∧ r.2.mem ((c.tc : Thread Cert.ProjInIdeal.nD Cert.ProjInIdeal.τ).loc Cert.ProjInIdeal.main_arg4) = m ((c.tc : Thread Cert.ProjInIdeal.nD Cert.ProjInIdeal.τ).loc Cert.ProjInIdeal.main_arg4)
      ∧ r.2.mem ((c.tc : Thread Cert.ProjInIdeal.nD Cert.ProjInIdeal.τ).loc Cert.ProjInIdeal.main_arg5) = m ((c.tc : Thread Cert.ProjInIdeal.nD Cert.ProjInIdeal.τ).loc Cert.ProjInIdeal.main_arg5))
      ∧ r.2.sem = fun _ => 0)

def quiescent_ProjInReferenceIdeal [hProjInReferenceIdeal : Cert.ProjInReferenceIdeal.Facts] : Prop :=
  ∀ (m : (ℓ : Loc Cert.ProjInReferenceIdeal.nD Cert.ProjInReferenceIdeal.τ Cert.ProjInReferenceIdeal.sig) → Buf (Elt Ideal) ℓ) (g : Dev Cert.ProjInReferenceIdeal.nD → PrngReg), Pre_ProjInReferenceIdeal m →
    θ_run (Cert.ProjInReferenceIdeal.defs (F := Ideal)) (onTc (τ := Cert.ProjInReferenceIdeal.τ) (Cert.ProjInReferenceIdeal.main (F := Ideal))) ⟨m, fun _ => 0, g⟩ (fun r => (∀ c : Dev Cert.ProjInReferenceIdeal.nD,
      r.2.mem ((c.tc : Thread Cert.ProjInReferenceIdeal.nD Cert.ProjInReferenceIdeal.τ).loc Cert.ProjInReferenceIdeal.main_arg0) = m ((c.tc : Thread Cert.ProjInReferenceIdeal.nD Cert.ProjInReferenceIdeal.τ).loc Cert.ProjInReferenceIdeal.main_arg0)
      ∧ r.2.mem ((c.tc : Thread Cert.ProjInReferenceIdeal.nD Cert.ProjInReferenceIdeal.τ).loc Cert.ProjInReferenceIdeal.main_arg1) = m ((c.tc : Thread Cert.ProjInReferenceIdeal.nD Cert.ProjInReferenceIdeal.τ).loc Cert.ProjInReferenceIdeal.main_arg1)
      ∧ r.2.mem ((c.tc : Thread Cert.ProjInReferenceIdeal.nD Cert.ProjInReferenceIdeal.τ).loc Cert.ProjInReferenceIdeal.main_arg2) = m ((c.tc : Thread Cert.ProjInReferenceIdeal.nD Cert.ProjInReferenceIdeal.τ).loc Cert.ProjInReferenceIdeal.main_arg2)
      ∧ r.2.mem ((c.tc : Thread Cert.ProjInReferenceIdeal.nD Cert.ProjInReferenceIdeal.τ).loc Cert.ProjInReferenceIdeal.main_arg3) = m ((c.tc : Thread Cert.ProjInReferenceIdeal.nD Cert.ProjInReferenceIdeal.τ).loc Cert.ProjInReferenceIdeal.main_arg3)
      ∧ r.2.mem ((c.tc : Thread Cert.ProjInReferenceIdeal.nD Cert.ProjInReferenceIdeal.τ).loc Cert.ProjInReferenceIdeal.main_arg4) = m ((c.tc : Thread Cert.ProjInReferenceIdeal.nD Cert.ProjInReferenceIdeal.τ).loc Cert.ProjInReferenceIdeal.main_arg4)
      ∧ r.2.mem ((c.tc : Thread Cert.ProjInReferenceIdeal.nD Cert.ProjInReferenceIdeal.τ).loc Cert.ProjInReferenceIdeal.main_arg5) = m ((c.tc : Thread Cert.ProjInReferenceIdeal.nD Cert.ProjInReferenceIdeal.τ).loc Cert.ProjInReferenceIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)) (v7 : (c : Dev Cert.KernelIdeal.nD) → Buf (Elt Ideal) ((c.tc : Thread Cert.KernelIdeal.nD Cert.KernelIdeal.τ).loc Cert.KernelIdeal.main_v3_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_v3_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v139) = v1 c
          ∧ r.2.mem ((c.tc : Thread Cert.ReferenceIdeal.nD Cert.ReferenceIdeal.τ).loc Cert.ReferenceIdeal.main_v148) = v2 c
          ∧ r.2.mem ((c.tc : Thread Cert.ReferenceIdeal.nD Cert.ReferenceIdeal.τ).loc Cert.ReferenceIdeal.main_v149) = v3 c
          ∧ r.2.mem ((c.tc : Thread Cert.ReferenceIdeal.nD Cert.ReferenceIdeal.τ).loc Cert.ReferenceIdeal.main_v150) = v4 c
          ∧ r.2.mem ((c.tc : Thread Cert.ReferenceIdeal.nD Cert.ReferenceIdeal.τ).loc Cert.ReferenceIdeal.main_v151) = v5 c
          ∧ r.2.mem ((c.tc : Thread Cert.ReferenceIdeal.nD Cert.ReferenceIdeal.τ).loc Cert.ReferenceIdeal.main_v152) = v6 c
          ∧ r.2.mem ((c.tc : Thread Cert.ReferenceIdeal.nD Cert.ReferenceIdeal.τ).loc Cert.ReferenceIdeal.main_v147) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_GradOut_GradOutIdeal : Prop :=
  True

def algebraic_GradOutIdeal_GradOutReferenceIdeal [hGradOutIdeal : Cert.GradOutIdeal.Facts] [hGradOutReferenceIdeal : Cert.GradOutReferenceIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutReferenceIdeal.nD Cert.GradOutReferenceIdeal.τ Cert.GradOutReferenceIdeal.sig) → Buf (Elt Ideal) ℓ) (g' : Dev Cert.GradOutReferenceIdeal.nD → PrngReg), Pre_GradOutIdeal m →
    (∀ c : Dev Cert.GradOutIdeal.nD,
      m' ((c.tc : Thread Cert.GradOutReferenceIdeal.nD Cert.GradOutReferenceIdeal.τ).loc Cert.GradOutReferenceIdeal.main_arg0) = m ((c.tc : Thread Cert.GradOutIdeal.nD Cert.GradOutIdeal.τ).loc Cert.GradOutIdeal.main_arg0)
      ∧ m' ((c.tc : Thread Cert.GradOutReferenceIdeal.nD Cert.GradOutReferenceIdeal.τ).loc Cert.GradOutReferenceIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutReferenceIdeal.defs (F := Ideal)) (onTc (τ := Cert.GradOutReferenceIdeal.τ) (Cert.GradOutReferenceIdeal.main (F := Ideal))) ⟨m', fun _ => 0, g'⟩ (fun r => ∀ c : Dev Cert.GradOutReferenceIdeal.nD,
          r.2.mem ((c.tc : Thread Cert.GradOutReferenceIdeal.nD Cert.GradOutReferenceIdeal.τ).loc Cert.GradOutReferenceIdeal.main_v7) = v0 c
          ∧ r.2.mem ((c.tc : Thread Cert.GradOutReferenceIdeal.nD Cert.GradOutReferenceIdeal.τ).loc Cert.GradOutReferenceIdeal.main_arg0) = m' ((c.tc : Thread Cert.GradOutReferenceIdeal.nD Cert.GradOutReferenceIdeal.τ).loc Cert.GradOutReferenceIdeal.main_arg0)
          ∧ r.2.mem ((c.tc : Thread Cert.GradOutReferenceIdeal.nD Cert.GradOutReferenceIdeal.τ).loc Cert.GradOutReferenceIdeal.main_arg1) = m' ((c.tc : Thread Cert.GradOutReferenceIdeal.nD Cert.GradOutReferenceIdeal.τ).loc Cert.GradOutReferenceIdeal.main_arg1))

def preserves_GradFfnIn_GradFfnInIdeal : Prop :=
  True

def algebraic_GradFfnInIdeal_GradFfnInReferenceIdeal [hGradFfnInIdeal : Cert.GradFfnInIdeal.Facts] [hGradFfnInReferenceIdeal : Cert.GradFfnInReferenceIdeal.Facts] : Prop :=
  ∀ (m : (ℓ : Loc Cert.GradFfnInIdeal.nD Cert.GradFfnInIdeal.τ Cert.GradFfnInIdeal.sig) → Buf (Elt Ideal) ℓ) (g : Dev Cert.GradFfnInIdeal.nD → PrngReg)
    (m' : (ℓ : Loc Cert.GradFfnInReferenceIdeal.nD Cert.GradFfnInReferenceIdeal.τ Cert.GradFfnInReferenceIdeal.sig) → Buf (Elt Ideal) ℓ) (g' : Dev Cert.GradFfnInReferenceIdeal.nD → PrngReg), Pre_GradFfnInIdeal m →
    (∀ c : Dev Cert.GradFfnInIdeal.nD,
      m' ((c.tc : Thread Cert.GradFfnInReferenceIdeal.nD Cert.GradFfnInReferenceIdeal.τ).loc Cert.GradFfnInReferenceIdeal.main_arg0) = m ((c.tc : Thread Cert.GradFfnInIdeal.nD Cert.GradFfnInIdeal.τ).loc Cert.GradFfnInIdeal.main_arg0)
      ∧ m' ((c.tc : Thread Cert.GradFfnInReferenceIdeal.nD Cert.GradFfnInReferenceIdeal.τ).loc Cert.GradFfnInReferenceIdeal.main_arg1) = m ((c.tc : Thread Cert.GradFfnInIdeal.nD Cert.GradFfnInIdeal.τ).loc Cert.GradFfnInIdeal.main_arg1)) →
    ∃ (v0 : (c : Dev Cert.GradFfnInIdeal.nD) → Buf (Elt Ideal) ((c.tc : Thread Cert.GradFfnInIdeal.nD Cert.GradFfnInIdeal.τ).loc Cert.GradFfnInIdeal.main_v0)),
      θ_run (Cert.GradFfnInIdeal.defs (F := Ideal)) (onTc (τ := Cert.GradFfnInIdeal.τ) (Cert.GradFfnInIdeal.main (F := Ideal))) ⟨m, fun _ => 0, g⟩ (fun r => ∀ c : Dev Cert.GradFfnInIdeal.nD,
          r.2.mem ((c.tc : Thread Cert.GradFfnInIdeal.nD Cert.GradFfnInIdeal.τ).loc Cert.GradFfnInIdeal.main_v0) = v0 c
          ∧ r.2.mem ((c.tc : Thread Cert.GradFfnInIdeal.nD Cert.GradFfnInIdeal.τ).loc Cert.GradFfnInIdeal.main_arg0) = m ((c.tc : Thread Cert.GradFfnInIdeal.nD Cert.GradFfnInIdeal.τ).loc Cert.GradFfnInIdeal.main_arg0)
          ∧ r.2.mem ((c.tc : Thread Cert.GradFfnInIdeal.nD Cert.GradFfnInIdeal.τ).loc Cert.GradFfnInIdeal.main_arg1) = m ((c.tc : Thread Cert.GradFfnInIdeal.nD Cert.GradFfnInIdeal.τ).loc Cert.GradFfnInIdeal.main_arg1))
      ∧ θ_run (Cert.GradFfnInReferenceIdeal.defs (F := Ideal)) (onTc (τ := Cert.GradFfnInReferenceIdeal.τ) (Cert.GradFfnInReferenceIdeal.main (F := Ideal))) ⟨m', fun _ => 0, g'⟩ (fun r => ∀ c : Dev Cert.GradFfnInReferenceIdeal.nD,
          r.2.mem ((c.tc : Thread Cert.GradFfnInReferenceIdeal.nD Cert.GradFfnInReferenceIdeal.τ).loc Cert.GradFfnInReferenceIdeal.main_v7) = v0 c
          ∧ r.2.mem ((c.tc : Thread Cert.GradFfnInReferenceIdeal.nD Cert.GradFfnInReferenceIdeal.τ).loc Cert.GradFfnInReferenceIdeal.main_arg0) = m' ((c.tc : Thread Cert.GradFfnInReferenceIdeal.nD Cert.GradFfnInReferenceIdeal.τ).loc Cert.GradFfnInReferenceIdeal.main_arg0)
          ∧ r.2.mem ((c.tc : Thread Cert.GradFfnInReferenceIdeal.nD Cert.GradFfnInReferenceIdeal.τ).loc Cert.GradFfnInReferenceIdeal.main_arg1) = m' ((c.tc : Thread Cert.GradFfnInReferenceIdeal.nD Cert.GradFfnInReferenceIdeal.τ).loc Cert.GradFfnInReferenceIdeal.main_arg1))

def preserves_GradFfnOut_GradFfnOutIdeal : Prop :=
  True

def algebraic_GradFfnOutIdeal_GradFfnOutReferenceIdeal [hGradFfnOutIdeal : Cert.GradFfnOutIdeal.Facts] [hGradFfnOutReferenceIdeal : Cert.GradFfnOutReferenceIdeal.Facts] : Prop :=
  ∀ (m : (ℓ : Loc Cert.GradFfnOutIdeal.nD Cert.GradFfnOutIdeal.τ Cert.GradFfnOutIdeal.sig) → Buf (Elt Ideal) ℓ) (g : Dev Cert.GradFfnOutIdeal.nD → PrngReg)
    (m' : (ℓ : Loc Cert.GradFfnOutReferenceIdeal.nD Cert.GradFfnOutReferenceIdeal.τ Cert.GradFfnOutReferenceIdeal.sig) → Buf (Elt Ideal) ℓ) (g' : Dev Cert.GradFfnOutReferenceIdeal.nD → PrngReg), Pre_GradFfnOutIdeal m →
    (∀ c : Dev Cert.GradFfnOutIdeal.nD,
      m' ((c.tc : Thread Cert.GradFfnOutReferenceIdeal.nD Cert.GradFfnOutReferenceIdeal.τ).loc Cert.GradFfnOutReferenceIdeal.main_arg0) = m ((c.tc : Thread Cert.GradFfnOutIdeal.nD Cert.GradFfnOutIdeal.τ).loc Cert.GradFfnOutIdeal.main_arg0)
      ∧ m' ((c.tc : Thread Cert.GradFfnOutReferenceIdeal.nD Cert.GradFfnOutReferenceIdeal.τ).loc Cert.GradFfnOutReferenceIdeal.main_arg1) = m ((c.tc : Thread Cert.GradFfnOutIdeal.nD Cert.GradFfnOutIdeal.τ).loc Cert.GradFfnOutIdeal.main_arg1)) →
    ∃ (v0 : (c : Dev Cert.GradFfnOutIdeal.nD) → Buf (Elt Ideal) ((c.tc : Thread Cert.GradFfnOutIdeal.nD Cert.GradFfnOutIdeal.τ).loc Cert.GradFfnOutIdeal.main_v0)),
      θ_run (Cert.GradFfnOutIdeal.defs (F := Ideal)) (onTc (τ := Cert.GradFfnOutIdeal.τ) (Cert.GradFfnOutIdeal.main (F := Ideal))) ⟨m, fun _ => 0, g⟩ (fun r => ∀ c : Dev Cert.GradFfnOutIdeal.nD,
          r.2.mem ((c.tc : Thread Cert.GradFfnOutIdeal.nD Cert.GradFfnOutIdeal.τ).loc Cert.GradFfnOutIdeal.main_v0) = v0 c
          ∧ r.2.mem ((c.tc : Thread Cert.GradFfnOutIdeal.nD Cert.GradFfnOutIdeal.τ).loc Cert.GradFfnOutIdeal.main_arg0) = m ((c.tc : Thread Cert.GradFfnOutIdeal.nD Cert.GradFfnOutIdeal.τ).loc Cert.GradFfnOutIdeal.main_arg0)
          ∧ r.2.mem ((c.tc : Thread Cert.GradFfnOutIdeal.nD Cert.GradFfnOutIdeal.τ).loc Cert.GradFfnOutIdeal.main_arg1) = m ((c.tc : Thread Cert.GradFfnOutIdeal.nD Cert.GradFfnOutIdeal.τ).loc Cert.GradFfnOutIdeal.main_arg1))
      ∧ θ_run (Cert.GradFfnOutReferenceIdeal.defs (F := Ideal)) (onTc (τ := Cert.GradFfnOutReferenceIdeal.τ) (Cert.GradFfnOutReferenceIdeal.main (F := Ideal))) ⟨m', fun _ => 0, g'⟩ (fun r => ∀ c : Dev Cert.GradFfnOutReferenceIdeal.nD,
          r.2.mem ((c.tc : Thread Cert.GradFfnOutReferenceIdeal.nD Cert.GradFfnOutReferenceIdeal.τ).loc Cert.GradFfnOutReferenceIdeal.main_v7) = v0 c
          ∧ r.2.mem ((c.tc : Thread Cert.GradFfnOutReferenceIdeal.nD Cert.GradFfnOutReferenceIdeal.τ).loc Cert.GradFfnOutReferenceIdeal.main_arg0) = m' ((c.tc : Thread Cert.GradFfnOutReferenceIdeal.nD Cert.GradFfnOutReferenceIdeal.τ).loc Cert.GradFfnOutReferenceIdeal.main_arg0)
          ∧ r.2.mem ((c.tc : Thread Cert.GradFfnOutReferenceIdeal.nD Cert.GradFfnOutReferenceIdeal.τ).loc Cert.GradFfnOutReferenceIdeal.main_arg1) = m' ((c.tc : Thread Cert.GradFfnOutReferenceIdeal.nD Cert.GradFfnOutReferenceIdeal.τ).loc Cert.GradFfnOutReferenceIdeal.main_arg1))

def preserves_GradIn_GradInIdeal : Prop :=
  True

def algebraic_GradInIdeal_GradInReferenceIdeal [hGradInIdeal : Cert.GradInIdeal.Facts] [hGradInReferenceIdeal : Cert.GradInReferenceIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInReferenceIdeal.nD Cert.GradInReferenceIdeal.τ Cert.GradInReferenceIdeal.sig) → Buf (Elt Ideal) ℓ) (g' : Dev Cert.GradInReferenceIdeal.nD → PrngReg), Pre_GradInIdeal m →
    (∀ c : Dev Cert.GradInIdeal.nD,
      m' ((c.tc : Thread Cert.GradInReferenceIdeal.nD Cert.GradInReferenceIdeal.τ).loc Cert.GradInReferenceIdeal.main_arg0) = m ((c.tc : Thread Cert.GradInIdeal.nD Cert.GradInIdeal.τ).loc Cert.GradInIdeal.main_arg0)
      ∧ m' ((c.tc : Thread Cert.GradInReferenceIdeal.nD Cert.GradInReferenceIdeal.τ).loc Cert.GradInReferenceIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0_0)) (v1 : (c : Dev Cert.GradInIdeal.nD) → Buf (Elt Ideal) ((c.tc : Thread Cert.GradInIdeal.nD Cert.GradInIdeal.τ).loc Cert.GradInIdeal.main_v0_1)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0_0) = v0 c
          ∧ r.2.mem ((c.tc : Thread Cert.GradInIdeal.nD Cert.GradInIdeal.τ).loc Cert.GradInIdeal.main_v0_1) = v1 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInReferenceIdeal.defs (F := Ideal)) (onTc (τ := Cert.GradInReferenceIdeal.τ) (Cert.GradInReferenceIdeal.main (F := Ideal))) ⟨m', fun _ => 0, g'⟩ (fun r => ∀ c : Dev Cert.GradInReferenceIdeal.nD,
          r.2.mem ((c.tc : Thread Cert.GradInReferenceIdeal.nD Cert.GradInReferenceIdeal.τ).loc Cert.GradInReferenceIdeal.main_v7) = v0 c
          ∧ r.2.mem ((c.tc : Thread Cert.GradInReferenceIdeal.nD Cert.GradInReferenceIdeal.τ).loc Cert.GradInReferenceIdeal.main_v8) = v1 c
          ∧ r.2.mem ((c.tc : Thread Cert.GradInReferenceIdeal.nD Cert.GradInReferenceIdeal.τ).loc Cert.GradInReferenceIdeal.main_arg0) = m' ((c.tc : Thread Cert.GradInReferenceIdeal.nD Cert.GradInReferenceIdeal.τ).loc Cert.GradInReferenceIdeal.main_arg0)
          ∧ r.2.mem ((c.tc : Thread Cert.GradInReferenceIdeal.nD Cert.GradInReferenceIdeal.τ).loc Cert.GradInReferenceIdeal.main_arg1) = m' ((c.tc : Thread Cert.GradInReferenceIdeal.nD Cert.GradInReferenceIdeal.τ).loc Cert.GradInReferenceIdeal.main_arg1))

def preserves_ProjIn_ProjInIdeal : Prop :=
  True

def algebraic_ProjInIdeal_ProjInReferenceIdeal [hProjInIdeal : Cert.ProjInIdeal.Facts] [hProjInReferenceIdeal : Cert.ProjInReferenceIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInReferenceIdeal.nD Cert.ProjInReferenceIdeal.τ Cert.ProjInReferenceIdeal.sig) → Buf (Elt Ideal) ℓ) (g' : Dev Cert.ProjInReferenceIdeal.nD → PrngReg), Pre_ProjInIdeal m →
    (∀ c : Dev Cert.ProjInIdeal.nD,
      m' ((c.tc : Thread Cert.ProjInReferenceIdeal.nD Cert.ProjInReferenceIdeal.τ).loc Cert.ProjInReferenceIdeal.main_arg0) = m ((c.tc : Thread Cert.ProjInIdeal.nD Cert.ProjInIdeal.τ).loc Cert.ProjInIdeal.main_arg0)
      ∧ m' ((c.tc : Thread Cert.ProjInReferenceIdeal.nD Cert.ProjInReferenceIdeal.τ).loc Cert.ProjInReferenceIdeal.main_arg1) = m ((c.tc : Thread Cert.ProjInIdeal.nD Cert.ProjInIdeal.τ).loc Cert.ProjInIdeal.main_arg1)
      ∧ m' ((c.tc : Thread Cert.ProjInReferenceIdeal.nD Cert.ProjInReferenceIdeal.τ).loc Cert.ProjInReferenceIdeal.main_arg2) = m ((c.tc : Thread Cert.ProjInIdeal.nD Cert.ProjInIdeal.τ).loc Cert.ProjInIdeal.main_arg2)
      ∧ m' ((c.tc : Thread Cert.ProjInReferenceIdeal.nD Cert.ProjInReferenceIdeal.τ).loc Cert.ProjInReferenceIdeal.main_arg3) = m ((c.tc : Thread Cert.ProjInIdeal.nD Cert.ProjInIdeal.τ).loc Cert.ProjInIdeal.main_arg3)
      ∧ m' ((c.tc : Thread Cert.ProjInReferenceIdeal.nD Cert.ProjInReferenceIdeal.τ).loc Cert.ProjInReferenceIdeal.main_arg4) = m ((c.tc : Thread Cert.ProjInIdeal.nD Cert.ProjInIdeal.τ).loc Cert.ProjInIdeal.main_arg4)
      ∧ m' ((c.tc : Thread Cert.ProjInReferenceIdeal.nD Cert.ProjInReferenceIdeal.τ).loc Cert.ProjInReferenceIdeal.main_arg5) = m ((c.tc : Thread Cert.ProjInIdeal.nD Cert.ProjInIdeal.τ).loc Cert.ProjInIdeal.main_arg5)) →
    ∃ (v0 : (c : Dev Cert.ProjInIdeal.nD) → Buf (Elt Ideal) ((c.tc : Thread Cert.ProjInIdeal.nD Cert.ProjInIdeal.τ).loc Cert.ProjInIdeal.main_v1_0)) (v1 : (c : Dev Cert.ProjInIdeal.nD) → Buf (Elt Ideal) ((c.tc : Thread Cert.ProjInIdeal.nD Cert.ProjInIdeal.τ).loc Cert.ProjInIdeal.main_v1_1)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v1_0) = v0 c
          ∧ r.2.mem ((c.tc : Thread Cert.ProjInIdeal.nD Cert.ProjInIdeal.τ).loc Cert.ProjInIdeal.main_v1_1) = v1 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
          ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
          ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3)
          ∧ r.2.mem ((c.tc : Thread Cert.ProjInIdeal.nD Cert.ProjInIdeal.τ).loc Cert.ProjInIdeal.main_arg4) = m ((c.tc : Thread Cert.ProjInIdeal.nD Cert.ProjInIdeal.τ).loc Cert.ProjInIdeal.main_arg4)
          ∧ r.2.mem ((c.tc : Thread Cert.ProjInIdeal.nD Cert.ProjInIdeal.τ).loc Cert.ProjInIdeal.main_arg5) = m ((c.tc : Thread Cert.ProjInIdeal.nD Cert.ProjInIdeal.τ).loc Cert.ProjInIdeal.main_arg5))
      ∧ θ_run (Cert.ProjInReferenceIdeal.defs (F := Ideal)) (onTc (τ := Cert.ProjInReferenceIdeal.τ) (Cert.ProjInReferenceIdeal.main (F := Ideal))) ⟨m', fun _ => 0, g'⟩ (fun r => ∀ c : Dev Cert.ProjInReferenceIdeal.nD,
          r.2.mem ((c.tc : Thread Cert.ProjInReferenceIdeal.nD Cert.ProjInReferenceIdeal.τ).loc Cert.ProjInReferenceIdeal.main_v59) = v0 c
          ∧ r.2.mem ((c.tc : Thread Cert.ProjInReferenceIdeal.nD Cert.ProjInReferenceIdeal.τ).loc Cert.ProjInReferenceIdeal.main_v61) = v1 c
          ∧ r.2.mem ((c.tc : Thread Cert.ProjInReferenceIdeal.nD Cert.ProjInReferenceIdeal.τ).loc Cert.ProjInReferenceIdeal.main_arg0) = m' ((c.tc : Thread Cert.ProjInReferenceIdeal.nD Cert.ProjInReferenceIdeal.τ).loc Cert.ProjInReferenceIdeal.main_arg0)
          ∧ r.2.mem ((c.tc : Thread Cert.ProjInReferenceIdeal.nD Cert.ProjInReferenceIdeal.τ).loc Cert.ProjInReferenceIdeal.main_arg1) = m' ((c.tc : Thread Cert.ProjInReferenceIdeal.nD Cert.ProjInReferenceIdeal.τ).loc Cert.ProjInReferenceIdeal.main_arg1)
          ∧ r.2.mem ((c.tc : Thread Cert.ProjInReferenceIdeal.nD Cert.ProjInReferenceIdeal.τ).loc Cert.ProjInReferenceIdeal.main_arg2) = m' ((c.tc : Thread Cert.ProjInReferenceIdeal.nD Cert.ProjInReferenceIdeal.τ).loc Cert.ProjInReferenceIdeal.main_arg2)
          ∧ r.2.mem ((c.tc : Thread Cert.ProjInReferenceIdeal.nD Cert.ProjInReferenceIdeal.τ).loc Cert.ProjInReferenceIdeal.main_arg3) = m' ((c.tc : Thread Cert.ProjInReferenceIdeal.nD Cert.ProjInReferenceIdeal.τ).loc Cert.ProjInReferenceIdeal.main_arg3)
          ∧ r.2.mem ((c.tc : Thread Cert.ProjInReferenceIdeal.nD Cert.ProjInReferenceIdeal.τ).loc Cert.ProjInReferenceIdeal.main_arg4) = m' ((c.tc : Thread Cert.ProjInReferenceIdeal.nD Cert.ProjInReferenceIdeal.τ).loc Cert.ProjInReferenceIdeal.main_arg4)
          ∧ r.2.mem ((c.tc : Thread Cert.ProjInReferenceIdeal.nD Cert.ProjInReferenceIdeal.τ).loc Cert.ProjInReferenceIdeal.main_arg5) = m' ((c.tc : Thread Cert.ProjInReferenceIdeal.nD Cert.ProjInReferenceIdeal.τ).loc Cert.ProjInReferenceIdeal.main_arg5))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)) →
    ∃ (v0 : (c : Dev Cert.AdaIdeal.nD) → Buf (Elt Ideal) ((c.tc : Thread Cert.AdaIdeal.nD Cert.AdaIdeal.τ).loc Cert.AdaIdeal.main_v0_0)) (v1 : (c : Dev Cert.AdaIdeal.nD) → Buf (Elt Ideal) ((c.tc : Thread Cert.AdaIdeal.nD Cert.AdaIdeal.τ).loc Cert.AdaIdeal.main_v0_1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0_0) = v0 c
          ∧ r.2.mem ((c.tc : Thread Cert.AdaIdeal.nD Cert.AdaIdeal.τ).loc Cert.AdaIdeal.main_v0_1) = v1 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v0) = v0 c
          ∧ r.2.mem ((c.tc : Thread Cert.AdaReferenceIdeal.nD Cert.AdaReferenceIdeal.τ).loc Cert.AdaReferenceIdeal.main_v1) = v1 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1))

def Claim : Prop :=
  ∃ (hKernel : Cert.Kernel.Facts) (hKernelIdeal : Cert.KernelIdeal.Facts) (hReferenceIdeal : Cert.ReferenceIdeal.Facts) (hGradOut : Cert.GradOut.Facts) (hGradOutIdeal : Cert.GradOutIdeal.Facts) (hGradOutReferenceIdeal : Cert.GradOutReferenceIdeal.Facts) (hGradFfnIn : Cert.GradFfnIn.Facts) (hGradFfnInIdeal : Cert.GradFfnInIdeal.Facts) (hGradFfnInReferenceIdeal : Cert.GradFfnInReferenceIdeal.Facts) (hGradFfnOut : Cert.GradFfnOut.Facts) (hGradFfnOutIdeal : Cert.GradFfnOutIdeal.Facts) (hGradFfnOutReferenceIdeal : Cert.GradFfnOutReferenceIdeal.Facts) (hGradIn : Cert.GradIn.Facts) (hGradInIdeal : Cert.GradInIdeal.Facts) (hGradInReferenceIdeal : Cert.GradInReferenceIdeal.Facts) (hProjIn : Cert.ProjIn.Facts) (hProjInIdeal : Cert.ProjInIdeal.Facts) (hProjInReferenceIdeal : Cert.ProjInReferenceIdeal.Facts) (hAda : Cert.Ada.Facts) (hAdaIdeal : Cert.AdaIdeal.Facts) (hAdaReferenceIdeal : Cert.AdaReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GradOut (hGradOut := hGradOut)
    ∧ quiescent_GradOutIdeal (hGradOutIdeal := hGradOutIdeal)
    ∧ quiescent_GradOutReferenceIdeal (hGradOutReferenceIdeal := hGradOutReferenceIdeal)
    ∧ quiescent_GradFfnIn (hGradFfnIn := hGradFfnIn)
    ∧ quiescent_GradFfnInIdeal (hGradFfnInIdeal := hGradFfnInIdeal)
    ∧ quiescent_GradFfnInReferenceIdeal (hGradFfnInReferenceIdeal := hGradFfnInReferenceIdeal)
    ∧ quiescent_GradFfnOut (hGradFfnOut := hGradFfnOut)
    ∧ quiescent_GradFfnOutIdeal (hGradFfnOutIdeal := hGradFfnOutIdeal)
    ∧ quiescent_GradFfnOutReferenceIdeal (hGradFfnOutReferenceIdeal := hGradFfnOutReferenceIdeal)
    ∧ quiescent_GradIn (hGradIn := hGradIn)
    ∧ quiescent_GradInIdeal (hGradInIdeal := hGradInIdeal)
    ∧ quiescent_GradInReferenceIdeal (hGradInReferenceIdeal := hGradInReferenceIdeal)
    ∧ quiescent_ProjIn (hProjIn := hProjIn)
    ∧ quiescent_ProjInIdeal (hProjInIdeal := hProjInIdeal)
    ∧ quiescent_ProjInReferenceIdeal (hProjInReferenceIdeal := hProjInReferenceIdeal)
    ∧ quiescent_Ada (hAda := hAda)
    ∧ quiescent_AdaIdeal (hAdaIdeal := hAdaIdeal)
    ∧ quiescent_AdaReferenceIdeal (hAdaReferenceIdeal := hAdaReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GradOut_GradOutIdeal
    ∧ algebraic_GradOutIdeal_GradOutReferenceIdeal (hGradOutIdeal := hGradOutIdeal) (hGradOutReferenceIdeal := hGradOutReferenceIdeal)
    ∧ preserves_GradFfnIn_GradFfnInIdeal
    ∧ algebraic_GradFfnInIdeal_GradFfnInReferenceIdeal (hGradFfnInIdeal := hGradFfnInIdeal) (hGradFfnInReferenceIdeal := hGradFfnInReferenceIdeal)
    ∧ preserves_GradFfnOut_GradFfnOutIdeal
    ∧ algebraic_GradFfnOutIdeal_GradFfnOutReferenceIdeal (hGradFfnOutIdeal := hGradFfnOutIdeal) (hGradFfnOutReferenceIdeal := hGradFfnOutReferenceIdeal)
    ∧ preserves_GradIn_GradInIdeal
    ∧ algebraic_GradInIdeal_GradInReferenceIdeal (hGradInIdeal := hGradInIdeal) (hGradInReferenceIdeal := hGradInReferenceIdeal)
    ∧ preserves_ProjIn_ProjInIdeal
    ∧ algebraic_ProjInIdeal_ProjInReferenceIdeal (hProjInIdeal := hProjInIdeal) (hProjInReferenceIdeal := hProjInReferenceIdeal)
    ∧ preserves_Ada_AdaIdeal
    ∧ algebraic_AdaIdeal_AdaReferenceIdeal (hAdaIdeal := hAdaIdeal) (hAdaReferenceIdeal := hAdaReferenceIdeal)
-- ==== Pre_finite.lean ====
abbrev S8192x1024 : Shape := ⟨2, ![8192, 1024]⟩
abbrev S1x6144 : Shape := ⟨2, ![1, 6144]⟩
abbrev S1x1024 : Shape := ⟨2, ![1, 1024]⟩
abbrev S1024x1024 : Shape := ⟨2, ![1024, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  slices_S1x6144_S1x1024_0_5120 : S1x6144.Slices ![0, 5120] S1x1024
  bcast_S_S1x1024 : S_.BroadcastsInDim S1x1024 (![] : Fin 0 → Fin S1x1024.rank)

variable [Facts]

def fn {F : FTy → Type} [FloatOps F] (main_arg0 : FVec F S8192x1024 .f32) (main_arg1 : FVec F S8192x1024 .bf16) (main_arg2 : FVec F S8192x1024 .f32) (main_arg3 : FVec F S1x6144 .f32) (main_arg4 : FVec F S1x1024 .f32) (main_arg5 : FVec F S1x1024 .f32) (main_arg6 : FVec F S1024x1024 .f32) (main_arg7 : FVec F S1024x5632 .f32) (main_arg8 : FVec F S2816x1024 .f32) : IVec S8192x1024 1 × IVec S1x1024 1 × IVec S1x1024 1 :=
  let main_v0 : FVec F S8192x1024 .f32 := Host.absf main_arg2
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := (extractStridedSlice S1x1024 ![0, 5120] · slices_S1x6144_S1x1024_0_5120) main_arg3
  let main_v4 : FVec F S1x1024 .f32 := Host.absf main_v3
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_v7 : FVec F S1x1024 .f32 := Host.absf main_arg5
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  (main_v2, main_v6, main_v9)
-- ==== Kernel.lean ====
abbrev S8192x1024 : Shape := ⟨2, ![8192, 1024]⟩
abbrev S1x6144 : Shape := ⟨2, ![1, 6144]⟩
abbrev S1x1024 : Shape := ⟨2, ![1, 1024]⟩
abbrev S1024x1024 : Shape := ⟨2, ![1024, 1024]⟩
abbrev S1024x5632 : Shape := ⟨2, ![1024, 5632]⟩
abbrev S2816x1024 : Shape := ⟨2, ![2816, 1024]⟩
abbrev S8192x2816 : Shape := ⟨2, ![8192, 2816]⟩
abbrev S8192x5632 : Shape := ⟨2, ![8192, 5632]⟩
abbrev S8x1024 : Shape := ⟨2, ![8, 1024]⟩
abbrev S256x1024 : Shape := ⟨2, ![256, 1024]⟩
abbrev S256x2816 : Shape := ⟨2, ![256, 2816]⟩
abbrev S256x5632 : Shape := ⟨2, ![256, 5632]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S1408x1024 : Shape := ⟨2, ![1408, 1024]⟩
abbrev S1024 : Shape := ⟨1, ![1024]⟩

abbrev nBuf : Space → Nat
  | .hbm => 20
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .f32⟩
  | .hbm, ⟨3, _⟩ => ⟨S1x6144, .f32⟩
  | .hbm, ⟨4, _⟩ => ⟨S1x1024, .f32⟩
  | .hbm, ⟨5, _⟩ => ⟨S1x1024, .f32⟩
  | .hbm, ⟨6, _⟩ => ⟨S1024x1024, .f32⟩
  | .hbm, ⟨7, _⟩ => ⟨S1024x5632, .f32⟩
  | .hbm, ⟨8, _⟩ => ⟨S2816x1024, .f32⟩
  | .hbm, ⟨9, _⟩ => ⟨S1024x1024, .bf16⟩
  | .hbm, ⟨10, _⟩ => ⟨S1024x5632, .bf16⟩
  | .hbm, ⟨11, _⟩ => ⟨S2816x1024, .bf16⟩
  | .hbm, ⟨12, _⟩ => ⟨S8192x1024, .f32⟩
  | .hbm, ⟨13, _⟩ => ⟨S8192x1024, .f32⟩
  | .hbm, ⟨14, _⟩ => ⟨S8192x1024, .bf16⟩
  | .hbm, ⟨15, _⟩ => ⟨S8192x2816, .bf16⟩
  | .hbm, ⟨16, _⟩ => ⟨S8192x1024, .bf16⟩
  | .hbm, ⟨17, _⟩ => ⟨S8192x5632, .bf16⟩
  | .hbm, ⟨18, _⟩ => ⟨S8192x1024, .bf16⟩
  | .hbm, ⟨19, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1024x5632, .bf16⟩
  | .local _ .vmem, ⟨14, _⟩ => ⟨S2816x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S256x2816, .bf16⟩
  | .local _ .vmem, ⟨22, _⟩ => ⟨S256x2816, .bf16⟩
  | .local _ .vmem, ⟨23, _⟩ => ⟨S256x1024, .bf16⟩
  | .local _ .vmem, ⟨24, _⟩ => ⟨S256x1024, .bf16⟩
  | .local _ .vmem, ⟨25, _⟩ => ⟨S256x5632, .bf16⟩
  | .local _ .vmem, ⟨26, _⟩ => ⟨S256x5632, .bf16⟩
  | .local _ .vmem, ⟨27, _⟩ => ⟨S256x1024, .bf16⟩
  | .local _ .vmem, ⟨28, _⟩ => ⟨S256x1024, .bf16⟩
  | .local _ .vmem, ⟨29, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev main_v3_5 : Ref sig .tc := ⟨.hbm, 17, rfl⟩
abbrev main_v3_6 : Ref sig .tc := ⟨.hbm, 18, rfl⟩
abbrev main_v3_7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_6 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_7 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x5632 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceIdeal.lean ====
abbrev S8192x1024 : Shape := ⟨2, ![8192, 1024]⟩
abbrev S1x6144 : Shape := ⟨2, ![1, 6144]⟩
abbrev S1x1024 : Shape := ⟨2, ![1, 1024]⟩
abbrev S1024x1024 : Shape := ⟨2, ![1024, 1024]⟩
abbrev S1024x5632 : Shape := ⟨2, ![1024, 5632]⟩
abbrev S2816x1024 : Shape := ⟨2, ![2816, 1024]⟩
abbrev S_ : Shape := ⟨0, ![]⟩
abbrev S8192x5632 : Shape := ⟨2, ![8192, 5632]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩
abbrev S8x1024 : Shape := ⟨2, ![8, 1024]⟩

abbrev nBuf : Space → Nat
  | .hbm => 213
  | .vmem => 0
  | .smem => 0
  | _ => 0

abbrev hbmTy0_0 (i : Nat) : BufTy := match i % 128 with
  | 0 => ⟨S8192x1024, .f32⟩
  | 1 => ⟨S8192x1024, .bf16⟩
  | 2 => ⟨S8192x1024, .f32⟩
  | 3 => ⟨S1x6144, .f32⟩
  | 4 => ⟨S1x1024, .f32⟩
  | 5 => ⟨S1x1024, .f32⟩
  | 6 => ⟨S1024x1024, .f32⟩
  | 7 => ⟨S1024x5632, .f32⟩
  | 8 => ⟨S2816x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S8192x1024, .f32⟩
  | 16 => ⟨S_, .f32⟩
  | 17 => ⟨S8192x1024, .f32⟩
  | 18 => ⟨S_, .f32⟩
  | 19 => ⟨S8192x5632, .f32⟩
  | 20 => ⟨S_, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S_, .f32⟩
  | 29 => ⟨S8192, .f32⟩
  | 30 => ⟨S8192x1, .f32⟩
  | 31 => ⟨S_, .f32⟩
  | 32 => ⟨S8192x1, .f32⟩
  | 33 => ⟨S8192x1, .f32⟩
  | 34 => ⟨S_, .f32⟩
  | 35 => ⟨S8192x1, .f32⟩
  | 36 => ⟨S8192x1, .f32⟩
  | 37 => ⟨S8192x1, .f32⟩
  | 38 => ⟨S8192x1, .f32⟩
  | 39 => ⟨S_, .f32⟩
  | 40 => ⟨S8192x1, .f32⟩
  | 41 => ⟨S8192x1, .f32⟩
  | 42 => ⟨S8192x1024, .f32⟩
  | 43 => ⟨S8192x1024, .f32⟩
  | 44 => ⟨S8192x1024, .f32⟩
  | 45 => ⟨S8192x1024, .f32⟩
  | 46 => ⟨S_, .f32⟩
  | 47 => ⟨S1x1024, .f32⟩
  | 48 => ⟨S1x1024, .f32⟩
  | 49 => ⟨S8192x1024, .f32⟩
  | 50 => ⟨S8192x1024, .f32⟩
  | 51 => ⟨S8192x1024, .f32⟩
  | 52 => ⟨S8192x1024, .f32⟩
  | 53 => ⟨S8192x5632, .f32⟩
  | 54 => ⟨S8192x5632, .f32⟩
  | 55 => ⟨S8192x2816, .f32⟩
  | 56 => ⟨S8192x2816, .f32⟩
  | 57 => ⟨S8192x2816, .f32⟩
  | 58 => ⟨S8192x2816, .f32⟩
  | 59 => ⟨S_, .f32⟩
  | 60 => ⟨S8192x2816, .f32⟩
  | 61 => ⟨S8192x2816, .f32⟩
  | 62 => ⟨S_, .f32⟩
  | 63 => ⟨S8192x2816, .f32⟩
  | 64 => ⟨S8192x2816, .f32⟩
  | 65 => ⟨S_, .f32⟩
  | 66 => ⟨S8192x2816, .f32⟩
  | 67 => ⟨S8192x2816, .f32⟩
  | 68 => ⟨S8192x2816, .f32⟩
  | 69 => ⟨S8192x2816, .f32⟩
  | 70 => ⟨S8192x2816, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S_, .f32⟩
  | 78 => ⟨S8192, .f32⟩
  | 79 => ⟨S8192x1, .f32⟩
  | 80 => ⟨S_, .f32⟩
  | 81 => ⟨S8192x1, .f32⟩
  | 82 => ⟨S8192x1, .f32⟩
  | 83 => ⟨S_, .f32⟩
  | 84 => ⟨S8192x1, .f32⟩
  | 85 => ⟨S8192x1, .f32⟩
  | 86 => ⟨S8192x1, .f32⟩
  | 87 => ⟨S8192x1, .f32⟩
  | 88 => ⟨S_, .f32⟩
  | 89 => ⟨S8192x1, .f32⟩
  | 90 => ⟨S8192x1, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S_, .f32⟩
  | 98 => ⟨S8192x1024, .f32⟩
  | 99 => ⟨S8192x1024, .f32⟩
  | 100 => ⟨S_, .f32⟩
  | 101 => ⟨S8192, .f32⟩
  | 102 => ⟨S_, .f32⟩
  | 103 => ⟨S8192, .f32⟩
  | 104 => ⟨S8192, .f32⟩
  | 105 => ⟨S_, .f32⟩
  | 106 => ⟨S_, .f32⟩
  | 107 => ⟨S_, .f32⟩
  | 108 => ⟨S_, .f32⟩
  | 109 => ⟨S_, .f32⟩
  | 110 => ⟨S1024, .f32⟩
  | 111 => ⟨S1x1024, .f32⟩
  | 112 => ⟨S_, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S_, .f32⟩
  | 119 => ⟨S_, .f32⟩
  | 120 => ⟨S_, .f32⟩
  | 121 => ⟨S8192, .f32⟩
  | 122 => ⟨S_, .f32⟩
  | 123 => ⟨S8192, .f32⟩
  | 124 => ⟨S8192, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S_, .f32⟩
  | 1 => ⟨S1024, .f32⟩
  | 2 => ⟨S1x1024, .f32⟩
  | 3 => ⟨S8192x1024, .f32⟩
  | 4 => ⟨S8192x1024, .f32⟩
  | 5 => ⟨S8192x1024, .f32⟩
  | 6 => ⟨S_, .f32⟩
  | 7 => ⟨S8192, .f32⟩
  | 8 => ⟨S8192x1, .f32⟩
  | 9 => ⟨S8192x1024, .f32⟩
  | 10 => ⟨S8192x1024, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S8192x1024, .f32⟩
  | 25 => ⟨S_, .f32⟩
  | 26 => ⟨S1024, .f32⟩
  | 27 => ⟨S1x1024, .f32⟩
  | 28 => ⟨S8192x2816, .f32⟩
  | 29 => ⟨S8192x2816, .f32⟩
  | 30 => ⟨S8192x2816, .f32⟩
  | 31 => ⟨S8192x2816, .f32⟩
  | 32 => ⟨S8192x2816, .f32⟩
  | 33 => ⟨S8192x2816, .f32⟩
  | 34 => ⟨S8192x2816, .f32⟩
  | 35 => ⟨S8192x5632, .f32⟩
  | 36 => ⟨S8192x1024, .f32⟩
  | 37 => ⟨S_, .f32⟩
  | 38 => ⟨S1024, .f32⟩
  | 39 => ⟨S1x1024, .f32⟩
  | 40 => ⟨S8192x1024, .f32⟩
  | 41 => ⟨S_, .f32⟩
  | 42 => ⟨S1024, .f32⟩
  | 43 => ⟨S1x1024, .f32⟩
  | 44 => ⟨S8192x1024, .f32⟩
  | 45 => ⟨S8192x1024, .f32⟩
  | 46 => ⟨S8192x1024, .f32⟩
  | 47 => ⟨S_, .f32⟩
  | 48 => ⟨S1024, .f32⟩
  | 49 => ⟨S1x1024, .f32⟩
  | 50 => ⟨S8192x1024, .f32⟩
  | 51 => ⟨S8192x1024, .f32⟩
  | 52 => ⟨S8192x1024, .f32⟩
  | 53 => ⟨S_, .f32⟩
  | 54 => ⟨S8192, .f32⟩
  | 55 => ⟨S8192x1, .f32⟩
  | 56 => ⟨S8192x1024, .f32⟩
  | 57 => ⟨S8192x1024, .f32⟩
  | 58 => ⟨S8192x1024, .f32⟩
  | 59 => ⟨S8192x1, .f32⟩
  | 60 => ⟨S_, .f32⟩
  | 61 => ⟨S8192x1, .f32⟩
  | 62 => ⟨S8192x1, .f32⟩
  | 63 => ⟨S_, .f32⟩
  | 64 => ⟨S8192, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S_, .f32⟩
  | 74 => ⟨S1024, .f32⟩
  | 75 => ⟨S1x1024, .f32⟩
  | 76 => ⟨S8192x1024, .f32⟩
  | 77 => ⟨S_, .f32⟩
  | 78 => ⟨S1x1024, .f32⟩
  | 79 => ⟨S8x1024, .f32⟩
  | 80 => ⟨S8192x1024, .bf16⟩
  | 81 => ⟨S8192x2816, .bf16⟩
  | 82 => ⟨S8192x1024, .bf16⟩
  | 83 => ⟨S8192x5632, .bf16⟩
  | 84 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_v40_2 : Ref sig .tc := ⟨.hbm, 64, rfl⟩
abbrev main_call0_cst_1 : Ref sig .tc := ⟨.hbm, 65, rfl⟩
abbrev main_call0_v6 : Ref sig .tc := ⟨.hbm, 66, rfl⟩
abbrev main_call0_v7 : Ref sig .tc := ⟨.hbm, 67, rfl⟩
abbrev main_v40_1 : Ref sig .tc := ⟨.hbm, 68, rfl⟩
abbrev main_v40_0 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_cst_8 : Ref sig .tc := ⟨.hbm, 80, rfl⟩
abbrev main_v50 : Ref sig .tc := ⟨.hbm, 81, rfl⟩
abbrev main_v51 : Ref sig .tc := ⟨.hbm, 82, rfl⟩
abbrev main_cst_9 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_11 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_cst_13 : Ref sig .tc := ⟨.hbm, 102, rfl⟩
abbrev main_v67 : Ref sig .tc := ⟨.hbm, 103, rfl⟩
abbrev main_v68 : Ref sig .tc := ⟨.hbm, 104, rfl⟩
abbrev main_cst_14 : Ref sig .tc := ⟨.hbm, 105, rfl⟩
abbrev main_v69 : Ref sig .tc := ⟨.hbm, 106, rfl⟩
abbrev main_cst_15 : Ref sig .tc := ⟨.hbm, 107, rfl⟩
abbrev main_v70 : Ref sig .tc := ⟨.hbm, 108, rfl⟩
abbrev main_cst_16 : Ref sig .tc := ⟨.hbm, 109, rfl⟩
abbrev main_v71 : Ref sig .tc := ⟨.hbm, 110, rfl⟩
abbrev main_v72 : Ref sig .tc := ⟨.hbm, 111, rfl⟩
abbrev main_cst_17 : Ref sig .tc := ⟨.hbm, 112, rfl⟩
abbrev main_v73 : Ref sig .tc := ⟨.hbm, 113, rfl⟩
abbrev main_v74 : Ref sig .tc := ⟨.hbm, 114, rfl⟩
abbrev main_cst_18 : Ref sig .tc := ⟨.hbm, 115, rfl⟩
abbrev main_v75 : Ref sig .tc := ⟨.hbm, 116, rfl⟩
abbrev main_v76 : Ref sig .tc := ⟨.hbm, 117, rfl⟩
abbrev main_cst_19 : Ref sig .tc := ⟨.hbm, 118, rfl⟩
abbrev main_cst_20 : Ref sig .tc := ⟨.hbm, 119, rfl⟩
abbrev main_v77 : Ref sig .tc := ⟨.hbm, 120, rfl⟩
abbrev main_v78 : Ref sig .tc := ⟨.hbm, 121, rfl⟩
abbrev main_cst_21 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_cst_22 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_23 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_cst_24 : Ref sig .tc := ⟨.hbm, 140, rfl⟩
abbrev main_v94 : Ref sig .tc := ⟨.hbm, 141, rfl⟩
abbrev main_v95 : Ref sig .tc := ⟨.hbm, 142, rfl⟩
abbrev main_cst_25 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_cst_26 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_call1_v0 : Ref sig .tc := ⟨.hbm, 159, rfl⟩
abbrev main_call1_v1 : Ref sig .tc := ⟨.hbm, 160, rfl⟩
abbrev main_call1_v2 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_cst_27 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_cst_28 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_cst_29 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_cst_30 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_cst_31 : Ref sig .tc := ⟨.hbm, 188, rfl⟩
abbrev main_v132 : Ref sig .tc := ⟨.hbm, 189, rfl⟩
abbrev main_v133 : Ref sig .tc := ⟨.hbm, 190, rfl⟩
abbrev main_cst_32 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_cst_33 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_cst_34 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩

abbrev nD : Nat := 1
abbrev τ : Topo := Topo.v7x

variable {F : FTy → Type} [FloatOps F]
-- ==== GradOut.lean ====
abbrev S8192x1024 : Shape := ⟨2, ![8192, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradOutReferenceIdeal.lean ====
abbrev S8192x1024 : Shape := ⟨2, ![8192, 1024]⟩
abbrev S_ : Shape := ⟨0, ![]⟩
abbrev S1024x1024 : Shape := ⟨2, ![1024, 1024]⟩
abbrev S1024x1x1024 : Shape := ⟨3, ![1024, 1, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1x1024, .f32⟩
  | .hbm, ⟨10, _⟩ => ⟨S1x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradFfnIn.lean ====
abbrev S8192x1024 : Shape := ⟨2, ![8192, 1024]⟩
abbrev S8192x5632 : Shape := ⟨2, ![8192, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFfnInReferenceIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S8192x5632, .f32⟩
  | .hbm, ⟨4, _⟩ => ⟨S_, .f32⟩
  | .hbm, ⟨5, _⟩ => ⟨S1024x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradFfnOut.lean ====
abbrev S8192x2816 : Shape := ⟨2, ![8192, 2816]⟩
abbrev S8192x1024 : Shape := ⟨2, ![8192, 1024]⟩
abbrev S1x2816x1024 : Shape := ⟨3, ![1, 2816, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S1x2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .f32⟩
  | .local _ .vmem, ⟨5, _⟩ => ⟨S1x1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFfnOutReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S2816x1x1024 : Shape := ⟨3, ![2816, 1, 1024]⟩
abbrev S1x2816x1024 : Shape := ⟨3, ![1, 2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1x1024, .f32⟩
  | .hbm, ⟨10, _⟩ => ⟨S1x2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradIn.lean ====
abbrev S8192x1024 : Shape := ⟨2, ![8192, 1024]⟩
abbrev S8192x3072 : Shape := ⟨2, ![8192, 3072]⟩
abbrev S3x1024x1024 : Shape := ⟨3, ![3, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S3x1024x1024, .f32⟩
  | .hbm, ⟨3, _⟩ => ⟨S3x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .bf16⟩
  | .local _ .vmem, ⟨7, _⟩ => ⟨S1x1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GradInReferenceIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩
abbrev S1024x3x1024 : Shape := ⟨3, ![1024, 3, 1024]⟩
abbrev S3x1024x1024 : Shape := ⟨3, ![3, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S8192x3072, .f32⟩
  | .hbm, ⟨4, _⟩ => ⟨S_, .f32⟩
  | .hbm, ⟨5, _⟩ => ⟨S1024x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x3x1024, .f32⟩
  | .hbm, ⟨10, _⟩ => ⟨S3x1024x1024, .f32⟩
  | .hbm, ⟨11, _⟩ => ⟨S3x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ProjIn.lean ====
abbrev S8192x3072 : Shape := ⟨2, ![8192, 3072]⟩
abbrev S8192x1024 : Shape := ⟨2, ![8192, 1024]⟩
abbrev S1x1024 : Shape := ⟨2, ![1, 1024]⟩
abbrev S1x6144 : Shape := ⟨2, ![1, 6144]⟩
abbrev S1024x3072 : Shape := ⟨2, ![1024, 3072]⟩
abbrev S8x1024 : Shape := ⟨2, ![8, 1024]⟩
abbrev S1024x1024 : Shape := ⟨2, ![1024, 1024]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x6144, .f32⟩
  | .hbm, ⟨5, _⟩ => ⟨S1024x3072, .f32⟩
  | .hbm, ⟨6, _⟩ => ⟨S1024x3072, .bf16⟩
  | .hbm, ⟨7, _⟩ => ⟨S8192x1024, .f32⟩
  | .hbm, ⟨8, _⟩ => ⟨S8x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x3072, .bf16⟩
  | .local _ .vmem, ⟨9, _⟩ => ⟨S1024x1024, .f32⟩
  | .local _ .vmem, ⟨10, _⟩ => ⟨S1024x1024, .f32⟩
  | .local _ .vmem, ⟨11, _⟩ => ⟨S8x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ProjInReferenceIdeal.lean ====
abbrev S8192x3072 : Shape := ⟨2, ![8192, 3072]⟩
abbrev S8192x1024 : Shape := ⟨2, ![8192, 1024]⟩
abbrev S1x1024 : Shape := ⟨2, ![1, 1024]⟩
abbrev S1x6144 : Shape := ⟨2, ![1, 6144]⟩
abbrev S1024x3072 : Shape := ⟨2, ![1024, 3072]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 80
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x6144, .f32⟩
  | .hbm, ⟨5, _⟩ => ⟨S1024x3072, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S8192x3072, .f32⟩
  | .hbm, ⟨13, _⟩ => ⟨S8192x2048, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x3072, .f32⟩
  | .hbm, ⟨42, _⟩ => ⟨S8192x3072, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S5x1024, .f32⟩
  | .hbm, ⟨79, _⟩ => ⟨S8x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== Ada.lean ====
abbrev S8x1024 : Shape := ⟨2, ![8, 1024]⟩
abbrev S1024x1536 : Shape := ⟨2, ![1024, 1536]⟩
abbrev S8x1536 : Shape := ⟨2, ![8, 1536]⟩
abbrev S1024x512 : Shape := ⟨2, ![1024, 512]⟩
abbrev S8x512 : Shape := ⟨2, ![8, 512]⟩

abbrev nBuf : Space → Nat
  | .hbm => 4
  | .vmem => 6
  | .smem => 0
  | _ => 0

abbrev bufTy : (tb : Table) → Fin (tcTables nBuf tb) → BufTy
  | .hbm, ⟨0, _⟩ => ⟨S8x1024, .f32⟩
  | .hbm, ⟨1, _⟩ => ⟨S1024x1536, .f32⟩
  | .hbm, ⟨2, _⟩ => ⟨S8x1024, .f32⟩
  | .hbm, ⟨3, _⟩ => ⟨S8x1536, .f32⟩
  | .local _ .vmem, ⟨0, _⟩ => ⟨S8x1024, .f32⟩
  | .local _ .vmem, ⟨1, _⟩ => ⟨S1024x512, .f32⟩
  | .local _ .vmem, ⟨2, _⟩ => ⟨S1024x512, .f32⟩
  | .local _ .vmem, ⟨3, _⟩ => ⟨S8x1024, .f32⟩
  | .local _ .vmem, ⟨4, _⟩ => ⟨S8x512, .f32⟩
  | .local _ .vmem, ⟨5, _⟩ => ⟨S8x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaReferenceIdeal.lean ====
abbrev S8x1024 : Shape := ⟨2, ![8, 1024]⟩
abbrev S1024x1536 : Shape := ⟨2, ![1024, 1536]⟩
abbrev S_ : Shape := ⟨0, ![]⟩
abbrev S8x1536 : Shape := ⟨2, ![8, 1536]⟩

abbrev nBuf : Space → Nat
  | .hbm => 12
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x1536, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩

abbrev nD : Nat := 1
abbrev τ : Topo := Topo.v7x

variable {F : FTy → Type} [FloatOps F]
-- ==== Proof.Step.lean ====
/-
  The step from the mixers' outputs to the loss and back, one token at a time, as arithmetic over the extended reals.

  A token has three rows of 1024 numbers (the residual stream `x`, the mixers' output `y`, the target `t`); all tokens
  share the parameters. Every quantity the step computes for a token is a function of those. The definitions follow the
  forward pass (`mix` … `err`) and the backward pass (`dy` … `dY`) in order; what is summed over the tokens at the end
  are the rows of `small`.
-/
module

public import Idealize.ShloMosaic.PureOps.Ideal
public import Idealize.ShloMosaic.PureOps.Ideal.Laws

@[expose] public section

noncomputable section

namespace Step

open Idealize.ShloMosaic

/-- The number of features, as the float word both programs divide by. -/
def width : EReal := Ideal.ofBits .f32 0x44800000#32
/-- The constant added to the mean square. -/
def eps : EReal := Ideal.ofBits .f32 0x358637BD#32
/-- The float word of `1 / 1024`. -/
def invWidth : EReal := Ideal.ofBits .f32 0x3A800000#32
/-- The float word of `0.5 / 1024`. -/
def halfInvWidth : EReal := Ideal.ofBits .f32 0x3A000000#32

/-- What all tokens share: the three modulation vectors and the two gates of the branches, the two norms' weights, and
    the three weight matrices (`wfi` has the gate's columns first, then those of the linear half). -/
structure Params where
  g1 : Fin 1024 → EReal
  nw2 : Fin 1024 → EReal
  sc2 : Fin 1024 → EReal
  sh2 : Fin 1024 → EReal
  g2 : Fin 1024 → EReal
  fw : Fin 1024 → EReal
  wo : Fin 1024 → Fin 1024 → EReal
  wfi : Fin 1024 → Fin 5632 → EReal
  wfo : Fin 2816 → Fin 1024 → EReal

/-- One token: its residual stream, the mixers' output for it, its target. -/
structure Token where
  x : Fin 1024 → EReal
  y : Fin 1024 → EReal
  t : Fin 1024 → EReal

/-- Column `c` of the gate's half of the feed-forward input weight. -/
def lo (c : Fin 2816) : Fin 5632 := ⟨c.val, by omega⟩
/-- Column `c` of the linear half. -/
def hi (c : Fin 2816) : Fin 5632 := ⟨2816 + c.val, by omega⟩

/-- The mean square of a row, plus `eps`. -/
def meanSq (x : Fin 1024 → EReal) : EReal := Ideal.div (∑ j, x j * x j) width + eps
/-- The reciprocal root mean square of a row. -/
def rms (x : Fin 1024 → EReal) : EReal := Ideal.rsqrt (meanSq x)
/-- The gradient through the normalisation of a row, `xh` the normalised row, `r` its reciprocal root mean square, `g`
    the gradient with respect to `xh`. -/
def rmsBwd (xh : Fin 1024 → EReal) (r : EReal) (g : Fin 1024 → EReal) (j : Fin 1024) : EReal :=
  r * (g j - xh j * Ideal.div (∑ k, xh k * g k) width)

namespace Params

variable (p : Params) (a : Token)

def mix (j : Fin 1024) : EReal := ∑ k, a.y k * p.wo k j
def x1 (j : Fin 1024) : EReal := a.x j + p.g1 j * p.mix a j
def r2 : EReal := rms (p.x1 a)
def xh2 (j : Fin 1024) : EReal := p.x1 a j * p.r2 a
def n2 (j : Fin 1024) : EReal := p.xh2 a j * p.nw2 j
def osc2 (j : Fin 1024) : EReal := 1 + p.sc2 j
def h2 (j : Fin 1024) : EReal := p.n2 a j * p.osc2 j + p.sh2 j
def gu (c : Fin 5632) : EReal := ∑ k, p.h2 a k * p.wfi k c
def gate (c : Fin 2816) : EReal := p.gu a (lo c)
def up (c : Fin 2816) : EReal := p.gu a (hi c)
def sg (c : Fin 2816) : EReal := Ideal.logistic (p.gate a c)
def act (c : Fin 2816) : EReal := p.gate a c * p.sg a c * p.up a c
def ff (j : Fin 1024) : EReal := ∑ c, p.act a c * p.wfo c j
def x2 (j : Fin 1024) : EReal := p.x1 a j + p.g2 j * p.ff a j
def r3 : EReal := rms (p.x2 a)
def xh3 (j : Fin 1024) : EReal := p.x2 a j * p.r3 a
def err (j : Fin 1024) : EReal := p.xh3 a j * p.fw j - a.t j
def dy (j : Fin 1024) : EReal := p.err a j * invWidth
def dx2 (j : Fin 1024) : EReal := rmsBwd (p.xh3 a) (p.r3 a) (fun k => p.dy a k * p.fw k) j
def dff (j : Fin 1024) : EReal := p.dx2 a j * p.g2 j
def da (c : Fin 2816) : EReal := ∑ j, p.dff a j * p.wfo c j
def dgate (c : Fin 2816) : EReal := p.da a c * p.up a c * (p.sg a c * (1 + p.gate a c * (1 - p.sg a c)))
def dup (c : Fin 2816) : EReal := p.da a c * p.gate a c * p.sg a c
/-- The gradient with respect to both halves, side by side as the columns of `wfi` are. -/
def dgu (c : Fin 5632) : EReal :=
  if h : c.val < 2816 then p.dgate a ⟨c.val, h⟩ else p.dup a ⟨c.val - 2816, by omega⟩
def dh2 (j : Fin 1024) : EReal := ∑ c, p.dgu a c * p.wfi j c
def dn2 (j : Fin 1024) : EReal := p.dh2 a j * p.osc2 j
def dx1 (j : Fin 1024) : EReal :=
  p.dx2 a j + rmsBwd (p.xh2 a) (p.r2 a) (fun k => p.dn2 a k * p.nw2 k) j
def dmix (j : Fin 1024) : EReal := p.dx1 a j * p.g1 j
def dY (k : Fin 1024) : EReal := ∑ j, p.dmix a j * p.wo k j

/-- A token's share of the small results: the gradients of the gate `g2`, of the scale and the shift of the second
    modulation, of the two norms' weights and of the gate `g1`, and the loss per feature; the eighth row is zero. -/
def small (i : Fin 8) (j : Fin 1024) : EReal :=
  match i with
  | 0 => p.dx2 a j * p.ff a j
  | 1 => p.dh2 a j * p.n2 a j
  | 2 => p.dh2 a j
  | 3 => p.dn2 a j * p.xh2 a j
  | 4 => p.dy a j * p.xh3 a j
  | 5 => p.dx1 a j * p.mix a j
  | 6 => halfInvWidth * p.err a j * p.err a j
  | 7 => 0

end Params

/-! ## Sums over the two halves -/

theorem sum_split {n : ℕ} (k l : ℕ) (hn : n = k + l) (f : Fin n → EReal) :
    ∑ c, f c = ∑ c : Fin k, f ⟨c.val, by omega⟩ + ∑ c : Fin l, f ⟨k + c.val, by omega⟩ := by
  subst hn
  exact Fin.sum_univ_add f

/-- A sum over the columns of `wfi` is the sum over the gate's half and the one over the linear half. -/
theorem sum_halves (f : Fin 5632 → EReal) : ∑ c, f c = ∑ c, f (lo c) + ∑ c, f (hi c) :=
  (sum_split 2816 2816 rfl f).trans rfl

/-- The first block of 1408 of 2816 columns. -/
def left (c : Fin 1408) : Fin 2816 := ⟨c.val, by omega⟩
/-- The second block. -/
def right (c : Fin 1408) : Fin 2816 := ⟨1408 + c.val, by omega⟩

theorem sum_blocks (f : Fin 2816 → EReal) : ∑ c, f c = ∑ c, f (left c) + ∑ c, f (right c) :=
  (sum_split 1408 1408 rfl f).trans rfl

namespace Params
variable (p : Params) (a : Token)

theorem dgu_lo (c : Fin 2816) : p.dgu a (lo c) = p.dgate a c := by
  unfold dgu lo; rw [dif_pos (show c.val < 2816 from c.isLt)]

theorem dgu_hi (c : Fin 2816) : p.dgu a (hi c) = p.dup a c := by
  have hc : (⟨(hi c).val - 2816, by have := (hi c).isLt; omega⟩ : Fin 2816) = c :=
    Fin.ext (by show 2816 + c.val - 2816 = c.val; omega)
  unfold dgu
  rw [dif_neg (show ¬ ((hi c).val < 2816) by show ¬ (2816 + c.val < 2816); omega), hc]

/-- The feed-forward output block by block. -/
theorem ff_blocks (j : Fin 1024) :
    p.ff a j = ∑ c, p.act a (left c) * p.wfo (left c) j + ∑ c, p.act a (right c) * p.wfo (right c) j :=
  sum_blocks _

/-- The gradient with respect to `h2` in the order in which it is accumulated: each block's gate, then its linear
    half. -/
theorem dh2_blocks (j : Fin 1024) :
    p.dh2 a j = ∑ c, p.dgate a (left c) * p.wfi j (lo (left c)) + ∑ c, p.dup a (left c) * p.wfi j (hi (left c))
      + ∑ c, p.dgate a (right c) * p.wfi j (lo (right c)) + ∑ c, p.dup a (right c) * p.wfi j (hi (right c)) := by
  unfold dh2
  rw [sum_halves]
  simp only [dgu_lo, dgu_hi]
  rw [sum_blocks, sum_blocks (fun c => p.dup a c * p.wfi j (hi c))]
  rw [add_add_add_comm, ← add_assoc]

end Params

end Step
-- ==== Proof.Inputs.lean ====
/-
  The tokens and the parameters as parts of the nine argument arrays: token `T` is row `T` of the three activation arrays,
  and the modulation's three vectors are slices of one array.
-/
module

public import proofs.«01_k».proof.Proof.Step
public import Idealize.ShloMosaic.Lib.Pointwise

@[expose] public section

noncomputable section

namespace Step

open Idealize.ShloMosaic

/-- A matrix over the extended reals. -/
abbrev Mat (n m : Nat) : Type := (⟨2, ![n, m]⟩ : Shape).Idx → EReal

/-- Entry `j` of the `k`-th of the six vectors of the modulation. -/
def chunk (k : Fin 6) (j : Fin 1024) : Fin 6144 := ⟨1024 * k.val + j.val, by omega⟩

/-- Token `T`: a row of the residual stream, of the mixers' output and of the target. -/
def tok (x y t : Mat 8192 1024) (T : Fin 8192) : Token where
  x j := x (ix2 T j)
  y j := y (ix2 T j)
  t j := t (ix2 T j)

/-- The parameters: the modulation's vectors are the shift, the scale and the gate of the mixers, then of the
    feed-forward layer. -/
def prm (ada : Mat 1 6144) (nw2 fw : Mat 1 1024) (wo : Mat 1024 1024) (wfi : Mat 1024 5632) (wfo : Mat 2816 1024) : Params where
  g1 j := ada (ix2 0 (chunk 2 j))
  nw2 j := nw2 (ix2 0 j)
  sc2 j := ada (ix2 0 (chunk 4 j))
  sh2 j := ada (ix2 0 (chunk 3 j))
  g2 j := ada (ix2 0 (chunk 5 j))
  fw j := fw (ix2 0 j)
  wo k j := wo (ix2 k j)
  wfi k c := wfi (ix2 k c)
  wfo c j := wfo (ix2 c j)

/-- Row `r` of block `b` of 256 tokens. -/
def row (b : Fin 32) (r : Fin 256) : Fin 8192 := ⟨256 * b.val + r.val, by omega⟩

theorem row_div (T : Fin 8192) : row ⟨T.val / 256, by omega⟩ ⟨T.val % 256, Nat.mod_lt _ (by norm_num)⟩ = T :=
  Fin.ext (Nat.div_add_mod T.val 256)

end Step
-- ==== Proof.Algebra.lean ====
/-
  The identities over the extended reals by which the step's textbook gradients are the ones of `Step`: the gradient
  through the root mean square, the scaling of the squared error, and the gradient through the gated unit.
-/
module

public import proofs.«01_k».proof.Proof.Step

@[expose] public section

noncomputable section

namespace Step

open Idealize.ShloMosaic

/-! ## The constants -/

theorem width_eq : width = ((1024 : ℝ) : EReal) := by
  unfold width; simp [Ideal.ofBits, Ideal.ieee]; norm_num; norm_cast; norm_num
theorem invWidth_eq : invWidth = ((1 / 1024 : ℝ) : EReal) := by
  unfold invWidth; simp [Ideal.ofBits, Ideal.ieee]; norm_num; norm_cast; norm_num
theorem halfInvWidth_eq : halfInvWidth = ((1 / 2048 : ℝ) : EReal) := by
  unfold halfInvWidth; simp [Ideal.ofBits, Ideal.ieee]; norm_num; norm_cast; norm_num
theorem half_eq : Ideal.ofBits .f32 0x3F000000#32 = ((1 / 2 : ℝ) : EReal) := by
  simp [Ideal.ofBits, Ideal.ieee]; norm_num; norm_cast; norm_num
theorem negHalf_eq : Ideal.ofBits .f32 0xBF000000#32 = ((-(1 / 2) : ℝ) : EReal) := by
  simp [Ideal.ofBits, Ideal.ieee]; norm_num; norm_cast; norm_num
theorem one_eq : Ideal.ofBits .f32 0x3F800000#32 = 1 := by
  simp [Ideal.ofBits, Ideal.ieee]; norm_num; norm_cast; norm_num
theorem two_eq : Ideal.ofBits .f32 0x40000000#32 = ((2 : ℝ) : EReal) := by
  simp [Ideal.ofBits, Ideal.ieee]; norm_num; norm_cast; norm_num
theorem eps_pos : ∃ e : ℝ, 0 < e ∧ eps = (e : EReal) := by
  unfold eps
  refine ⟨_, ?_, by simp only [Ideal.ofBits, Ideal.ieee]; simp; rfl⟩
  norm_num

theorem div_width (x : EReal) : Ideal.div x width = x * ((1 / 1024 : ℝ) : EReal) := by
  rw [width_eq, Ideal.div_coe (by norm_num)]

/-! ## Real values -/

/-- A value that is not infinite. -/
def Real' (x : EReal) : Prop := ∃ r : ℝ, x = (r : EReal)

theorem Real'.of_ne {x : EReal} (h₁ : x ≠ ⊥) (h₂ : x ≠ ⊤) : Real' x := by
  induction x with
  | bot => exact absurd rfl h₁
  | top => exact absurd rfl h₂
  | coe r => exact ⟨r, rfl⟩

theorem Real'.coe (r : ℝ) : Real' (r : EReal) := ⟨r, rfl⟩
theorem Real'.zero : Real' 0 := ⟨0, rfl⟩
theorem Real'.add {x y : EReal} : Real' x → Real' y → Real' (x + y) := by
  rintro ⟨a, rfl⟩ ⟨b, rfl⟩; exact ⟨a + b, by norm_cast⟩
theorem Real'.mul {x y : EReal} : Real' x → Real' y → Real' (x * y) := by
  rintro ⟨a, rfl⟩ ⟨b, rfl⟩; exact ⟨a * b, by norm_cast⟩
theorem Real'.sub {x y : EReal} : Real' x → Real' y → Real' (x - y) := by
  rintro ⟨a, rfl⟩ ⟨b, rfl⟩; exact ⟨a - b, by norm_cast⟩
theorem Real'.sum {ι : Type} (s : Finset ι) {f : ι → EReal} (h : ∀ i ∈ s, Real' (f i)) : Real' (∑ i ∈ s, f i) := by
  classical
  induction s using Finset.induction_on with
  | empty => exact Real'.zero
  | insert i s hi ih =>
    rw [Finset.sum_insert hi]
    exact (h i (Finset.mem_insert_self _ _)).add (ih fun k hk => h k (Finset.mem_insert_of_mem hk))

/-- A summand of a real sum is real. -/
theorem Real'.left {x y : EReal} (h : Real' (x + y)) : Real' x := by
  obtain ⟨r, h⟩ := h
  induction x with
  | bot => simp at h
  | coe a => exact ⟨a, rfl⟩
  | top =>
    induction y with
    | bot => simp at h
    | coe a => simp at h
    | top => simp at h

theorem Real'.right {x y : EReal} (h : Real' (x + y)) : Real' y := Real'.left (add_comm x y ▸ h)

theorem Real'.of_sum {ι : Type} (s : Finset ι) {f : ι → EReal} (h : Real' (∑ i ∈ s, f i)) {i : ι} (hi : i ∈ s) :
    Real' (f i) := by
  classical
  rw [← Finset.add_sum_erase s f hi] at h
  exact h.left

/-- A factor of a real product is real where the other factor is not zero. -/
theorem Real'.of_mul {x y : EReal} (h : Real' (x * y)) (hy : y ≠ 0) : Real' x := by
  obtain ⟨r, h⟩ := h
  rcases lt_or_gt_of_ne hy with hy | hy <;> induction x with
  | bot => simp [EReal.bot_mul_of_pos, EReal.bot_mul_of_neg, hy] at h
  | coe a => exact ⟨a, rfl⟩
  | top => simp [EReal.top_mul_of_pos, EReal.top_mul_of_neg, hy] at h

theorem Real'.ne_bot {x : EReal} : Real' x → x ≠ ⊥ := by rintro ⟨r, rfl⟩; exact EReal.coe_ne_bot r
theorem Real'.ne_top {x : EReal} : Real' x → x ≠ ⊤ := by rintro ⟨r, rfl⟩; exact EReal.coe_ne_top r

/-! ## The root mean square -/

theorem mul_self_nonneg' (x : EReal) : 0 ≤ x * x := by
  rcases le_total 0 x with h | h
  · exact EReal.mul_nonneg h h
  · rw [← neg_mul_neg]; exact EReal.mul_nonneg (by simpa using h) (by simpa using h)

theorem meanSq_cases (x : Fin 1024 → EReal) :
    meanSq x = ⊤ ∨ ∃ q : ℝ, 0 < q ∧ meanSq x = (q : EReal) ∧ ∀ j, Real' (x j) := by
  obtain ⟨e, he, hE⟩ := eps_pos
  have hs : 0 ≤ ∑ j, x j * x j := Finset.sum_nonneg fun j _ => mul_self_nonneg' (x j)
  unfold meanSq
  rw [div_width, hE]
  by_cases ht : ∑ j, x j * x j = ⊤
  · left
    rw [ht, EReal.top_mul_of_pos (by exact_mod_cast (by norm_num : (0:ℝ) < 1 / 1024))]
    exact EReal.top_add_coe e
  · right
    have hr : Real' (∑ j, x j * x j) := Real'.of_ne (fun h => by rw [h] at hs; simp at hs) ht
    refine (fun ⟨s, h⟩ => ⟨s * (1 / 1024) + e, ?_, ?_, fun j => ?_⟩) hr
    · have : (0:ℝ) ≤ s := by rw [h] at hs; exact_mod_cast hs
      positivity
    · rw [h]; norm_cast
    · have hj := Real'.of_sum Finset.univ hr (Finset.mem_univ j)
      by_cases h0 : x j = 0
      · rw [h0]; exact Real'.zero
      · exact hj.of_mul h0

theorem rms_of_top {x : Fin 1024 → EReal} (h : meanSq x = ⊤) : rms x = 0 := by unfold rms; rw [h]; rfl

theorem rms_of_pos {x : Fin 1024 → EReal} {q : ℝ} (hq : 0 < q) (h : meanSq x = (q : EReal)) :
    rms x = (((Real.sqrt q)⁻¹ : ℝ) : EReal) := by
  unfold rms; rw [h]
  show (if q < 0 then _ else _) = _
  rw [if_neg (not_lt.mpr hq.le), if_neg hq.ne']

/-- A nonnegative real factor distributes over a sum. -/
theorem coe_mul_sum {ι : Type} (s : Finset ι) (f : ι → EReal) {c : ℝ} (hc : 0 ≤ c) :
    (c : EReal) * ∑ i ∈ s, f i = ∑ i ∈ s, (c : EReal) * f i := by
  classical
  induction s using Finset.induction_on with
  | empty => simp
  | insert i s hi ih =>
    rw [Finset.sum_insert hi, Finset.sum_insert hi, ← ih]
    exact EReal.left_distrib_of_nonneg_of_ne_top (by exact_mod_cast hc) (EReal.coe_ne_top c) _ _

theorem coe_mul_sub {c : ℝ} (hc : 0 ≤ c) (x y : EReal) : (c : EReal) * (x - y) = c * x - c * y := by
  rw [sub_eq_add_neg, EReal.left_distrib_of_nonneg_of_ne_top (by exact_mod_cast hc) (EReal.coe_ne_top c), mul_neg,
    ← sub_eq_add_neg]

theorem add_self (y : EReal) : y + y = ((2 : ℝ) : EReal) * y := by
  induction y with
  | bot => rw [EReal.mul_bot_of_pos (by norm_num)]; rfl
  | top => rw [EReal.mul_top_of_pos (by norm_num)]; rfl
  | coe a => norm_cast; ring

/-- The gradient through the normalisation `x ↦ x · rms x`, as differentiation writes it: the gradient of the factor
    `x`, and that of the mean square, which reaches `x` twice. -/
theorem rmsBwd_textbook (x g : Fin 1024 → EReal) (j : Fin 1024) (d : EReal) :
    ((d + g j * rms x)
        + x j * Ideal.div ((∑ k, x k * g k) * (Ideal.ofBits .f32 0xBF000000#32 * Ideal.div (rms x) (meanSq x))) width)
      + Ideal.div ((∑ k, x k * g k) * (Ideal.ofBits .f32 0xBF000000#32 * Ideal.div (rms x) (meanSq x))) width * x j
    = d + rmsBwd (fun k => x k * rms x) (rms x) g j := by
  unfold rmsBwd
  rw [add_assoc, add_assoc]
  congr 1
  rw [mul_comm (Ideal.div _ _) (x j), add_self, div_width, div_width, negHalf_eq]
  rcases meanSq_cases x with h | ⟨q, hq, h, -⟩
  · rw [rms_of_top h, h]; simp [Ideal.div]
  · rw [rms_of_pos hq h, h, Ideal.div_coe hq.ne']
    have hs : 0 < Real.sqrt q := Real.sqrt_pos.mpr hq
    have hqq : q = Real.sqrt q * Real.sqrt q := (Real.mul_self_sqrt hq.le).symm
    generalize Real.sqrt q = s at hs hqq
    subst hqq
    have hsum : ∑ k, x k * ((s⁻¹ : ℝ) : EReal) * g k = ((s⁻¹ : ℝ) : EReal) * ∑ k, x k * g k := by
      rw [coe_mul_sum _ _ (inv_nonneg.mpr hs.le)]
      exact Finset.sum_congr rfl fun k _ => by rw [mul_comm (x k), mul_assoc]
    rw [hsum, coe_mul_sub (inv_nonneg.mpr hs.le), sub_eq_add_neg, mul_comm (g j)]
    congr 1
    beta_reduce
    generalize ∑ k, x k * g k = S
    generalize x j = X
    have e1 : ((2 : ℝ) : EReal) * (X * (S * (((-(1/2) : ℝ) : EReal) * (((s⁻¹ : ℝ) : EReal) * ((1 / (s * s) : ℝ) : EReal)))
          * ((1 / 1024 : ℝ) : EReal)))
        = ((2 * (-(1/2) * (s⁻¹ * (1 / (s * s)))) * (1 / 1024) : ℝ) : EReal) * (X * S) := by
      push_cast; ac_rfl
    have e2 : -(((s⁻¹ : ℝ) : EReal) * (X * ((s⁻¹ : ℝ) : EReal) * (((s⁻¹ : ℝ) : EReal) * S * ((1 / 1024 : ℝ) : EReal))))
        = ((-(s⁻¹ * s⁻¹ * s⁻¹ * (1 / 1024)) : ℝ) : EReal) * (X * S) := by
      rw [EReal.coe_neg, neg_mul]; push_cast; congr 1; ac_rfl
    rw [e1, e2]
    congr 2
    field_simp

/-! ## The squared error -/

theorem dy_textbook (e : EReal) :
    Ideal.div (Ideal.ofBits .f32 0x3F000000#32 * Ideal.ofBits .f32 0x3F800000#32) width
      * (Ideal.ofBits .f32 0x40000000#32 * e) = e * invWidth := by
  rw [div_width, half_eq, one_eq, two_eq, invWidth_eq, mul_one, ← mul_assoc, mul_comm e]
  congr 1
  norm_cast
  norm_num

theorem loss_textbook {ι : Type} (s : Finset ι) (e : ι → EReal) :
    Ideal.div (Ideal.ofBits .f32 0x3F000000#32 * ∑ i ∈ s, e i * e i) width = ∑ i ∈ s, halfInvWidth * e i * e i := by
  rw [div_width, half_eq, halfInvWidth_eq]
  have : ((1 / 2 : ℝ) : EReal) * ∑ i ∈ s, e i * e i = ∑ i ∈ s, ((1 / 2 : ℝ) : EReal) * (e i * e i) :=
    coe_mul_sum s _ (by norm_num)
  rw [mul_comm (((1 / 2 : ℝ) : EReal)), mul_assoc, mul_comm, show ((1 / 2 : ℝ) : EReal) * ((1 / 1024 : ℝ) : EReal) = ((1 / 2048 : ℝ) : EReal) by norm_cast; norm_num,
    coe_mul_sum s _ (by norm_num)]
  exact Finset.sum_congr rfl fun i _ => (mul_assoc _ _ _).symm

/-! ## The gated unit -/

theorem logistic_coe (g : ℝ) : ∃ s : ℝ, 0 < s ∧ s < 1 ∧ Ideal.logistic (g : EReal) = (s : EReal) := by
  have hE := Real.exp_pos (-g)
  refine ⟨1 / (1 + Real.exp (-g)), by positivity, by rw [div_lt_one (by positivity)]; linarith, ?_⟩
  unfold Ideal.logistic
  have h1 : (1 : EReal) + Ideal.exp (-(g : EReal)) = ((1 + Real.exp (-g) : ℝ) : EReal) := by
    rw [← EReal.coe_neg]; show 1 + ((Real.exp (-g) : ℝ) : EReal) = _; norm_cast
  rw [h1, Ideal.div_coe (by positivity), one_mul]

theorem logistic_bot : Ideal.logistic ⊥ = 0 := by
  unfold Ideal.logistic
  show Ideal.div 1 (1 + Ideal.exp ⊤) = 0
  show Ideal.div 1 (1 + ⊤) = 0
  rw [EReal.add_top_of_ne_bot (by decide)]; simp [Ideal.div]

theorem logistic_top : Ideal.logistic ⊤ = 1 := by
  unfold Ideal.logistic
  show Ideal.div 1 (1 + Ideal.exp ⊥) = 1
  show Ideal.div 1 (1 + 0) = 1
  rw [add_zero]
  have := Ideal.div_coe (one_ne_zero (α := ℝ)) 1
  simpa using this

/-- The gradient through `g ↦ g · logistic g` times `c`, by the product rule and in factored form: the two agree where
    `c` is real, where the gate is infinite, and where the gate is not negative. -/
theorem gate_textbook (c g : EReal) (h : Real' c ∨ g = ⊥ ∨ 0 ≤ g) :
    c * Ideal.logistic g + g * c * (Ideal.logistic g * (1 - Ideal.logistic g))
      = c * (Ideal.logistic g * (1 + g * (1 - Ideal.logistic g))) := by
  induction g with
  | bot => rw [logistic_bot]; simp
  | top =>
    rw [logistic_top]
    have h0 : (1 : EReal) - 1 = 0 := by
      have : ((1 : ℝ) : EReal) - ((1 : ℝ) : EReal) = ((1 - 1 : ℝ) : EReal) := (EReal.coe_sub 1 1).symm
      simpa using this
    rw [h0]; simp
  | coe g =>
    obtain ⟨s, h0, h1, hs⟩ := logistic_coe g
    rw [hs]
    have e1 : (1 : EReal) - (s : EReal) = ((1 - s : ℝ) : EReal) := by norm_cast
    have e2 : (s : EReal) * (1 + (g : EReal) * ((1 - s : ℝ) : EReal)) = ((s * (1 + g * (1 - s)) : ℝ) : EReal) := by
      norm_cast
    have e3 : (s : EReal) * ((1 - s : ℝ) : EReal) = ((s * (1 - s) : ℝ) : EReal) := by norm_cast
    rw [e1, e2, e3]
    have hp : 0 < s * (1 - s) := mul_pos h0 (by linarith)
    rcases h with ⟨r, rfl⟩ | h | h
    · norm_cast; ring
    · exact absurd h (EReal.coe_ne_bot g)
    · have hg : 0 ≤ g := by exact_mod_cast h
      have hk : 0 < s * (1 + g * (1 - s)) := mul_pos h0 (by nlinarith [mul_nonneg hg (by linarith : 0 ≤ 1 - s)])
      induction c with
      | coe r => norm_cast; ring
      | bot =>
        rw [EReal.bot_mul_of_pos (by exact_mod_cast h0), EReal.bot_mul_of_pos (by exact_mod_cast hk), EReal.bot_add]
      | top =>
        rw [EReal.top_mul_of_pos (by exact_mod_cast h0), EReal.top_mul_of_pos (by exact_mod_cast hk)]
        rcases hg.eq_or_lt with rfl | hg
        · simp
        · rw [EReal.mul_top_of_pos (by exact_mod_cast hg), EReal.top_mul_of_pos (by exact_mod_cast hp)]; rfl

namespace Params

variable (p : Params) (a : Token)

/-- Where the targets, the gate `g2` and the final norm's weight are real, the gradient with respect to a gated unit's
    output times the unit's linear half is real wherever its gate is negative: an infinite one would have to come from
    an infinite activation, which makes the token's whole row infinite, and the gradient of that is zero. -/
theorem real_of_gate_neg (ht : ∀ j, Real' (a.t j)) (hg : ∀ j, Real' (p.g2 j)) (hf : ∀ j, Real' (p.fw j))
    (c : Fin 2816) (h0 : p.gate a c < 0) (h1 : p.gate a c ≠ ⊥) : Real' (p.da a c * p.up a c) := by
  have zero_case (h : ∀ j, p.dff a j * p.wfo c j = 0) : Real' (p.da a c * p.up a c) := by
    have : p.da a c = 0 := Finset.sum_eq_zero fun j _ => h j
    rw [this, zero_mul]; exact Real'.zero
  rcases meanSq_cases (p.x2 a) with h | ⟨q, hq, h, hx⟩
  · refine zero_case fun j => ?_
    unfold dff dx2 rmsBwd r3
    rw [rms_of_top h]; simp
  have hr : Real' (p.r3 a) := by unfold r3; rw [rms_of_pos hq h]; exact Real'.coe _
  have hxh (j) : Real' (p.xh3 a j) := (hx j).mul hr
  have hdy (j) : Real' (p.dy a j) := by
    unfold dy err; rw [invWidth_eq]; exact (((hxh j).mul (hf j)).sub (ht j)).mul (Real'.coe _)
  have hdx (j) : Real' (p.dx2 a j) := by
    unfold dx2 rmsBwd
    rw [div_width]
    exact hr.mul (((hdy j).mul (hf j)).sub ((hxh j).mul
      ((Real'.sum _ fun k _ => (hxh k).mul ((hdy k).mul (hf k))).mul (Real'.coe _))))
  have hdff (j) : Real' (p.dff a j) := (hdx j).mul (hg j)
  have key (j) : p.dff a j = 0 ∨ Real' (p.act a c * p.wfo c j) := by
    by_cases hz : p.g2 j = 0
    · left; unfold dff; rw [hz, mul_zero]
    · right
      have h1 : Real' (p.g2 j * p.ff a j) := (show Real' (p.x1 a j + p.g2 j * p.ff a j) from hx j).right
      rw [mul_comm] at h1
      exact Real'.of_sum Finset.univ (h1.of_mul hz) (Finset.mem_univ c)
  obtain ⟨g, hgate⟩ : Real' (p.gate a c) := Real'.of_ne h1 (fun h => by rw [h] at h0; simp at h0)
  have hg0 : g < 0 := by rw [hgate] at h0; exact_mod_cast h0
  obtain ⟨s, hs0, -, hs⟩ := logistic_coe g
  have hgs : p.gate a c * p.sg a c = ((g * s : ℝ) : EReal) := by unfold sg; rw [hgate, hs]; norm_cast
  have hgs0 : ((g * s : ℝ) : EReal) ≠ 0 := by exact_mod_cast (mul_neg_of_neg_of_pos hg0 hs0).ne
  have hact : p.act a c = ((g * s : ℝ) : EReal) * p.up a c := by unfold act; rw [hgs]
  by_cases hu : Real' (p.up a c)
  · by_cases hz : p.up a c = 0
    · rw [hz, mul_zero]; exact Real'.zero
    · refine Real'.mul (Real'.sum _ fun j _ => ?_) hu
      rcases key j with h | h
      · rw [h, zero_mul]; exact Real'.zero
      · refine (hdff j).mul ?_
        rw [mul_comm] at h
        refine h.of_mul ?_
        rw [hact]
        exact mul_ne_zero hgs0 hz
  · refine zero_case fun j => ?_
    rcases key j with h | h
    · rw [h, zero_mul]
    · by_contra hne
      apply hu
      have hw : p.wfo c j ≠ 0 := fun h => hne (by rw [h, mul_zero])
      have := h.of_mul hw
      rw [hact, mul_comm] at this
      exact this.of_mul hgs0

/-- So there the textbook gradient with respect to the gate is `dgate`. -/
theorem dgate_textbook (ht : ∀ j, Real' (a.t j)) (hg : ∀ j, Real' (p.g2 j)) (hf : ∀ j, Real' (p.fw j)) (c : Fin 2816) :
    p.da a c * p.up a c * p.sg a c + p.gate a c * (p.da a c * p.up a c) * (p.sg a c * (1 - p.sg a c)) = p.dgate a c := by
  refine gate_textbook (p.da a c * p.up a c) (p.gate a c) ?_
  rcases le_or_gt 0 (p.gate a c) with h | h
  · exact .inr (.inr h)
  · by_cases hb : p.gate a c = ⊥
    · exact .inr (.inl hb)
    · exact .inl (p.real_of_gate_neg a ht hg hf c h hb)

end Params

end Step
-- ==== Proof.RefForward.lean ====
/-
  The reference, operation by operation, from the mixers' outputs to the loss and back through the final norm: what each
  stage holds at an index is the quantity of `Step` of the index's row.
-/
module

public import proofs.«01_k».proof.Proof.Inputs
public import proofs.«01_k».proof.Proof.Algebra
public import proofs.«01_k».proof.Proof.Gen.ReferenceIdeal.Read

@[expose] public section

noncomputable section

namespace Cert.ReferenceIdeal.Stages

open Idealize.ShloMosaic Idealize.ShloMosaic.TcCoe
open Cert.ReferenceIdeal Cert.ReferenceIdeal.Gen Cert.ReferenceIdeal.Read Step

/-- A sum that starts at the float zero. -/
theorem from_zero {z s t : EReal} (hz : z = 0) (h : s = t) : z + s = t := by rw [hz, zero_add, h]
/-- A term to which the float zero is added. -/
theorem and_zero {z s t : EReal} (hz : z = 0) (h : s = t) : s + z = t := by rw [hz, add_zero, h]
theorem zero_word : FloatOps.ofBits (F := Ideal) .f32 0x00000000#32 = 0 := Ideal.ofBits_zero_f32
/-- The position in a one-column array, and in a one-row array, counted along the other axis. -/
theorem flat_col (i : S8192x1.Idx) : idx_main_v90 i = idx_main_v17 i :=
  funext fun a => Fin.ext (by
    have h : (i 1 : Nat) < 1 := (i 1).isLt
    match a with
    | ⟨0, _⟩ => show (i 0 : Nat) * 1 + (i 1 : Nat) = (i 0 : Nat); omega)
theorem flat_row (i : S1x1024.Idx) : idx_main_v85 i = idx_main_v72 i :=
  funext fun a => Fin.ext (by
    have h : (i 0 : Nat) < 1 := (i 0).isLt
    match a with
    | ⟨0, _⟩ => show (i 0 : Nat) * 1024 + (i 1 : Nat) = (i 1 : Nat); omega)
/-- A one-row array read at its only row. -/
theorem one_row {n : Nat} (x : Mat 1 n) (i : (⟨2, ![1, n]⟩ : Shape).Idx) : x i = x (ix2 0 (i 1)) :=
  congrArg x ((eq_ix2 i).trans (congrArg (ix2 · (i 1)) (Fin.ext (by have h : (i 0 : Nat) < 1 := (i 0).isLt; show (i 0 : Nat) = 0; omega))))

variable (x0 : (⟨S8192x1024, .f32⟩ : BufTy).Contents (Elt Ideal)) (x1 : (⟨S8192x1024, .bf16⟩ : BufTy).Contents (Elt Ideal))
  (x2 : (⟨S8192x1024, .f32⟩ : BufTy).Contents (Elt Ideal)) (x3 : (⟨S1x6144, .f32⟩ : BufTy).Contents (Elt Ideal))
  (x4 x5 : (⟨S1x1024, .f32⟩ : BufTy).Contents (Elt Ideal)) (x6 : (⟨S1024x1024, .f32⟩ : BufTy).Contents (Elt Ideal))
  (x7 : (⟨S1024x5632, .f32⟩ : BufTy).Contents (Elt Ideal)) (x8 : (⟨S2816x1024, .f32⟩ : BufTy).Contents (Elt Ideal))
include x0 x1 x2 x3 x4 x5 x6 x7 x8

/-! ## The vectors -/

theorem e_v2 (i : S1x1024.Idx) : (val_main_v2 (F := Ideal) x3) i = (prm x3 x4 x5 x6 x7 x8).g1 (i 1) := by
  rw [val_main_v2_apply]
  refine congrArg x3 ((eq_ix2 _).trans (congrArg₂ ix2 ?_ (Fin.ext ?_)))
  · exact Fin.ext (by have h : (i 0 : Nat) < 1 := (i 0).isLt; show (i 0 : Nat) = 0; omega)
  · show 2048 + (i 1 : Nat) = 1024 * 2 + (i 1 : Nat); omega

theorem e_v3 (i : S1x1024.Idx) : (val_main_v3 (F := Ideal) x3) i = (prm x3 x4 x5 x6 x7 x8).sh2 (i 1) := by
  rw [val_main_v3_apply]
  refine congrArg x3 ((eq_ix2 _).trans (congrArg₂ ix2 ?_ (Fin.ext ?_)))
  · exact Fin.ext (by have h : (i 0 : Nat) < 1 := (i 0).isLt; show (i 0 : Nat) = 0; omega)
  · show 3072 + (i 1 : Nat) = 1024 * 3 + (i 1 : Nat); omega

theorem e_v4 (i : S1x1024.Idx) : (val_main_v4 (F := Ideal) x3) i = (prm x3 x4 x5 x6 x7 x8).sc2 (i 1) := by
  rw [val_main_v4_apply]
  refine congrArg x3 ((eq_ix2 _).trans (congrArg₂ ix2 ?_ (Fin.ext ?_)))
  · exact Fin.ext (by have h : (i 0 : Nat) < 1 := (i 0).isLt; show (i 0 : Nat) = 0; omega)
  · show 4096 + (i 1 : Nat) = 1024 * 4 + (i 1 : Nat); omega

theorem e_v5 (i : S1x1024.Idx) : (val_main_v5 (F := Ideal) x3) i = (prm x3 x4 x5 x6 x7 x8).g2 (i 1) := by
  rw [val_main_v5_apply]
  refine congrArg x3 ((eq_ix2 _).trans (congrArg₂ ix2 ?_ (Fin.ext ?_)))
  · exact Fin.ext (by have h : (i 0 : Nat) < 1 := (i 0).isLt; show (i 0 : Nat) = 0; omega)
  · show 5120 + (i 1 : Nat) = 1024 * 5 + (i 1 : Nat); omega

theorem e_v31 (i : S1x1024.Idx) : (val_main_v31 (F := Ideal) x3) i = (prm x3 x4 x5 x6 x7 x8).osc2 (i 1) := by
  rw [val_main_v31_apply, val_main_v30_apply, val_main_cst_6_apply, e_v4 x0 x1 x2 x3 x4 x5 x6 x7 x8 i]
  exact congrArg (· + (prm x3 x4 x5 x6 x7 x8).sc2 (i 1)) one_eq

/-! ## The mixers' projection and the second norm -/

theorem e_v11 (i : S8192x1024.Idx) : (val_main_v11 (F := Ideal) x1 x6) i = (prm x3 x4 x5 x6 x7 x8).mix (tok x0 x1 x2 (i 0)) (i 1) := by
  rw [val_main_v11_apply, val_main_v10_apply, val_main_v7_apply, val_main_cst_apply]
  refine and_zero zero_word (Finset.sum_congr rfl fun k _ => ?_)
  exact congrArg₂ (fun a b : EReal => a * b) (congrArg x1 (eq_ix2 _)) (congrArg x6 (eq_ix2 _))

theorem e_v14 (i : S8192x1024.Idx) : (val_main_v14 (F := Ideal) x0 x1 x3 x6) i = (prm x3 x4 x5 x6 x7 x8).x1 (tok x0 x1 x2 (i 0)) (i 1) := by
  rw [val_main_v14_apply, val_main_v13_apply, val_main_v12_apply, e_v11 x0 x1 x2 x3 x4 x5 x6 x7 x8 i, e_v2 x0 x1 x2 x3 x4 x5 x6 x7 x8 _]
  exact congrArg (fun a : EReal => a + (prm x3 x4 x5 x6 x7 x8).g1 (i 1) * (prm x3 x4 x5 x6 x7 x8).mix (tok x0 x1 x2 (i 0)) (i 1)) (congrArg x0 (eq_ix2 i))

theorem e_v21 (i : S8192x1.Idx) : (val_main_v21 (F := Ideal) x0 x1 x3 x6) i = meanSq ((prm x3 x4 x5 x6 x7 x8).x1 (tok x0 x1 x2 (i 0))) := by
  rw [val_main_v21_apply, val_main_v19_apply, val_main_v17_apply, val_main_v16_apply, val_main_v18_apply, val_main_cst_3_apply, val_main_v20_apply, val_main_cst_4_apply, val_main_cst_2_apply]
  refine congrArg (fun s : EReal => Ideal.div s width + eps) (from_zero zero_word (Finset.sum_congr rfl fun k _ => ?_))
  rw [val_main_v15_apply, e_v14 x0 x1 x2 x3 x4 x5 x6 x7 x8 _]
  rfl

theorem e_v22 (i : S8192x1.Idx) : (val_main_v22 (F := Ideal) x0 x1 x3 x6) i = rms ((prm x3 x4 x5 x6 x7 x8).x1 (tok x0 x1 x2 (i 0))) := by
  rw [val_main_v22_apply, e_v21 x0 x1 x2 x3 x4 x5 x6 x7 x8 i]
  rfl

theorem e_v25 (i : S8192x1.Idx) : (val_main_v25 (F := Ideal) x0 x1 x3 x6) i = Ideal.ofBits .f32 0xBF000000#32 * Ideal.div (rms ((prm x3 x4 x5 x6 x7 x8).x1 (tok x0 x1 x2 (i 0)))) (meanSq ((prm x3 x4 x5 x6 x7 x8).x1 (tok x0 x1 x2 (i 0)))) := by
  rw [val_main_v25_apply, val_main_v24_apply, val_main_cst_5_apply, val_main_v23_apply, e_v22 x0 x1 x2 x3 x4 x5 x6 x7 x8 i, e_v21 x0 x1 x2 x3 x4 x5 x6 x7 x8 i]
  rfl

theorem e_v27 (i : S8192x1024.Idx) : (val_main_v27 (F := Ideal) x0 x1 x3 x6) i = (prm x3 x4 x5 x6 x7 x8).xh2 (tok x0 x1 x2 (i 0)) (i 1) := by
  rw [val_main_v27_apply, val_main_v26_apply, e_v14 x0 x1 x2 x3 x4 x5 x6 x7 x8 i, e_v22 x0 x1 x2 x3 x4 x5 x6 x7 x8 _]
  rfl

theorem e_v29 (i : S8192x1024.Idx) : (val_main_v29 (F := Ideal) x0 x1 x3 x4 x6) i = (prm x3 x4 x5 x6 x7 x8).n2 (tok x0 x1 x2 (i 0)) (i 1) := by
  rw [val_main_v29_apply, val_main_v28_apply, e_v27 x0 x1 x2 x3 x4 x5 x6 x7 x8 i, one_row x4 _]
  rfl

theorem e_v35 (i : S8192x1024.Idx) : (val_main_v35 (F := Ideal) x0 x1 x3 x4 x6) i = (prm x3 x4 x5 x6 x7 x8).h2 (tok x0 x1 x2 (i 0)) (i 1) := by
  rw [val_main_v35_apply, val_main_v33_apply, val_main_v34_apply, val_main_v32_apply, e_v29 x0 x1 x2 x3 x4 x5 x6 x7 x8 i, e_v31 x0 x1 x2 x3 x4 x5 x6 x7 x8 _, e_v3 x0 x1 x2 x3 x4 x5 x6 x7 x8 _]
  rfl

/-! ## The feed-forward layer -/

theorem e_v37 (i : S8192x5632.Idx) : (val_main_v37 (F := Ideal) x0 x1 x3 x4 x6 x7) i = (prm x3 x4 x5 x6 x7 x8).gu (tok x0 x1 x2 (i 0)) (i 1) := by
  rw [val_main_v37_apply, val_main_v36_apply, val_main_v8_apply, val_main_cst_0_apply]
  refine and_zero zero_word (Finset.sum_congr rfl fun k _ => ?_)
  rw [e_v35 x0 x1 x2 x3 x4 x5 x6 x7 x8 _]
  exact congrArg (fun b : EReal => (prm x3 x4 x5 x6 x7 x8).h2 (tok x0 x1 x2 (i 0)) k * b) (congrArg x7 (eq_ix2 _))

theorem e_v38 (i : S8192x2816.Idx) : (val_main_v38 (F := Ideal) x0 x1 x3 x4 x6 x7) i = (prm x3 x4 x5 x6 x7 x8).gate (tok x0 x1 x2 (i 0)) (i 1) := by
  rw [val_main_v38_apply, e_v37 x0 x1 x2 x3 x4 x5 x6 x7 x8 _]
  rfl

theorem e_v39 (i : S8192x2816.Idx) : (val_main_v39 (F := Ideal) x0 x1 x3 x4 x6 x7) i = (prm x3 x4 x5 x6 x7 x8).up (tok x0 x1 x2 (i 0)) (i 1) := by
  rw [val_main_v39_apply, e_v37 x0 x1 x2 x3 x4 x5 x6 x7 x8 _]
  rfl

theorem e_v40_2 (i : S8192x2816.Idx) : (val_main_v40_2 (F := Ideal) x0 x1 x3 x4 x6 x7) i = (prm x3 x4 x5 x6 x7 x8).sg (tok x0 x1 x2 (i 0)) (i 1) := by
  rw [val_main_v40_2_apply, val_main_call0_v4_apply, val_main_call0_cst_0_apply, val_main_call0_v3_apply, val_main_call0_v2_apply, val_main_call0_cst_apply, val_main_call0_v1_apply, val_main_call0_v0_apply, e_v38 x0 x1 x2 x3 x4 x5 x6 x7 x8 i]
  exact congrArg (fun o : EReal => Ideal.div o (o + Ideal.exp (-((prm x3 x4 x5 x6 x7 x8).gate (tok x0 x1 x2 (i 0)) (i 1))))) one_eq

theorem e_v40_1 (i : S8192x2816.Idx) : (val_main_v40_1 (F := Ideal) x0 x1 x3 x4 x6 x7) i = (prm x3 x4 x5 x6 x7 x8).sg (tok x0 x1 x2 (i 0)) (i 1) * (1 - (prm x3 x4 x5 x6 x7 x8).sg (tok x0 x1 x2 (i 0)) (i 1)) := by
  rw [val_main_v40_1_apply, val_main_call0_v7_apply, val_main_call0_v6_apply, val_main_call0_cst_1_apply, e_v40_2 x0 x1 x2 x3 x4 x5 x6 x7 x8 i]
  exact congrArg (fun o : EReal => (prm x3 x4 x5 x6 x7 x8).sg (tok x0 x1 x2 (i 0)) (i 1) * (o - (prm x3 x4 x5 x6 x7 x8).sg (tok x0 x1 x2 (i 0)) (i 1))) one_eq

theorem e_v40_0 (i : S8192x2816.Idx) : (val_main_v40_0 (F := Ideal) x0 x1 x3 x4 x6 x7) i = (prm x3 x4 x5 x6 x7 x8).gate (tok x0 x1 x2 (i 0)) (i 1) * (prm x3 x4 x5 x6 x7 x8).sg (tok x0 x1 x2 (i 0)) (i 1) := by
  rw [val_main_v40_0_apply, e_v38 x0 x1 x2 x3 x4 x5 x6 x7 x8 i, e_v40_2 x0 x1 x2 x3 x4 x5 x6 x7 x8 i]
  rfl

theorem e_v41 (i : S8192x2816.Idx) : (val_main_v41 (F := Ideal) x0 x1 x3 x4 x6 x7) i = (prm x3 x4 x5 x6 x7 x8).act (tok x0 x1 x2 (i 0)) (i 1) := by
  rw [val_main_v41_apply, e_v40_0 x0 x1 x2 x3 x4 x5 x6 x7 x8 i, e_v39 x0 x1 x2 x3 x4 x5 x6 x7 x8 i]
  rfl

theorem e_v43 (i : S8192x1024.Idx) : (val_main_v43 (F := Ideal) x0 x1 x3 x4 x6 x7 x8) i = (prm x3 x4 x5 x6 x7 x8).ff (tok x0 x1 x2 (i 0)) (i 1) := by
  rw [val_main_v43_apply, val_main_v42_apply, val_main_v9_apply, val_main_cst_1_apply]
  refine and_zero zero_word (Finset.sum_congr rfl fun k _ => ?_)
  rw [e_v41 x0 x1 x2 x3 x4 x5 x6 x7 x8 _]
  exact congrArg (fun b : EReal => (prm x3 x4 x5 x6 x7 x8).act (tok x0 x1 x2 (i 0)) k * b) (congrArg x8 (eq_ix2 _))

theorem e_v46 (i : S8192x1024.Idx) : (val_main_v46 (F := Ideal) x0 x1 x3 x4 x6 x7 x8) i = (prm x3 x4 x5 x6 x7 x8).x2 (tok x0 x1 x2 (i 0)) (i 1) := by
  rw [val_main_v46_apply, val_main_v45_apply, val_main_v44_apply, e_v14 x0 x1 x2 x3 x4 x5 x6 x7 x8 i, e_v43 x0 x1 x2 x3 x4 x5 x6 x7 x8 i, e_v5 x0 x1 x2 x3 x4 x5 x6 x7 x8 _]
  rfl

/-! ## The final norm and the loss -/

theorem e_v53 (i : S8192x1.Idx) : (val_main_v53 (F := Ideal) x0 x1 x3 x4 x6 x7 x8) i = meanSq ((prm x3 x4 x5 x6 x7 x8).x2 (tok x0 x1 x2 (i 0))) := by
  rw [val_main_v53_apply, val_main_v51_apply, val_main_v49_apply, val_main_v48_apply, val_main_v50_apply, val_main_cst_8_apply, val_main_v52_apply, val_main_cst_9_apply, val_main_cst_7_apply]
  refine congrArg (fun s : EReal => Ideal.div s width + eps) (from_zero zero_word (Finset.sum_congr rfl fun k _ => ?_))
  rw [val_main_v47_apply, e_v46 x0 x1 x2 x3 x4 x5 x6 x7 x8 _]
  rfl

theorem e_v54 (i : S8192x1.Idx) : (val_main_v54 (F := Ideal) x0 x1 x3 x4 x6 x7 x8) i = rms ((prm x3 x4 x5 x6 x7 x8).x2 (tok x0 x1 x2 (i 0))) := by
  rw [val_main_v54_apply, e_v53 x0 x1 x2 x3 x4 x5 x6 x7 x8 i]
  rfl

theorem e_v57 (i : S8192x1.Idx) : (val_main_v57 (F := Ideal) x0 x1 x3 x4 x6 x7 x8) i = Ideal.ofBits .f32 0xBF000000#32 * Ideal.div (rms ((prm x3 x4 x5 x6 x7 x8).x2 (tok x0 x1 x2 (i 0)))) (meanSq ((prm x3 x4 x5 x6 x7 x8).x2 (tok x0 x1 x2 (i 0)))) := by
  rw [val_main_v57_apply, val_main_v56_apply, val_main_cst_10_apply, val_main_v55_apply, e_v54 x0 x1 x2 x3 x4 x5 x6 x7 x8 i, e_v53 x0 x1 x2 x3 x4 x5 x6 x7 x8 i]
  rfl

theorem e_v59 (i : S8192x1024.Idx) : (val_main_v59 (F := Ideal) x0 x1 x3 x4 x6 x7 x8) i = (prm x3 x4 x5 x6 x7 x8).xh3 (tok x0 x1 x2 (i 0)) (i 1) := by
  rw [val_main_v59_apply, val_main_v58_apply, e_v46 x0 x1 x2 x3 x4 x5 x6 x7 x8 i, e_v54 x0 x1 x2 x3 x4 x5 x6 x7 x8 _]
  rfl

theorem e_v62 (i : S8192x1024.Idx) : (val_main_v62 (F := Ideal) x0 x1 x2 x3 x4 x5 x6 x7 x8) i = (prm x3 x4 x5 x6 x7 x8).err (tok x0 x1 x2 (i 0)) (i 1) := by
  rw [val_main_v62_apply, val_main_v61_apply, val_main_v60_apply, e_v59 x0 x1 x2 x3 x4 x5 x6 x7 x8 i, one_row x5 _]
  exact congrArg (fun a : EReal => (prm x3 x4 x5 x6 x7 x8).xh3 (tok x0 x1 x2 (i 0)) (i 1) * (prm x3 x4 x5 x6 x7 x8).fw (i 1) - a) (congrArg x2 (eq_ix2 i))

theorem e_v76 (i : S1x1024.Idx) : (val_main_v76 (F := Ideal) x0 x1 x2 x3 x4 x5 x6 x7 x8) i = ∑ T, halfInvWidth * (prm x3 x4 x5 x6 x7 x8).err (tok x0 x1 x2 T) (i 1) * (prm x3 x4 x5 x6 x7 x8).err (tok x0 x1 x2 T) (i 1) := by
  rw [val_main_v76_apply, val_main_v74_apply, val_main_v73_apply, val_main_cst_17_apply, val_main_v72_apply, val_main_v71_apply, val_main_cst_16_apply, val_main_v75_apply, val_main_cst_18_apply, ← loss_textbook]
  refine congrArg (fun s : EReal => Ideal.div (Ideal.ofBits .f32 0x3F000000#32 * s) width) (from_zero zero_word (Finset.sum_congr rfl fun T _ => ?_))
  rw [val_main_v63_apply, e_v62 x0 x1 x2 x3 x4 x5 x6 x7 x8 _]
  rfl

/-! ## Back through the final norm -/

theorem e_v82 (i : S8192x1024.Idx) : (val_main_v82 (F := Ideal) x0 x1 x2 x3 x4 x5 x6 x7 x8) i = (prm x3 x4 x5 x6 x7 x8).dy (tok x0 x1 x2 (i 0)) (i 1) := by
  rw [val_main_v82_apply, val_main_v81_apply, val_main_v80_apply, val_main_v78_apply, val_main_v77_apply, val_main_cst_19_apply, val_main_cst_20_apply, val_main_v79_apply, val_main_cst_21_apply, val_main_v65_apply, val_main_v64_apply, val_main_cst_11_apply, e_v62 x0 x1 x2 x3 x4 x5 x6 x7 x8 i]
  exact dy_textbook _

theorem e_v85 (i : S1x1024.Idx) : (val_main_v85 (F := Ideal) x0 x1 x2 x3 x4 x5 x6 x7 x8) i = ∑ T, (prm x3 x4 x5 x6 x7 x8).dy (tok x0 x1 x2 T) (i 1) * (prm x3 x4 x5 x6 x7 x8).xh3 (tok x0 x1 x2 T) (i 1) := by
  rw [val_main_v85_apply, show idx_main_v85 i = idx_main_v72 i from flat_row i, val_main_v84_apply, val_main_cst_22_apply]
  refine from_zero zero_word (Finset.sum_congr rfl fun T _ => ?_)
  rw [val_main_v83_apply, e_v59 x0 x1 x2 x3 x4 x5 x6 x7 x8 _, e_v82 x0 x1 x2 x3 x4 x5 x6 x7 x8 _]
  exact mul_comm (_ : EReal) _

theorem e_v87 (i : S8192x1024.Idx) : (val_main_v87 (F := Ideal) x0 x1 x2 x3 x4 x5 x6 x7 x8) i = (prm x3 x4 x5 x6 x7 x8).dy (tok x0 x1 x2 (i 0)) (i 1) * (prm x3 x4 x5 x6 x7 x8).fw (i 1) := by
  rw [val_main_v87_apply, val_main_v86_apply, e_v82 x0 x1 x2 x3 x4 x5 x6 x7 x8 i, one_row x5 _]
  rfl

theorem e_v90 (i : S8192x1.Idx) : (val_main_v90 (F := Ideal) x0 x1 x2 x3 x4 x5 x6 x7 x8) i = ∑ k, (prm x3 x4 x5 x6 x7 x8).x2 (tok x0 x1 x2 (i 0)) k * ((prm x3 x4 x5 x6 x7 x8).dy (tok x0 x1 x2 (i 0)) k * (prm x3 x4 x5 x6 x7 x8).fw k) := by
  rw [val_main_v90_apply, show idx_main_v90 i = idx_main_v17 i from flat_col i, val_main_v89_apply, val_main_cst_23_apply]
  refine from_zero zero_word (Finset.sum_congr rfl fun k _ => ?_)
  rw [val_main_v88_apply, e_v46 x0 x1 x2 x3 x4 x5 x6 x7 x8 _, e_v87 x0 x1 x2 x3 x4 x5 x6 x7 x8 _]
  rfl

theorem e_v97 (i : S8192x1024.Idx) : (val_main_v97 (F := Ideal) x0 x1 x2 x3 x4 x5 x6 x7 x8) i = Ideal.div ((∑ k, (prm x3 x4 x5 x6 x7 x8).x2 (tok x0 x1 x2 (i 0)) k * ((prm x3 x4 x5 x6 x7 x8).dy (tok x0 x1 x2 (i 0)) k * (prm x3 x4 x5 x6 x7 x8).fw k)) * (Ideal.ofBits .f32 0xBF000000#32 * Ideal.div (rms ((prm x3 x4 x5 x6 x7 x8).x2 (tok x0 x1 x2 (i 0)))) (meanSq ((prm x3 x4 x5 x6 x7 x8).x2 (tok x0 x1 x2 (i 0)))))) width := by
  rw [val_main_v97_apply, val_main_v96_apply, val_main_cst_25_apply, Fin.sum_univ_one, val_main_v95_apply, val_main_v93_apply, val_main_v94_apply, val_main_cst_24_apply, e_v90 x0 x1 x2 x3 x4 x5 x6 x7 x8 _, e_v57 x0 x1 x2 x3 x4 x5 x6 x7 x8 _]
  exact from_zero zero_word rfl

theorem e_v101 (i : S8192x1024.Idx) : (val_main_v101 (F := Ideal) x0 x1 x2 x3 x4 x5 x6 x7 x8) i = (prm x3 x4 x5 x6 x7 x8).dx2 (tok x0 x1 x2 (i 0)) (i 1) := by
  rw [val_main_v101_apply, val_main_v99_apply, val_main_v92_apply, val_main_v91_apply, val_main_v98_apply, val_main_v100_apply, e_v97 x0 x1 x2 x3 x4 x5 x6 x7 x8 i, e_v87 x0 x1 x2 x3 x4 x5 x6 x7 x8 i, e_v46 x0 x1 x2 x3 x4 x5 x6 x7 x8 i, e_v54 x0 x1 x2 x3 x4 x5 x6 x7 x8 _]
  have h := rmsBwd_textbook ((prm x3 x4 x5 x6 x7 x8).x2 (tok x0 x1 x2 (i 0))) (fun k => (prm x3 x4 x5 x6 x7 x8).dy (tok x0 x1 x2 (i 0)) k * (prm x3 x4 x5 x6 x7 x8).fw k) (i 1) 0
  rw [zero_add, zero_add] at h
  exact h

theorem e_v103 (i : S8192x1024.Idx) : (val_main_v103 (F := Ideal) x0 x1 x2 x3 x4 x5 x6 x7 x8) i = (prm x3 x4 x5 x6 x7 x8).dff (tok x0 x1 x2 (i 0)) (i 1) := by
  rw [val_main_v103_apply, val_main_v102_apply, e_v101 x0 x1 x2 x3 x4 x5 x6 x7 x8 i, e_v5 x0 x1 x2 x3 x4 x5 x6 x7 x8 _]
  exact mul_comm _ _

theorem e_v106 (i : S1x1024.Idx) : (val_main_v106 (F := Ideal) x0 x1 x2 x3 x4 x5 x6 x7 x8) i = ∑ T, (prm x3 x4 x5 x6 x7 x8).dx2 (tok x0 x1 x2 T) (i 1) * (prm x3 x4 x5 x6 x7 x8).ff (tok x0 x1 x2 T) (i 1) := by
  rw [val_main_v106_apply, show idx_main_v106 i = idx_main_v72 i from flat_row i, val_main_v105_apply, val_main_cst_26_apply]
  refine from_zero zero_word (Finset.sum_congr rfl fun T _ => ?_)
  rw [val_main_v104_apply, e_v101 x0 x1 x2 x3 x4 x5 x6 x7 x8 _, e_v43 x0 x1 x2 x3 x4 x5 x6 x7 x8 _]
  rfl

theorem e_v107 (i : S8192x2816.Idx) : (val_main_v107 (F := Ideal) x0 x1 x2 x3 x4 x5 x6 x7 x8) i = (prm x3 x4 x5 x6 x7 x8).da (tok x0 x1 x2 (i 0)) (i 1) := by
  rw [val_main_v107_apply]
  refine Finset.sum_congr rfl fun k _ => ?_
  rw [e_v103 x0 x1 x2 x3 x4 x5 x6 x7 x8 _]
  exact congrArg (fun b : EReal => (prm x3 x4 x5 x6 x7 x8).dff (tok x0 x1 x2 (i 0)) k * b) (congrArg x8 (eq_ix2 _))

theorem e_v108 (i : S8192x2816.Idx) : (val_main_v108 (F := Ideal) x0 x1 x2 x3 x4 x5 x6 x7 x8) i = (prm x3 x4 x5 x6 x7 x8).dup (tok x0 x1 x2 (i 0)) (i 1) := by
  rw [val_main_v108_apply, e_v40_0 x0 x1 x2 x3 x4 x5 x6 x7 x8 i, e_v107 x0 x1 x2 x3 x4 x5 x6 x7 x8 i]
  exact (mul_comm _ _).trans (mul_assoc _ _ _).symm

end Cert.ReferenceIdeal.Stages
-- ==== Proof.RefBackward.lean ====
/-
  The reference, operation by operation, from the feed-forward layer's output back to the mixers' outputs, and the eight
  small rows.
-/
module

public import proofs.«01_k».proof.Proof.RefForward
public import proofs.«01_k».proof.Proof.Gen.ReferenceIdeal.Read

@[expose] public section

noncomputable section

namespace Cert.ReferenceIdeal.Stages

open Idealize.ShloMosaic Idealize.ShloMosaic.TcCoe
open Cert.ReferenceIdeal Cert.ReferenceIdeal.Gen Cert.ReferenceIdeal.Read Step

/-- Eight rows one below the other, read row by row. -/
theorem eight_rows (y0 y1 y2 y3 y4 y5 y6 y7 : S1x1024.Idx → EReal) (f : Fin 8 → EReal) (j : Fin 1024)
    (h : Shape.Concatenates ([⟨S1x1024, y0⟩, ⟨S1x1024, y1⟩, ⟨S1x1024, y2⟩, ⟨S1x1024, y3⟩, ⟨S1x1024, y4⟩, ⟨S1x1024, y5⟩, ⟨S1x1024, y6⟩, ⟨S1x1024, y7⟩].map (fun x : (s : Shape) × (s.Idx → EReal) => x.1)) S8x1024 0)
    (h0 : y0 (ix2 0 j) = f 0) (h1 : y1 (ix2 0 j) = f 1) (h2 : y2 (ix2 0 j) = f 2) (h3 : y3 (ix2 0 j) = f 3) (h4 : y4 (ix2 0 j) = f 4) (h5 : y5 (ix2 0 j) = f 5) (h6 : y6 (ix2 0 j) = f 6) (h7 : y7 (ix2 0 j) = f 7) (i : Fin 8) :
    concatenate S8x1024 0 [⟨S1x1024, y0⟩, ⟨S1x1024, y1⟩, ⟨S1x1024, y2⟩, ⟨S1x1024, y3⟩, ⟨S1x1024, y4⟩, ⟨S1x1024, y5⟩, ⟨S1x1024, y6⟩, ⟨S1x1024, y7⟩] h (ix2 i j) = f i := by
  match i with
  | ⟨0, _⟩ =>
    refine (concatenate_apply_piece 0 _ h _ 0 (by simp) S1x1024 y0 rfl rfl 0 rfl (ix2 0 j) (fun b hb => ?_) rfl).trans h0
    match b with
    | ⟨0, _⟩ => exact absurd rfl hb
    | ⟨1, _⟩ => rfl
  | ⟨1, _⟩ =>
    refine (concatenate_apply_piece 0 _ h _ 1 (by simp) S1x1024 y1 rfl rfl 1 rfl (ix2 0 j) (fun b hb => ?_) rfl).trans h1
    match b with
    | ⟨0, _⟩ => exact absurd rfl hb
    | ⟨1, _⟩ => rfl
  | ⟨2, _⟩ =>
    refine (concatenate_apply_piece 0 _ h _ 2 (by simp) S1x1024 y2 rfl rfl 2 rfl (ix2 0 j) (fun b hb => ?_) rfl).trans h2
    match b with
    | ⟨0, _⟩ => exact absurd rfl hb
    | ⟨1, _⟩ => rfl
  | ⟨3, _⟩ =>
    refine (concatenate_apply_piece 0 _ h _ 3 (by simp) S1x1024 y3 rfl rfl 3 rfl (ix2 0 j) (fun b hb => ?_) rfl).trans h3
    match b with
    | ⟨0, _⟩ => exact absurd rfl hb
    | ⟨1, _⟩ => rfl
  | ⟨4, _⟩ =>
    refine (concatenate_apply_piece 0 _ h _ 4 (by simp) S1x1024 y4 rfl rfl 4 rfl (ix2 0 j) (fun b hb => ?_) rfl).trans h4
    match b with
    | ⟨0, _⟩ => exact absurd rfl hb
    | ⟨1, _⟩ => rfl
  | ⟨5, _⟩ =>
    refine (concatenate_apply_piece 0 _ h _ 5 (by simp) S1x1024 y5 rfl rfl 5 rfl (ix2 0 j) (fun b hb => ?_) rfl).trans h5
    match b with
    | ⟨0, _⟩ => exact absurd rfl hb
    | ⟨1, _⟩ => rfl
  | ⟨6, _⟩ =>
    refine (concatenate_apply_piece 0 _ h _ 6 (by simp) S1x1024 y6 rfl rfl 6 rfl (ix2 0 j) (fun b hb => ?_) rfl).trans h6
    match b with
    | ⟨0, _⟩ => exact absurd rfl hb
    | ⟨1, _⟩ => rfl
  | ⟨7, _⟩ =>
    refine (concatenate_apply_piece 0 _ h _ 7 (by simp) S1x1024 y7 rfl rfl 7 rfl (ix2 0 j) (fun b hb => ?_) rfl).trans h7
    match b with
    | ⟨0, _⟩ => exact absurd rfl hb
    | ⟨1, _⟩ => rfl

variable (x0 : (⟨S8192x1024, .f32⟩ : BufTy).Contents (Elt Ideal)) (x1 : (⟨S8192x1024, .bf16⟩ : BufTy).Contents (Elt Ideal))
  (x2 : (⟨S8192x1024, .f32⟩ : BufTy).Contents (Elt Ideal)) (x3 : (⟨S1x6144, .f32⟩ : BufTy).Contents (Elt Ideal))
  (x4 x5 : (⟨S1x1024, .f32⟩ : BufTy).Contents (Elt Ideal)) (x6 : (⟨S1024x1024, .f32⟩ : BufTy).Contents (Elt Ideal))
  (x7 : (⟨S1024x5632, .f32⟩ : BufTy).Contents (Elt Ideal)) (x8 : (⟨S2816x1024, .f32⟩ : BufTy).Contents (Elt Ideal))
  (ht : ∀ T j, Real' ((tok x0 x1 x2 T).t j)) (hg : ∀ j, Real' ((prm x3 x4 x5 x6 x7 x8).g2 j))
  (hf : ∀ j, Real' ((prm x3 x4 x5 x6 x7 x8).fw j))
include ht hg hf

/-! ## Back through the feed-forward layer -/

theorem e_v110 (i : S8192x2816.Idx) : (val_main_v110 (F := Ideal) x0 x1 x2 x3 x4 x5 x6 x7 x8) i = (prm x3 x4 x5 x6 x7 x8).dgate (tok x0 x1 x2 (i 0)) (i 1) := by
  rw [val_main_v110_apply, val_main_call1_v1_apply, val_main_call1_v2_apply, val_main_call1_v0_apply, val_main_v109_apply, e_v38 x0 x1 x2 x3 x4 x5 x6 x7 x8 i, e_v107 x0 x1 x2 x3 x4 x5 x6 x7 x8 i, e_v39 x0 x1 x2 x3 x4 x5 x6 x7 x8 i, e_v40_2 x0 x1 x2 x3 x4 x5 x6 x7 x8 i, e_v40_1 x0 x1 x2 x3 x4 x5 x6 x7 x8 i]
  exact Params.dgate_textbook _ _ (ht (i 0)) hg hf (i 1)

theorem e_v111 (i : S8192x5632.Idx) : (val_main_v111 (F := Ideal) x0 x1 x2 x3 x4 x5 x6 x7 x8) i = (prm x3 x4 x5 x6 x7 x8).dgu (tok x0 x1 x2 (i 0)) (i 1) := by
  unfold val_main_v111 Params.dgu
  have h1 : (i 1 : Nat) < 5632 := (i 1).isLt
  split
  case isTrue h =>
    refine (concatenate_pair_apply_left (s₁ := S8192x2816) (s₂ := S8192x2816) 1 _ _ _ i rfl (ix2 (i 0) ⟨(i 1).val, h⟩ : S8192x2816.Idx) fun b => ?_).trans (e_v110 x0 x1 x2 x3 x4 x5 x6 x7 x8 ht hg hf _)
    match b with
    | ⟨0, _⟩ => rfl
    | ⟨1, _⟩ => rfl
  case isFalse h =>
    refine (concatenate_pair_apply_right (s₁ := S8192x2816) (s₂ := S8192x2816) 1 _ _ _ i rfl rfl (ix2 (i 0) ⟨(i 1).val - 2816, by omega⟩ : S8192x2816.Idx) (fun b hb => ?_) ?_).trans (e_v108 x0 x1 x2 x3 x4 x5 x6 x7 x8 _)
    · match b with
      | ⟨0, _⟩ => rfl
      | ⟨1, _⟩ => exact absurd rfl hb
    · show (i 1 : Nat) - 2816 + 2816 = (i 1 : Nat)
      omega

theorem e_v112 (i : S8192x1024.Idx) : (val_main_v112 (F := Ideal) x0 x1 x2 x3 x4 x5 x6 x7 x8) i = (prm x3 x4 x5 x6 x7 x8).dh2 (tok x0 x1 x2 (i 0)) (i 1) := by
  rw [val_main_v112_apply]
  refine Finset.sum_congr rfl fun k _ => ?_
  rw [e_v111 x0 x1 x2 x3 x4 x5 x6 x7 x8 ht hg hf _]
  exact congrArg (fun b : EReal => (prm x3 x4 x5 x6 x7 x8).dgu (tok x0 x1 x2 (i 0)) k * b) (congrArg x7 (eq_ix2 _))

/-! ## Back through the second norm -/

theorem e_v119 (i : S8192x1024.Idx) : (val_main_v119 (F := Ideal) x0 x1 x2 x3 x4 x5 x6 x7 x8) i = (prm x3 x4 x5 x6 x7 x8).dn2 (tok x0 x1 x2 (i 0)) (i 1) := by
  rw [val_main_v119_apply, val_main_v118_apply, e_v112 x0 x1 x2 x3 x4 x5 x6 x7 x8 ht hg hf i, e_v31 x0 x1 x2 x3 x4 x5 x6 x7 x8 _]
  rfl

theorem e_v124 (i : S8192x1024.Idx) : (val_main_v124 (F := Ideal) x0 x1 x2 x3 x4 x5 x6 x7 x8) i = (prm x3 x4 x5 x6 x7 x8).dn2 (tok x0 x1 x2 (i 0)) (i 1) * (prm x3 x4 x5 x6 x7 x8).nw2 (i 1) := by
  rw [val_main_v124_apply, val_main_v123_apply, e_v119 x0 x1 x2 x3 x4 x5 x6 x7 x8 ht hg hf i, one_row x4 _]
  rfl

theorem e_v127 (i : S8192x1.Idx) : (val_main_v127 (F := Ideal) x0 x1 x2 x3 x4 x5 x6 x7 x8) i = ∑ k, (prm x3 x4 x5 x6 x7 x8).x1 (tok x0 x1 x2 (i 0)) k * ((prm x3 x4 x5 x6 x7 x8).dn2 (tok x0 x1 x2 (i 0)) k * (prm x3 x4 x5 x6 x7 x8).nw2 k) := by
  rw [val_main_v127_apply, show idx_main_v127 i = idx_main_v17 i from flat_col i, val_main_v126_apply, val_main_cst_30_apply]
  refine from_zero zero_word (Finset.sum_congr rfl fun k _ => ?_)
  rw [val_main_v125_apply, e_v14 x0 x1 x2 x3 x4 x5 x6 x7 x8 _, e_v124 x0 x1 x2 x3 x4 x5 x6 x7 x8 ht hg hf _]
  rfl

theorem e_v135 (i : S8192x1024.Idx) : (val_main_v135 (F := Ideal) x0 x1 x2 x3 x4 x5 x6 x7 x8) i = Ideal.div ((∑ k, (prm x3 x4 x5 x6 x7 x8).x1 (tok x0 x1 x2 (i 0)) k * ((prm x3 x4 x5 x6 x7 x8).dn2 (tok x0 x1 x2 (i 0)) k * (prm x3 x4 x5 x6 x7 x8).nw2 k)) * (Ideal.ofBits .f32 0xBF000000#32 * Ideal.div (rms ((prm x3 x4 x5 x6 x7 x8).x1 (tok x0 x1 x2 (i 0)))) (meanSq ((prm x3 x4 x5 x6 x7 x8).x1 (tok x0 x1 x2 (i 0)))))) width := by
  rw [val_main_v135_apply, val_main_v134_apply, val_main_cst_32_apply, Fin.sum_univ_one, val_main_v133_apply, val_main_v131_apply, val_main_v132_apply, val_main_cst_31_apply, e_v127 x0 x1 x2 x3 x4 x5 x6 x7 x8 ht hg hf _, e_v25 x0 x1 x2 x3 x4 x5 x6 x7 x8 _]
  exact from_zero zero_word rfl

theorem e_v139 (i : S8192x1024.Idx) : (val_main_v139 (F := Ideal) x0 x1 x2 x3 x4 x5 x6 x7 x8) i = (prm x3 x4 x5 x6 x7 x8).dx1 (tok x0 x1 x2 (i 0)) (i 1) := by
  rw [val_main_v139_apply, val_main_v137_apply, val_main_v130_apply, val_main_v129_apply, val_main_v128_apply, val_main_v136_apply, val_main_v138_apply, e_v135 x0 x1 x2 x3 x4 x5 x6 x7 x8 ht hg hf i, e_v124 x0 x1 x2 x3 x4 x5 x6 x7 x8 ht hg hf i, e_v14 x0 x1 x2 x3 x4 x5 x6 x7 x8 i, e_v22 x0 x1 x2 x3 x4 x5 x6 x7 x8 _, e_v101 x0 x1 x2 x3 x4 x5 x6 x7 x8 i]
  exact rmsBwd_textbook ((prm x3 x4 x5 x6 x7 x8).x1 (tok x0 x1 x2 (i 0))) (fun k => (prm x3 x4 x5 x6 x7 x8).dn2 (tok x0 x1 x2 (i 0)) k * (prm x3 x4 x5 x6 x7 x8).nw2 k) (i 1) ((prm x3 x4 x5 x6 x7 x8).dx2 (tok x0 x1 x2 (i 0)) (i 1))

theorem e_v141 (i : S8192x1024.Idx) : (val_main_v141 (F := Ideal) x0 x1 x2 x3 x4 x5 x6 x7 x8) i = (prm x3 x4 x5 x6 x7 x8).dmix (tok x0 x1 x2 (i 0)) (i 1) := by
  rw [val_main_v141_apply, val_main_v140_apply, e_v139 x0 x1 x2 x3 x4 x5 x6 x7 x8 ht hg hf i, e_v2 x0 x1 x2 x3 x4 x5 x6 x7 x8 _]
  exact mul_comm _ _

theorem e_v145 (i : S8192x1024.Idx) : (val_main_v145 (F := Ideal) x0 x1 x2 x3 x4 x5 x6 x7 x8) i = (prm x3 x4 x5 x6 x7 x8).dY (tok x0 x1 x2 (i 0)) (i 1) := by
  rw [val_main_v145_apply]
  refine Finset.sum_congr rfl fun k _ => ?_
  rw [e_v141 x0 x1 x2 x3 x4 x5 x6 x7 x8 ht hg hf _]
  exact congrArg (fun b : EReal => (prm x3 x4 x5 x6 x7 x8).dmix (tok x0 x1 x2 (i 0)) k * b) (congrArg x6 (eq_ix2 _))

/-! ## The small rows -/

theorem e_v114 (i : S1x1024.Idx) : (val_main_v114 (F := Ideal) x0 x1 x2 x3 x4 x5 x6 x7 x8) i = ∑ T, (prm x3 x4 x5 x6 x7 x8).dh2 (tok x0 x1 x2 T) (i 1) := by
  rw [val_main_v114_apply, show idx_main_v114 i = idx_main_v72 i from flat_row i, val_main_v113_apply, val_main_cst_27_apply]
  refine from_zero zero_word (Finset.sum_congr rfl fun T _ => ?_)
  exact e_v112 x0 x1 x2 x3 x4 x5 x6 x7 x8 ht hg hf _

theorem e_v117 (i : S1x1024.Idx) : (val_main_v117 (F := Ideal) x0 x1 x2 x3 x4 x5 x6 x7 x8) i = ∑ T, (prm x3 x4 x5 x6 x7 x8).dh2 (tok x0 x1 x2 T) (i 1) * (prm x3 x4 x5 x6 x7 x8).n2 (tok x0 x1 x2 T) (i 1) := by
  rw [val_main_v117_apply, show idx_main_v117 i = idx_main_v72 i from flat_row i, val_main_v116_apply, val_main_cst_28_apply]
  refine from_zero zero_word (Finset.sum_congr rfl fun T _ => ?_)
  rw [val_main_v115_apply, e_v29 x0 x1 x2 x3 x4 x5 x6 x7 x8 _, e_v112 x0 x1 x2 x3 x4 x5 x6 x7 x8 ht hg hf _]
  exact mul_comm (_ : EReal) _

theorem e_v122 (i : S1x1024.Idx) : (val_main_v122 (F := Ideal) x0 x1 x2 x3 x4 x5 x6 x7 x8) i = ∑ T, (prm x3 x4 x5 x6 x7 x8).dn2 (tok x0 x1 x2 T) (i 1) * (prm x3 x4 x5 x6 x7 x8).xh2 (tok x0 x1 x2 T) (i 1) := by
  rw [val_main_v122_apply, show idx_main_v122 i = idx_main_v72 i from flat_row i, val_main_v121_apply, val_main_cst_29_apply]
  refine from_zero zero_word (Finset.sum_congr rfl fun T _ => ?_)
  rw [val_main_v120_apply, e_v27 x0 x1 x2 x3 x4 x5 x6 x7 x8 _, e_v119 x0 x1 x2 x3 x4 x5 x6 x7 x8 ht hg hf _]
  exact mul_comm (_ : EReal) _

theorem e_v144 (i : S1x1024.Idx) : (val_main_v144 (F := Ideal) x0 x1 x2 x3 x4 x5 x6 x7 x8) i = ∑ T, (prm x3 x4 x5 x6 x7 x8).dx1 (tok x0 x1 x2 T) (i 1) * (prm x3 x4 x5 x6 x7 x8).mix (tok x0 x1 x2 T) (i 1) := by
  rw [val_main_v144_apply, show idx_main_v144 i = idx_main_v72 i from flat_row i, val_main_v143_apply, val_main_cst_33_apply]
  refine from_zero zero_word (Finset.sum_congr rfl fun T _ => ?_)
  rw [val_main_v142_apply, e_v139 x0 x1 x2 x3 x4 x5 x6 x7 x8 ht hg hf _, e_v11 x0 x1 x2 x3 x4 x5 x6 x7 x8 _]
  rfl

theorem e_v147 (i : Fin 8) (j : Fin 1024) :
    (val_main_v147 (F := Ideal) x0 x1 x2 x3 x4 x5 x6 x7 x8) (ix2 i j) = ∑ T, (prm x3 x4 x5 x6 x7 x8).small (tok x0 x1 x2 T) i j :=
  eight_rows _ _ _ _ _ _ _ _ (fun i => ∑ T, (prm x3 x4 x5 x6 x7 x8).small (tok x0 x1 x2 T) i j) j _
    (e_v106 x0 x1 x2 x3 x4 x5 x6 x7 x8 _)
    (e_v117 x0 x1 x2 x3 x4 x5 x6 x7 x8 ht hg hf _)
    (e_v114 x0 x1 x2 x3 x4 x5 x6 x7 x8 ht hg hf _)
    (e_v122 x0 x1 x2 x3 x4 x5 x6 x7 x8 ht hg hf _)
    (e_v85 x0 x1 x2 x3 x4 x5 x6 x7 x8 _)
    (e_v144 x0 x1 x2 x3 x4 x5 x6 x7 x8 ht hg hf _)
    (e_v76 x0 x1 x2 x3 x4 x5 x6 x7 x8 _)
    (by rw [val_main_v146_apply, val_main_cst_34_apply, zero_word]; exact Finset.sum_const_zero.symm) i

end Cert.ReferenceIdeal.Stages
-- ==== Proof.Payloads.lean ====
/-
  What the kernel body computes for the row `r` of a block of 256 tokens, read one operation at a time: if the row of
  each operand block is the token's and the parameter blocks are the parameters, every intermediate value of the body at
  `(r, j)` is the quantity of `Step` of that name, and every accumulated row grows by the sum over the block of a row of
  `Step.Params.small`.
-/
module

public import proofs.«01_k».proof.Proof.Step
public import proofs.«01_k».proof.Proof.Gen.KernelIdeal.Skeleton
public import Idealize.ShloMosaic.Lib.Pointwise

@[expose] public section

noncomputable section

namespace Cert.KernelIdeal.Row

open Idealize.ShloMosaic Idealize.ShloMosaic.TcCoe
open Cert.KernelIdeal Cert.KernelIdeal.Gen Step

/-- A block of 256 rows of `n` numbers whose row `r` is given. -/
def Rows {φ : FTy} (n : Nat) (v : (⟨2, ![256, n]⟩ : Shape).Idx → Ideal φ) (f : Fin 256 → Fin n → EReal) : Prop :=
  ∀ (r : Fin 256) (j : Fin n), v (ix2 r j) = f r j

variable (p : Params) (a : Fin 256 → Token)
variable (v3 v4 v23 v26 v31 v80 : Vec Ideal S1x1024 .f32) (v5 : Vec Ideal S256x1024 .bf16) (v6 : Vec Ideal S1024x1024 .bf16)
  (v9 v83 : Vec Ideal S256x1024 .f32) (v37 v40 v52 v55 : Vec Ideal S1024x1408 .bf16) (v48 v63 : Vec Ideal S1408x1024 .bf16)

/-- The operands of a block: the tokens' rows and the parameters. -/
structure Reads : Prop where
  x : ∀ (r : Fin 256) (j : Fin 1024), v9 (ix2 r j) = (a r).x j
  y : ∀ (r : Fin 256) (j : Fin 1024), v5 (ix2 r j) = (a r).y j
  t : ∀ (r : Fin 256) (j : Fin 1024), v83 (ix2 r j) = (a r).t j
  g1 : ∀ j : Fin 1024, v3 (ix2 0 j) = p.g1 j
  nw2 : ∀ j : Fin 1024, v23 (ix2 0 j) = p.nw2 j
  sc2 : ∀ j : Fin 1024, v26 (ix2 0 j) = p.sc2 j
  sh2 : ∀ j : Fin 1024, v31 (ix2 0 j) = p.sh2 j
  g2 : ∀ j : Fin 1024, v4 (ix2 0 j) = p.g2 j
  fw : ∀ j : Fin 1024, v80 (ix2 0 j) = p.fw j
  wo : ∀ k j : Fin 1024, v6 (ix2 k j) = p.wo k j
  gateL : ∀ (k : Fin 1024) (c : Fin 1408), v37 (ix2 k c) = p.wfi k (lo (left c))
  upL : ∀ (k : Fin 1024) (c : Fin 1408), v40 (ix2 k c) = p.wfi k (hi (left c))
  outL : ∀ (c : Fin 1408) (j : Fin 1024), v48 (ix2 c j) = p.wfo (left c) j
  gateR : ∀ (k : Fin 1024) (c : Fin 1408), v52 (ix2 k c) = p.wfi k (lo (right c))
  upR : ∀ (k : Fin 1024) (c : Fin 1408), v55 (ix2 k c) = p.wfi k (hi (right c))
  outR : ∀ (c : Fin 1408) (j : Fin 1024), v63 (ix2 c j) = p.wfo (right c) j

variable {p a v3 v4 v23 v26 v31 v80 v5 v6 v9 v83 v37 v40 v52 v55 v48 v63}

/-! ## The forward pass -/

section Forward
variable (h : Reads p a v3 v4 v23 v26 v31 v80 v5 v6 v9 v83 v37 v40 v52 v55 v48 v63)
include h

theorem mix (r : Fin 256) (j : Fin 1024) : k0_pay5 v5 v6 (ix2 r j) = p.mix (a r) j := by
  unfold k0_pay5; pointwise [dot_S256x1024_S1024x1024_S256x1024_1_0_0_1_n_n, h.y, h.wo]; rfl

theorem x1 (r : Fin 256) (j : Fin 1024) : k0_pay6 v3 v5 v6 v9 (ix2 r j) = p.x1 (a r) j := by
  unfold k0_pay6; pointwise [mix h, h.g1, h.x]; rfl

theorem r2 (r : Fin 256) (i : Fin 1) : k0_pay7 v3 v5 v6 v9 (ix2 r i) = p.r2 (a r) := by
  unfold k0_pay7; pointwise [x1 h]; rfl

theorem xh2 (r : Fin 256) (j : Fin 1024) : k0_pay8 v3 v5 v6 v9 (ix2 r j) = p.xh2 (a r) j := by
  unfold k0_pay8; pointwise [x1 h, r2 h]; rfl

theorem n2 (r : Fin 256) (j : Fin 1024) : k0_pay9 v3 v5 v6 v9 v23 (ix2 r j) = p.n2 (a r) j := by
  unfold k0_pay9; pointwise [xh2 h, h.nw2]; rfl

theorem osc2 (j : Fin 1024) : k0_pay10 v26 (ix2 0 j) = p.osc2 j := by
  unfold k0_pay10; pointwise [h.sc2]; unfold Params.osc2; simp

theorem h2 (r : Fin 256) (j : Fin 1024) : k0_pay11 v3 v5 v6 v9 v23 v26 v31 (ix2 r j) = p.h2 (a r) j := by
  unfold k0_pay11; pointwise [n2 h, osc2 h, h.sh2]; rfl

theorem gateL (r : Fin 256) (c : Fin 1408) :
    k0_pay12 (k0_pay11 v3 v5 v6 v9 v23 v26 v31) v37 (ix2 r c) = p.gate (a r) (left c) := by
  unfold k0_pay12; pointwise [dot_S256x1024_S1024x1408_S256x1408_1_0_0_1_n_n, h2 h, h.gateL]; rfl

theorem upL (r : Fin 256) (c : Fin 1408) :
    k0_pay13 (k0_pay11 v3 v5 v6 v9 v23 v26 v31) v40 (ix2 r c) = p.up (a r) (left c) := by
  unfold k0_pay13; pointwise [dot_S256x1024_S1024x1408_S256x1408_1_0_0_1_n_n, h2 h, h.upL]; rfl

theorem sgL (r : Fin 256) (c : Fin 1408) :
    k0_pay14 (k0_pay11 v3 v5 v6 v9 v23 v26 v31) v37 (ix2 r c) = p.sg (a r) (left c) := by
  unfold k0_pay14; pointwise [gateL h]; rfl

theorem actL (r : Fin 256) (c : Fin 1408) :
    k0_pay15 (k0_pay11 v3 v5 v6 v9 v23 v26 v31) v37 v40 (ix2 r c) = p.act (a r) (left c) := by
  unfold k0_pay15; pointwise [gateL h, sgL h, upL h]; rfl

theorem gateR (r : Fin 256) (c : Fin 1408) :
    k0_pay16 (k0_pay11 v3 v5 v6 v9 v23 v26 v31) v52 (ix2 r c) = p.gate (a r) (right c) := by
  unfold k0_pay16; pointwise [dot_S256x1024_S1024x1408_S256x1408_1_0_0_1_n_n, h2 h, h.gateR]; rfl

theorem upR (r : Fin 256) (c : Fin 1408) :
    k0_pay17 (k0_pay11 v3 v5 v6 v9 v23 v26 v31) v55 (ix2 r c) = p.up (a r) (right c) := by
  unfold k0_pay17; pointwise [dot_S256x1024_S1024x1408_S256x1408_1_0_0_1_n_n, h2 h, h.upR]; rfl

theorem sgR (r : Fin 256) (c : Fin 1408) :
    k0_pay18 (k0_pay11 v3 v5 v6 v9 v23 v26 v31) v52 (ix2 r c) = p.sg (a r) (right c) := by
  unfold k0_pay18; pointwise [gateR h]; rfl

theorem actR (r : Fin 256) (c : Fin 1408) :
    k0_pay19 (k0_pay11 v3 v5 v6 v9 v23 v26 v31) v52 v55 (ix2 r c) = p.act (a r) (right c) := by
  unfold k0_pay19; pointwise [gateR h, sgR h, upR h]; rfl

theorem ff (r : Fin 256) (j : Fin 1024) :
    k0_pay20 (k0_pay11 v3 v5 v6 v9 v23 v26 v31) v37 v40 v48 v52 v55 v63 (ix2 r j) = p.ff (a r) j := by
  unfold k0_pay20
  pointwise [dot_S256x1408_S1408x1024_S256x1024_1_0_0_1_n_n, actL h, actR h, h.outL, h.outR]
  exact (p.ff_blocks (a r) j).symm

end Forward

/-! ## From the feed-forward output to the loss and back

  From here on a value of the forward pass is any block whose rows are known. -/

section Backward
variable {v12 v66 v8 v22 v25 v79 v95 v115 v127 v177 : FVec Ideal S256x1024 .f32} {v20 v77 : FVec Ideal S256x1 .f32}
  {v28 : FVec Ideal S1x1024 .f32}
  {v39 v42 v43 v54 v57 v58 : FVec Ideal S256x1408 .f32} {v125 : FVec Ideal S256x1024 .bf16}
variable (h : Reads p a v3 v4 v23 v26 v31 v80 v5 v6 v9 v83 v37 v40 v52 v55 v48 v63)
include h

section Loss
variable (h12 : ∀ (r : Fin 256) (j : Fin 1024), v12 (ix2 r j) = p.x1 (a r) j)
  (h66 : ∀ (r : Fin 256) (j : Fin 1024), v66 (ix2 r j) = p.ff (a r) j)
include h12 h66

theorem x2 (r : Fin 256) (j : Fin 1024) : k0_pay21 v4 v12 v66 (ix2 r j) = p.x2 (a r) j := by
  unfold k0_pay21; pointwise [h12, h66, h.g2]; rfl

theorem r3 (r : Fin 256) (i : Fin 1) : k0_pay22 v4 v12 v66 (ix2 r i) = p.r3 (a r) := by
  unfold k0_pay22; pointwise [x2 h h12 h66]; rfl

theorem xh3 (r : Fin 256) (j : Fin 1024) : k0_pay23 v4 v12 v66 (ix2 r j) = p.xh3 (a r) j := by
  unfold k0_pay23; pointwise [x2 h h12 h66, r3 h h12 h66]; rfl

theorem err (r : Fin 256) (j : Fin 1024) : k0_pay24 v4 v12 v66 v80 v83 (ix2 r j) = p.err (a r) j := by
  unfold k0_pay24; pointwise [xh3 h h12 h66, h.fw, h.t]; rfl

theorem acc6 (v88 : Vec Ideal S1x1024 .f32) (i : Fin 1) (j : Fin 1024) :
    k0_pay25 v4 v12 v66 v80 v83 v88 (ix2 i j) = v88 (ix2 i j) + ∑ r, p.small (a r) 6 j := by
  unfold k0_pay25; pointwise [err h h12 h66]; rfl

theorem dy (r : Fin 256) (j : Fin 1024) : k0_pay26 v4 v12 v66 v80 v83 (ix2 r j) = p.dy (a r) j := by
  unfold k0_pay26; pointwise [err h h12 h66]; rfl

theorem acc4 (v97 : Vec Ideal S1x1024 .f32) (i : Fin 1) (j : Fin 1024) :
    k0_pay27 v4 v12 v66 v80 v83 v97 (ix2 i j) = v97 (ix2 i j) + ∑ r, p.small (a r) 4 j := by
  unfold k0_pay27; pointwise [dy h h12 h66, xh3 h h12 h66]; rfl

end Loss

section FeedForward
variable (h66 : ∀ (r : Fin 256) (j : Fin 1024), v66 (ix2 r j) = p.ff (a r) j)
  (h77 : ∀ (r : Fin 256) (i : Fin 1), v77 (ix2 r i) = p.r3 (a r))
  (h79 : ∀ (r : Fin 256) (j : Fin 1024), v79 (ix2 r j) = p.xh3 (a r) j)
  (h95 : ∀ (r : Fin 256) (j : Fin 1024), v95 (ix2 r j) = p.dy (a r) j)
include h77 h79 h95

theorem dx2 (r : Fin 256) (j : Fin 1024) : k0_pay28 v77 v79 v95 v80 (ix2 r j) = p.dx2 (a r) j := by
  unfold k0_pay28; pointwise [h77, h79, h95, h.fw]; rfl

include h66 in
theorem acc0 (v117 : Vec Ideal S1x1024 .f32) (i : Fin 1) (j : Fin 1024) :
    k0_pay29 v66 v77 v79 v95 v80 v117 (ix2 i j) = v117 (ix2 i j) + ∑ r, p.small (a r) 0 j := by
  unfold k0_pay29; pointwise [dx2 h h77 h79 h95, h66]; rfl

theorem dff (r : Fin 256) (j : Fin 1024) : k0_pay30 v4 v77 v79 v95 v80 (ix2 r j) = p.dff (a r) j := by
  unfold k0_pay30; pointwise [dx2 h h77 h79 h95, h.g2]; rfl

theorem daL (r : Fin 256) (c : Fin 1408) : k0_pay32 v4 v77 v79 v95 v80 v48 (ix2 r c) = p.da (a r) (left c) := by
  unfold k0_pay32; pointwise [dot_S256x1024_S1408x1024_S256x1408_1_1_0_0_n_n, dff h h77 h79 h95, h.outL]; rfl

variable (h39 : ∀ (r : Fin 256) (c : Fin 1408), v39 (ix2 r c) = p.gate (a r) (left c))
  (h42 : ∀ (r : Fin 256) (c : Fin 1408), v42 (ix2 r c) = p.up (a r) (left c))
  (h43 : ∀ (r : Fin 256) (c : Fin 1408), v43 (ix2 r c) = p.sg (a r) (left c))
include h39 h43

include h42 in
theorem dgateL (r : Fin 256) (c : Fin 1408) :
    k0_pay33 v4 v39 v42 v43 v77 v79 v95 v80 v48 (ix2 r c) = p.dgate (a r) (left c) := by
  unfold k0_pay33; pointwise [daL h h77 h79 h95, h39, h42, h43]; unfold Params.dgate; simp

theorem dupL (r : Fin 256) (c : Fin 1408) :
    k0_pay34 v4 v39 v43 v77 v79 v95 v80 v48 (ix2 r c) = p.dup (a r) (left c) := by
  unfold k0_pay34; pointwise [daL h h77 h79 h95, h39, h43]; rfl

end FeedForward

section Right
variable (h125 : ∀ (r : Fin 256) (j : Fin 1024), v125 (ix2 r j) = p.dff (a r) j)
include h125

theorem daR (r : Fin 256) (c : Fin 1408) : k0_pay35 v125 v63 (ix2 r c) = p.da (a r) (right c) := by
  unfold k0_pay35; pointwise [dot_S256x1024_S1408x1024_S256x1408_1_1_0_0_n_n, h125, h.outR]; rfl

variable (h54 : ∀ (r : Fin 256) (c : Fin 1408), v54 (ix2 r c) = p.gate (a r) (right c))
  (h57 : ∀ (r : Fin 256) (c : Fin 1408), v57 (ix2 r c) = p.up (a r) (right c))
  (h58 : ∀ (r : Fin 256) (c : Fin 1408), v58 (ix2 r c) = p.sg (a r) (right c))
include h54 h58

include h57 in
theorem dgateR (r : Fin 256) (c : Fin 1408) :
    k0_pay36 v54 v57 v58 v125 v63 (ix2 r c) = p.dgate (a r) (right c) := by
  unfold k0_pay36; pointwise [daR h h125, h54, h57, h58]; unfold Params.dgate; simp

theorem dupR (r : Fin 256) (c : Fin 1408) : k0_pay37 v54 v58 v125 v63 (ix2 r c) = p.dup (a r) (right c) := by
  unfold k0_pay37; pointwise [daR h h125, h54, h58]; rfl

include h57 in
theorem dh2 {v139 v142 : FVec Ideal S256x1408 .bf16}
    (h139 : ∀ (r : Fin 256) (c : Fin 1408), v139 (ix2 r c) = p.dgate (a r) (left c))
    (h142 : ∀ (r : Fin 256) (c : Fin 1408), v142 (ix2 r c) = p.dup (a r) (left c)) (r : Fin 256) (j : Fin 1024) :
    k0_pay38 v54 v57 v58 v125 k0_pay31 v139 v142 v37 v40 v63 v52 v55 (ix2 r j) = p.dh2 (a r) j := by
  unfold k0_pay38 k0_pay31
  pointwise [dot_S256x1408_S1024x1408_S256x1024_1_1_0_0_n_n, h139, h142, dgateR h h125 h54 h57 h58, dupR h h125 h54 h58,
    h.gateL, h.upL, h.gateR, h.upR]
  exact (p.dh2_blocks (a r) j).symm

end Right

/-! ## The second norm and the mixers' output product -/

section Norm
variable (h177 : ∀ (r : Fin 256) (j : Fin 1024), v177 (ix2 r j) = p.dh2 (a r) j)

omit h in
include h177 in
theorem acc2 (v178 : Vec Ideal S1x1024 .f32) (i : Fin 1) (j : Fin 1024) :
    k0_pay39 v177 v178 (ix2 i j) = v178 (ix2 i j) + ∑ r, p.small (a r) 2 j := by
  unfold k0_pay39; pointwise [h177]; rfl

omit h in
include h177 in
theorem acc1 (h25 : ∀ (r : Fin 256) (j : Fin 1024), v25 (ix2 r j) = p.n2 (a r) j) (v185 : Vec Ideal S1x1024 .f32)
    (i : Fin 1) (j : Fin 1024) :
    k0_pay40 v25 v177 v185 (ix2 i j) = v185 (ix2 i j) + ∑ r, p.small (a r) 1 j := by
  unfold k0_pay40; pointwise [h177, h25]; rfl

variable (h28 : ∀ j : Fin 1024, v28 (ix2 0 j) = p.osc2 j)
include h177 h28

omit h in
theorem dn2 (r : Fin 256) (j : Fin 1024) : k0_pay41 v28 v177 (ix2 r j) = p.dn2 (a r) j := by
  unfold k0_pay41; pointwise [h177, h28]; rfl

variable (h22 : ∀ (r : Fin 256) (j : Fin 1024), v22 (ix2 r j) = p.xh2 (a r) j)
include h22

omit h in
theorem acc3 (v194 : Vec Ideal S1x1024 .f32) (i : Fin 1) (j : Fin 1024) :
    k0_pay42 v22 v28 v177 v194 (ix2 i j) = v194 (ix2 i j) + ∑ r, p.small (a r) 3 j := by
  unfold k0_pay42; pointwise [dn2 h177 h28, h22]; rfl

variable (h20 : ∀ (r : Fin 256) (i : Fin 1), v20 (ix2 r i) = p.r2 (a r))
  (h115 : ∀ (r : Fin 256) (j : Fin 1024), v115 (ix2 r j) = p.dx2 (a r) j)
include h20 h115

theorem dx1 (r : Fin 256) (j : Fin 1024) : k0_pay43 v20 v22 v28 v115 v177 v23 (ix2 r j) = p.dx1 (a r) j := by
  unfold k0_pay43; pointwise [dn2 h177 h28, h22, h20, h115, h.nw2]; rfl

theorem dx1mix (h8 : ∀ (r : Fin 256) (j : Fin 1024), v8 (ix2 r j) = p.mix (a r) j) (r : Fin 256) (j : Fin 1024) :
    k0_pay44 v8 v20 v22 v28 v115 v177 v23 (ix2 r j) = p.small (a r) 5 j := by
  unfold k0_pay44; pointwise [dx1 h h177 h28 h22 h20 h115, h8]; rfl

end Norm

section Out
variable {v213 v214 : FVec Ideal S256x1024 .f32} (h213 : ∀ (r : Fin 256) (j : Fin 1024), v213 (ix2 r j) = p.dx1 (a r) j)

omit h in
theorem acc5 (h214 : ∀ (r : Fin 256) (j : Fin 1024), v214 (ix2 r j) = p.small (a r) 5 j) (v215 : Vec Ideal S1x1024 .f32)
    (i : Fin 1) (j : Fin 1024) :
    k0_pay1 v214 v215 (ix2 i j) = v215 (ix2 i j) + ∑ r, p.small (a r) 5 j := by
  unfold k0_pay1; pointwise [h214]

include h213

theorem dmix (r : Fin 256) (j : Fin 1024) : k0_pay2 v3 v213 (ix2 r j) = p.dmix (a r) j := by
  unfold k0_pay2; pointwise [h213, h.g1]; rfl

theorem dY (r : Fin 256) (k : Fin 1024) : k0_pay3 v3 v213 v6 (ix2 r k) = p.dY (a r) k := by
  unfold k0_pay3; pointwise [dot_S256x1024_S1024x1024_S256x1024_1_1_0_0_n_n, dmix h h213, h.wo]; rfl

end Out

end Backward

end Cert.KernelIdeal.Row
-- ==== Proof.Stores.lean ====
/-
  Reading back a list of stores into a matrix at one of its entries: under the newest store's rectangle the entry is the
  stored block's, outside it the entry is what the older stores left.
-/
module

public import Idealize.ShloMosaic.Lib.WritesUnit
public import Idealize.ShloMosaic.Lib.Pointwise

@[expose] public section

namespace Cert.Stores

open Idealize.ShloMosaic

variable {Val : EltTy → Type} {sig : RefSig} {κ : Kind} {sp : Space} {n m : Nat} {e : EltTy}
variable (v : View sig κ sp (⟨2, ![n, m]⟩ : Shape) e) (f : v.ty.Contents Val)
variable {o0 o1 s0 s1 : Nat} (inb : ∀ a, (![o0, o1] : Fin 2 → Nat) a + (![s0, s1] : Fin 2 → Nat) a ≤ (![n, m] : Fin 2 → Nat) a)
  (w : (Rect.unit (s := (⟨2, ![n, m]⟩ : Shape)) ![o0, o1] ![s0, s1] inb).shape.Idx → Val e)
  (L : List (View.Piece Val (⟨2, ![n, m]⟩ : Shape) e))

/-- An entry the newest store covers. -/
theorem hit (i : Fin n) (j : Fin m) (i' : Fin s0) (j' : Fin s1) (hi : i.val = o0 + i'.val) (hj : j.val = o1 + j'.val) :
    v.read Val (v.writes Val f ((⟨Rect.unit ![o0, o1] ![s0, s1] inb, w⟩ : View.Piece Val (⟨2, ![n, m]⟩ : Shape) e) :: L)) (ix2 i j)
      = w (ix2 i' j') :=
  View.read_writes_cons_unit_of_mem v f inb w L (ix2 i j) (ix2 i' j') rfl fun a => by
    match a with
    | ⟨0, _⟩ => exact hi
    | ⟨1, _⟩ => exact hj

/-- An entry of a row the newest store does not touch. -/
theorem miss_row (i : Fin n) (j : Fin m) (hi : i.val < o0 ∨ o0 + s0 ≤ i.val) :
    v.read Val (v.writes Val f ((⟨Rect.unit ![o0, o1] ![s0, s1] inb, w⟩ : View.Piece Val (⟨2, ![n, m]⟩ : Shape) e) :: L)) (ix2 i j)
      = v.read Val (v.writes Val f L) (ix2 i j) :=
  View.read_writes_cons_unit_of_not_mem v f inb w L (ix2 i j) rfl 0 hi

/-- An entry of a column the newest store does not touch. -/
theorem miss_col (i : Fin n) (j : Fin m) (hj : j.val < o1 ∨ o1 + s1 ≤ j.val) :
    v.read Val (v.writes Val f ((⟨Rect.unit ![o0, o1] ![s0, s1] inb, w⟩ : View.Piece Val (⟨2, ![n, m]⟩ : Shape) e) :: L)) (ix2 i j)
      = v.read Val (v.writes Val f L) (ix2 i j) :=
  View.read_writes_cons_unit_of_not_mem v f inb w L (ix2 i j) rfl 1 hj

/-- A load out of a matrix held whole, at an entry. -/
theorem load {F : FTy → Type} [FloatOps F] {sig : RefSig} {sp : Space} {e : EltTy} (b : Memref sig .tc sp (⟨2, ![n, m]⟩ : Shape) e)
    (hb : b.IsWhole) (x : Vec F (⟨2, ![n, m]⟩ : Shape) e) (i' : Fin s0) (j' : Fin s1) (i : Fin n) (j : Fin m)
    (hi : i.val = o0 + i'.val) (hj : j.val = o1 + j'.val) :
    View.readAt (Elt F) b.view (Rect.unit (s := (⟨2, ![n, m]⟩ : Shape)) ![o0, o1] ![s0, s1] inb).toLoadRect (hb.unread x) (ix2 i' j')
      = x (ix2 i j) := by
  rw [View.readAt_apply, hb.read_unread]
  congr 1
  funext a
  refine Fin.ext ?_
  match a with
  | ⟨0, _⟩ => exact (show o0 + 1 * i'.val = i.val by omega)
  | ⟨1, _⟩ => exact (show o1 + 1 * j'.val = j.val by omega)

/-- A load out of a matrix known by its stores, at an entry. -/
theorem cov [∀ e, Nonempty (Val e)] (v : View sig κ sp (⟨2, ![n, m]⟩ : Shape) e) (i' : Fin s0) (j' : Fin s1) (i : Fin n) (j : Fin m)
    (hi : i.val = o0 + i'.val) (hj : j.val = o1 + j'.val) :
    v.readCov L (Rect.unit (s := (⟨2, ![n, m]⟩ : Shape)) ![o0, o1] ![s0, s1] inb).toLoadRect (ix2 i' j')
      = v.read Val (v.writes Val v.junk L) (ix2 i j) := by
  show v.read Val (v.writes Val v.junk L) _ = _
  congr 1
  funext a
  refine Fin.ext ?_
  match a with
  | ⟨0, _⟩ => exact (show o0 + 1 * i'.val = i.val by omega)
  | ⟨1, _⟩ => exact (show o1 + 1 * j'.val = j.val by omega)

end Cert.Stores
-- ==== Proof.Block.lean ====
/-
  What one grid point reads: the twelve operand blocks of a point are the rows of 256 tokens and the parameters, and the
  body's sixteen loads are these blocks or their parts.
-/
module

public import proofs.«01_k».proof.Proof.Payloads
public import proofs.«01_k».proof.Proof.Stores
public import proofs.«01_k».proof.Proof.Gen.KernelIdeal.Frame
public import Idealize.ShloMosaic.Lib.Tactic

@[expose] public section

noncomputable section

namespace Cert.KernelIdeal.Block

open Idealize.ShloMosaic Idealize.ShloMosaic.TcCoe
open Cert.KernelIdeal Cert.KernelIdeal.Gen Step

variable (p : Params) (a : Fin 256 → Token)

/-- The operand blocks of a point hold the tokens' rows and the parameters. -/
structure Holds (x0 : Vec Ideal S256x1024 .f32) (x1 : Vec Ideal S256x1024 .bf16) (x2 : Vec Ideal S256x1024 .f32)
    (x3 : Vec Ideal S1x1024 .f32) (x4 : Vec Ideal S1x1024 .f32) (x5 : Vec Ideal S1x1024 .f32)
    (x6 : Vec Ideal S1x1024 .f32) (x7 : Vec Ideal S1x1024 .f32) (x8 : Vec Ideal S1x1024 .f32)
    (x9 : Vec Ideal S1024x1024 .bf16) (x10 : Vec Ideal S1024x5632 .bf16) (x11 : Vec Ideal S2816x1024 .bf16) : Prop where
  x : ∀ (r : Fin 256) (j : Fin 1024), x0 (ix2 r j) = (a r).x j
  y : ∀ (r : Fin 256) (j : Fin 1024), x1 (ix2 r j) = (a r).y j
  t : ∀ (r : Fin 256) (j : Fin 1024), x2 (ix2 r j) = (a r).t j
  g1 : ∀ j : Fin 1024, x3 (ix2 0 j) = p.g1 j
  nw2 : ∀ j : Fin 1024, x4 (ix2 0 j) = p.nw2 j
  sc2 : ∀ j : Fin 1024, x5 (ix2 0 j) = p.sc2 j
  sh2 : ∀ j : Fin 1024, x6 (ix2 0 j) = p.sh2 j
  g2 : ∀ j : Fin 1024, x7 (ix2 0 j) = p.g2 j
  fw : ∀ j : Fin 1024, x8 (ix2 0 j) = p.fw j
  wo : ∀ k j : Fin 1024, x9 (ix2 k j) = p.wo k j
  wfi : ∀ (k : Fin 1024) (c : Fin 5632), x10 (ix2 k c) = p.wfi k c
  wfo : ∀ (c : Fin 2816) (j : Fin 1024), x11 (ix2 c j) = p.wfo c j

variable {p a}

section
variable (c : Dev nD) (i : grid0.Coords)
variable (arg1 : Memref sig .tc .vmem S256x1024 .f32) (harg1 : arg1.IsWhole)
  (arg2 : Memref sig .tc .vmem S256x1024 .bf16) (harg2 : arg2.IsWhole) (arg3 : Memref sig .tc .vmem S256x1024 .f32)
  (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S1x1024 .f32)
  (harg6 : arg6.IsWhole) (arg7 : Memref sig .tc .vmem S1x1024 .f32) (harg7 : arg7.IsWhole)
  (arg8 : Memref sig .tc .vmem S1x1024 .f32) (harg8 : arg8.IsWhole) (arg9 : Memref sig .tc .vmem S1x1024 .f32)
  (harg9 : arg9.IsWhole) (arg10 : Memref sig .tc .vmem S1024x1024 .bf16) (harg10 : arg10.IsWhole)
  (arg11 : Memref sig .tc .vmem S1024x5632 .bf16) (harg11 : arg11.IsWhole)
  (arg12 : Memref sig .tc .vmem S2816x1024 .bf16) (harg12 : arg12.IsWhole)
variable (arg13 : Memref sig .tc .vmem S256x1024 .f32) (harg13 : arg13.IsWhole)
  (arg14 : Memref sig .tc .vmem S256x1024 .f32) (harg14 : arg14.IsWhole)
  (arg15 : Memref sig .tc .vmem S256x1024 .bf16) (harg15 : arg15.IsWhole)
  (arg16 : Memref sig .tc .vmem S256x2816 .bf16) (harg16 : arg16.IsWhole)
  (arg17 : Memref sig .tc .vmem S256x1024 .bf16) (harg17 : arg17.IsWhole)
  (arg18 : Memref sig .tc .vmem S256x5632 .bf16) (harg18 : arg18.IsWhole)
  (arg19 : Memref sig .tc .vmem S256x1024 .bf16) (harg19 : arg19.IsWhole) (arg20 : Memref sig .tc .vmem S8x1024 .f32)
  (harg20 : arg20.IsWhole)
variable {x0 : Vec Ideal S256x1024 .f32} {x1 : Vec Ideal S256x1024 .bf16} {x2 : Vec Ideal S256x1024 .f32} {x3 : Vec
  Ideal S1x1024 .f32} {x4 : Vec Ideal S1x1024 .f32} {x5 : Vec Ideal S1x1024 .f32} {x6 : Vec Ideal S1x1024 .f32} {x7 :
  Vec Ideal S1x1024 .f32} {x8 : Vec Ideal S1x1024 .f32} {x9 : Vec Ideal S1024x1024 .bf16} {x10 : Vec Ideal S1024x5632
  .bf16} {x11 : Vec Ideal S2816x1024 .bf16}
variable (h : Holds p a x0 x1 x2 x3 x4 x5 x6 x7 x8 x9 x10 x11)
include h

/-- The sixteen loads of the operand blocks. -/
theorem reads : Row.Reads p a
    (View.readAt (Elt Ideal) arg4.view (Rect.unit ![0, 0] S1x1024.size inb_S1x1024_S1x1024_0_0).toLoadRect (harg4.unread x3))
    (View.readAt (Elt Ideal) arg8.view (Rect.unit ![0, 0] S1x1024.size inb_S1x1024_S1x1024_0_0).toLoadRect (harg8.unread x7))
    (View.readAt (Elt Ideal) arg5.view (Rect.unit ![0, 0] S1x1024.size inb_S1x1024_S1x1024_0_0).toLoadRect (harg5.unread x4))
    (View.readAt (Elt Ideal) arg6.view (Rect.unit ![0, 0] S1x1024.size inb_S1x1024_S1x1024_0_0).toLoadRect (harg6.unread x5))
    (View.readAt (Elt Ideal) arg7.view (Rect.unit ![0, 0] S1x1024.size inb_S1x1024_S1x1024_0_0).toLoadRect (harg7.unread x6))
    (View.readAt (Elt Ideal) arg9.view (Rect.unit ![0, 0] S1x1024.size inb_S1x1024_S1x1024_0_0).toLoadRect (harg9.unread x8))
    (View.readAt (Elt Ideal) arg2.view (Rect.unit ![0, 0] S256x1024.size inb_S256x1024_S256x1024_0_0).toLoadRect (harg2.unread x1))
    (View.readAt (Elt Ideal) arg10.view (Rect.unit ![0, 0] S1024x1024.size inb_S1024x1024_S1024x1024_0_0).toLoadRect (harg10.unread x9))
    (View.readAt (Elt Ideal) arg1.view (Rect.unit ![0, 0] S256x1024.size inb_S256x1024_S256x1024_0_0).toLoadRect (harg1.unread x0))
    (View.readAt (Elt Ideal) arg3.view (Rect.unit ![0, 0] S256x1024.size inb_S256x1024_S256x1024_0_0).toLoadRect (harg3.unread x2))
    (View.readAt (Elt Ideal) arg11.view (Rect.unit (s := S1024x5632) ![0, 0] S1024x1408.size inb_S1024x5632_S1024x1408_0_0).toLoadRect (harg11.unread x10))
    (View.readAt (Elt Ideal) arg11.view (Rect.unit (s := S1024x5632) ![0, 2816] S1024x1408.size inb_S1024x5632_S1024x1408_0_2816).toLoadRect (harg11.unread x10))
    (View.readAt (Elt Ideal) arg11.view (Rect.unit (s := S1024x5632) ![0, 1408] S1024x1408.size inb_S1024x5632_S1024x1408_0_1408).toLoadRect (harg11.unread x10))
    (View.readAt (Elt Ideal) arg11.view (Rect.unit (s := S1024x5632) ![0, 4224] S1024x1408.size inb_S1024x5632_S1024x1408_0_4224).toLoadRect (harg11.unread x10))
    (View.readAt (Elt Ideal) arg12.view (Rect.unit (s := S2816x1024) ![0, 0] S1408x1024.size inb_S2816x1024_S1408x1024_0_0).toLoadRect (harg12.unread x11))
    (View.readAt (Elt Ideal) arg12.view (Rect.unit (s := S2816x1024) ![1408, 0] S1408x1024.size inb_S2816x1024_S1408x1024_1408_0).toLoadRect (harg12.unread x11)) where
  x r j := (Stores.load _ _ _ _ r j r j (by omega) (by omega)).trans (h.x r j)
  y r j := (Stores.load _ _ _ _ r j r j (by omega) (by omega)).trans (h.y r j)
  t r j := (Stores.load _ _ _ _ r j r j (by omega) (by omega)).trans (h.t r j)
  g1 j := (Stores.load _ _ _ _ 0 j 0 j (by omega) (by omega)).trans (h.g1 j)
  nw2 j := (Stores.load _ _ _ _ 0 j 0 j (by omega) (by omega)).trans (h.nw2 j)
  sc2 j := (Stores.load _ _ _ _ 0 j 0 j (by omega) (by omega)).trans (h.sc2 j)
  sh2 j := (Stores.load _ _ _ _ 0 j 0 j (by omega) (by omega)).trans (h.sh2 j)
  g2 j := (Stores.load _ _ _ _ 0 j 0 j (by omega) (by omega)).trans (h.g2 j)
  fw j := (Stores.load _ _ _ _ 0 j 0 j (by omega) (by omega)).trans (h.fw j)
  wo k j := (Stores.load _ _ _ _ k j k j (by omega) (by omega)).trans (h.wo k j)
  gateL k c := (Stores.load _ _ _ _ k c k (lo (left c)) (by omega) (by simp [lo, left]; try omega)).trans (h.wfi k _)
  upL k c := (Stores.load _ _ _ _ k c k (hi (left c)) (by omega) (by simp [hi, left]; try omega)).trans (h.wfi k _)
  gateR k c := (Stores.load _ _ _ _ k c k (lo (right c)) (by omega) (by simp [lo, right]; try omega)).trans (h.wfi k _)
  upR k c := (Stores.load _ _ _ _ k c k (hi (right c)) (by omega) (by simp [hi, right]; try omega)).trans (h.wfi k _)
  outL c j := (Stores.load _ _ _ _ c j (left c) j (by simp [left]) (by omega)).trans (h.wfo _ j)
  outR c j := (Stores.load _ _ _ _ c j (right c) j (by simp [right]) (by omega)).trans (h.wfo _ j)

end

/-- A column of the hidden layer lies in one of the two blocks. -/
theorem left_or_right (q : Fin 2816) : (∃ e, q = left e) ∨ (∃ e, q = right e) := by
  by_cases hq : q.val < 1408
  · exact Or.inl ⟨⟨q.val, hq⟩, rfl⟩
  · exact Or.inr ⟨⟨q.val - 1408, by omega⟩, Fin.ext (by simp only [right]; omega)⟩

/-- A column of the gate and linear halves lies in one of them. -/
theorem lo_or_hi (q : Fin 5632) : (∃ d, q = lo d) ∨ (∃ d, q = hi d) := by
  by_cases hq : q.val < 2816
  · exact Or.inl ⟨⟨q.val, hq⟩, rfl⟩
  · exact Or.inr ⟨⟨q.val - 2816, by omega⟩, Fin.ext (by simp only [hi]; omega)⟩

end Cert.KernelIdeal.Block
-- ==== Proof.First.lean ====
/-
  What the first grid point leaves: every output block holds at `(r, j)` the quantity of `Step` of token `r`, and the
  accumulated rows hold the tokens' contributions.
-/
module

public import proofs.«01_k».proof.Proof.Block
public import Idealize.ShloMosaic.Lib.Tactic

@[expose] public section

noncomputable section

namespace Cert.KernelIdeal.Block

open Idealize.ShloMosaic Idealize.ShloMosaic.TcCoe
open Cert.KernelIdeal Cert.KernelIdeal.Gen Step

variable {p : Params} {a : Fin 256 → Token}

/-! ## The first point -/

section First

/-- What the first point stores before it adds anything. -/
theorem zero_pay (i : Fin 8) (j : Fin 1024) : (k0_pay4 : FVec Ideal S8x1024 .f32) (ix2 i j) = 0 := by
  unfold k0_pay4; pointwise

variable (c : Dev nD) (i : grid0.Coords)
variable (arg1 : Memref sig .tc .vmem S256x1024 .f32) (harg1 : arg1.IsWhole)
  (arg2 : Memref sig .tc .vmem S256x1024 .bf16) (harg2 : arg2.IsWhole) (arg3 : Memref sig .tc .vmem S256x1024 .f32)
  (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S1x1024 .f32)
  (harg6 : arg6.IsWhole) (arg7 : Memref sig .tc .vmem S1x1024 .f32) (harg7 : arg7.IsWhole)
  (arg8 : Memref sig .tc .vmem S1x1024 .f32) (harg8 : arg8.IsWhole) (arg9 : Memref sig .tc .vmem S1x1024 .f32)
  (harg9 : arg9.IsWhole) (arg10 : Memref sig .tc .vmem S1024x1024 .bf16) (harg10 : arg10.IsWhole)
  (arg11 : Memref sig .tc .vmem S1024x5632 .bf16) (harg11 : arg11.IsWhole)
  (arg12 : Memref sig .tc .vmem S2816x1024 .bf16) (harg12 : arg12.IsWhole)
variable (arg13 : Memref sig .tc .vmem S256x1024 .f32) (harg13 : arg13.IsWhole)
  (arg14 : Memref sig .tc .vmem S256x1024 .f32) (harg14 : arg14.IsWhole)
  (arg15 : Memref sig .tc .vmem S256x1024 .bf16) (harg15 : arg15.IsWhole)
  (arg16 : Memref sig .tc .vmem S256x2816 .bf16) (harg16 : arg16.IsWhole)
  (arg17 : Memref sig .tc .vmem S256x1024 .bf16) (harg17 : arg17.IsWhole)
  (arg18 : Memref sig .tc .vmem S256x5632 .bf16) (harg18 : arg18.IsWhole)
  (arg19 : Memref sig .tc .vmem S256x1024 .bf16) (harg19 : arg19.IsWhole) (arg20 : Memref sig .tc .vmem S8x1024 .f32)
  (harg20 : arg20.IsWhole)
variable (hc0 : cond0_0 i)
variable {x0 : Vec Ideal S256x1024 .f32} {x1 : Vec Ideal S256x1024 .bf16} {x2 : Vec Ideal S256x1024 .f32} {x3 : Vec
  Ideal S1x1024 .f32} {x4 : Vec Ideal S1x1024 .f32} {x5 : Vec Ideal S1x1024 .f32} {x6 : Vec Ideal S1x1024 .f32} {x7 :
  Vec Ideal S1x1024 .f32} {x8 : Vec Ideal S1x1024 .f32} {x9 : Vec Ideal S1024x1024 .bf16} {x10 : Vec Ideal S1024x5632
  .bf16} {x11 : Vec Ideal S2816x1024 .bf16}
variable (h : Holds p a x0 x1 x2 x3 x4 x5 x6 x7 x8 x9 x10 x11)
include h

theorem first_dY (r : Fin 256) (j : Fin 1024) : out0_A_12 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 (ix2 r j) = p.dY (a r) j := by
  have R := reads arg1 harg1 arg2 harg2 arg3 harg3 arg4 harg4 arg5 harg5 arg6 harg6 arg7 harg7 arg8 harg8 arg9 harg9
      arg10 harg10 arg11 harg11 arg12 harg12 h
  have r3 := Row.r3 R (Row.x1 R) (Row.ff R)
  have xh3 := Row.xh3 R (Row.x1 R) (Row.ff R)
  have dy := Row.dy R (Row.x1 R) (Row.ff R)
  have dff := Row.dff R r3 xh3 dy
  have dgateL := Row.dgateL R r3 xh3 dy (Row.gateL R) (Row.upL R) (Row.sgL R)
  have dupL := Row.dupL R r3 xh3 dy (Row.gateL R) (Row.sgL R)
  have dh2 := Row.dh2 R dff (Row.gateR R) (Row.upR R) (Row.sgR R) dgateL dupL
  have dx2 := Row.dx2 R r3 xh3 dy
  have dx1 := Row.dx1 R dh2 (Row.osc2 R) (Row.xh2 R) (Row.r2 R) dx2
  have dY := Row.dY R dx1
  unfold out0_A_12 kernelRun0_A
  exact (Stores.hit _ _ _ _ _ _ _ _ _ (Nat.zero_add _).symm (Nat.zero_add _).symm).trans (dY r j)

theorem first_dx1 (r : Fin 256) (j : Fin 1024) : out0_A_13 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 (ix2 r j) = p.dx1 (a r) j := by
  have R := reads arg1 harg1 arg2 harg2 arg3 harg3 arg4 harg4 arg5 harg5 arg6 harg6 arg7 harg7 arg8 harg8 arg9 harg9
      arg10 harg10 arg11 harg11 arg12 harg12 h
  have r3 := Row.r3 R (Row.x1 R) (Row.ff R)
  have xh3 := Row.xh3 R (Row.x1 R) (Row.ff R)
  have dy := Row.dy R (Row.x1 R) (Row.ff R)
  have dff := Row.dff R r3 xh3 dy
  have dgateL := Row.dgateL R r3 xh3 dy (Row.gateL R) (Row.upL R) (Row.sgL R)
  have dupL := Row.dupL R r3 xh3 dy (Row.gateL R) (Row.sgL R)
  have dh2 := Row.dh2 R dff (Row.gateR R) (Row.upR R) (Row.sgR R) dgateL dupL
  have dx2 := Row.dx2 R r3 xh3 dy
  have dx1 := Row.dx1 R dh2 (Row.osc2 R) (Row.xh2 R) (Row.r2 R) dx2
  unfold out0_A_13 kernelRun0_A
  exact (Stores.hit _ _ _ _ _ _ _ _ _ (Nat.zero_add _).symm (Nat.zero_add _).symm).trans (dx1 r j)

theorem first_h2 (r : Fin 256) (j : Fin 1024) : out0_A_14 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 (ix2 r j) = p.h2 (a r) j := by
  have R := reads arg1 harg1 arg2 harg2 arg3 harg3 arg4 harg4 arg5 harg5 arg6 harg6 arg7 harg7 arg8 harg8 arg9 harg9
      arg10 harg10 arg11 harg11 arg12 harg12 h
  unfold out0_A_14 kernelRun0_A
  exact (Stores.hit _ _ _ _ _ _ _ _ _ (Nat.zero_add _).symm (Nat.zero_add _).symm).trans (Row.h2 R r j)

theorem first_dff (r : Fin 256) (j : Fin 1024) : out0_A_16 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 (ix2 r j) = p.dff (a r) j := by
  have R := reads arg1 harg1 arg2 harg2 arg3 harg3 arg4 harg4 arg5 harg5 arg6 harg6 arg7 harg7 arg8 harg8 arg9 harg9
      arg10 harg10 arg11 harg11 arg12 harg12 h
  have r3 := Row.r3 R (Row.x1 R) (Row.ff R)
  have xh3 := Row.xh3 R (Row.x1 R) (Row.ff R)
  have dy := Row.dy R (Row.x1 R) (Row.ff R)
  have dff := Row.dff R r3 xh3 dy
  unfold out0_A_16 kernelRun0_A
  exact (Stores.hit _ _ _ _ _ _ _ _ _ (Nat.zero_add _).symm (Nat.zero_add _).symm).trans (dff r j)

theorem first_dmix (r : Fin 256) (j : Fin 1024) : out0_A_18 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 (ix2 r j) = p.dmix (a r) j := by
  have R := reads arg1 harg1 arg2 harg2 arg3 harg3 arg4 harg4 arg5 harg5 arg6 harg6 arg7 harg7 arg8 harg8 arg9 harg9
      arg10 harg10 arg11 harg11 arg12 harg12 h
  have r3 := Row.r3 R (Row.x1 R) (Row.ff R)
  have xh3 := Row.xh3 R (Row.x1 R) (Row.ff R)
  have dy := Row.dy R (Row.x1 R) (Row.ff R)
  have dff := Row.dff R r3 xh3 dy
  have dgateL := Row.dgateL R r3 xh3 dy (Row.gateL R) (Row.upL R) (Row.sgL R)
  have dupL := Row.dupL R r3 xh3 dy (Row.gateL R) (Row.sgL R)
  have dh2 := Row.dh2 R dff (Row.gateR R) (Row.upR R) (Row.sgR R) dgateL dupL
  have dx2 := Row.dx2 R r3 xh3 dy
  have dx1 := Row.dx1 R dh2 (Row.osc2 R) (Row.xh2 R) (Row.r2 R) dx2
  have dmix := Row.dmix R dx1
  unfold out0_A_18 kernelRun0_A
  exact (Stores.hit _ _ _ _ _ _ _ _ _ (Nat.zero_add _).symm (Nat.zero_add _).symm).trans (dmix r j)

theorem first_act_right (r : Fin 256) (cc : Fin 1408) : out0_A_15 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 (ix2 r (right cc)) = p.act (a r) (right cc) := by
  have R := reads arg1 harg1 arg2 harg2 arg3 harg3 arg4 harg4 arg5 harg5 arg6 harg6 arg7 harg7 arg8 harg8 arg9 harg9
      arg10 harg10 arg11 harg11 arg12 harg12 h
  unfold out0_A_15 kernelRun0_A
  exact (Stores.hit _ _ _ _ _ _ _ r cc (Nat.zero_add _).symm (by simp [left, right, lo, hi]; try omega)).trans (Row.actR R r cc)

theorem first_act_left (r : Fin 256) (cc : Fin 1408) : out0_A_15 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 (ix2 r (left cc)) = p.act (a r) (left cc) := by
  have R := reads arg1 harg1 arg2 harg2 arg3 harg3 arg4 harg4 arg5 harg5 arg6 harg6 arg7 harg7 arg8 harg8 arg9 harg9
      arg10 harg10 arg11 harg11 arg12 harg12 h
  unfold out0_A_15 kernelRun0_A
  refine (Stores.miss_col _ _ _ _ _ _ _ (by have := cc.isLt; simp only [left, right, lo, hi]; omega)).trans ?_
  exact (Stores.hit _ _ _ _ _ _ _ r cc (Nat.zero_add _).symm (by simp [left, right, lo, hi]; try omega)).trans (Row.actL R r cc)

theorem first_dup_right (r : Fin 256) (cc : Fin 1408) : out0_A_17 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 (ix2 r (hi (right cc))) = p.dup (a r) (right cc) := by
  have R := reads arg1 harg1 arg2 harg2 arg3 harg3 arg4 harg4 arg5 harg5 arg6 harg6 arg7 harg7 arg8 harg8 arg9 harg9
      arg10 harg10 arg11 harg11 arg12 harg12 h
  have r3 := Row.r3 R (Row.x1 R) (Row.ff R)
  have xh3 := Row.xh3 R (Row.x1 R) (Row.ff R)
  have dy := Row.dy R (Row.x1 R) (Row.ff R)
  have dff := Row.dff R r3 xh3 dy
  have dupR := Row.dupR R dff (Row.gateR R) (Row.sgR R)
  unfold out0_A_17 kernelRun0_A
  exact (Stores.hit _ _ _ _ _ _ _ r cc (Nat.zero_add _).symm (by simp [left, right, lo, hi]; try omega)).trans (dupR r cc)

theorem first_dgate_right (r : Fin 256) (cc : Fin 1408) : out0_A_17 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 (ix2 r (lo (right cc))) = p.dgate (a r) (right cc) := by
  have R := reads arg1 harg1 arg2 harg2 arg3 harg3 arg4 harg4 arg5 harg5 arg6 harg6 arg7 harg7 arg8 harg8 arg9 harg9
      arg10 harg10 arg11 harg11 arg12 harg12 h
  have r3 := Row.r3 R (Row.x1 R) (Row.ff R)
  have xh3 := Row.xh3 R (Row.x1 R) (Row.ff R)
  have dy := Row.dy R (Row.x1 R) (Row.ff R)
  have dff := Row.dff R r3 xh3 dy
  have dgateR := Row.dgateR R dff (Row.gateR R) (Row.upR R) (Row.sgR R)
  unfold out0_A_17 kernelRun0_A
  refine (Stores.miss_col _ _ _ _ _ _ _ (by have := cc.isLt; simp only [left, right, lo, hi]; omega)).trans ?_
  exact (Stores.hit _ _ _ _ _ _ _ r cc (Nat.zero_add _).symm (by simp [left, right, lo, hi]; try omega)).trans (dgateR r cc)

theorem first_dup_left (r : Fin 256) (cc : Fin 1408) : out0_A_17 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 (ix2 r (hi (left cc))) = p.dup (a r) (left cc) := by
  have R := reads arg1 harg1 arg2 harg2 arg3 harg3 arg4 harg4 arg5 harg5 arg6 harg6 arg7 harg7 arg8 harg8 arg9 harg9
      arg10 harg10 arg11 harg11 arg12 harg12 h
  have r3 := Row.r3 R (Row.x1 R) (Row.ff R)
  have xh3 := Row.xh3 R (Row.x1 R) (Row.ff R)
  have dy := Row.dy R (Row.x1 R) (Row.ff R)
  have dupL := Row.dupL R r3 xh3 dy (Row.gateL R) (Row.sgL R)
  unfold out0_A_17 kernelRun0_A
  refine (Stores.miss_col _ _ _ _ _ _ _ (by have := cc.isLt; simp only [left, right, lo, hi]; omega)).trans ?_
  refine (Stores.miss_col _ _ _ _ _ _ _ (by have := cc.isLt; simp only [left, right, lo, hi]; omega)).trans ?_
  exact (Stores.hit _ _ _ _ _ _ _ r cc (Nat.zero_add _).symm (by simp [left, right, lo, hi]; try omega)).trans (dupL r cc)

theorem first_dgate_left (r : Fin 256) (cc : Fin 1408) : out0_A_17 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 (ix2 r (lo (left cc))) = p.dgate (a r) (left cc) := by
  have R := reads arg1 harg1 arg2 harg2 arg3 harg3 arg4 harg4 arg5 harg5 arg6 harg6 arg7 harg7 arg8 harg8 arg9 harg9
      arg10 harg10 arg11 harg11 arg12 harg12 h
  have r3 := Row.r3 R (Row.x1 R) (Row.ff R)
  have xh3 := Row.xh3 R (Row.x1 R) (Row.ff R)
  have dy := Row.dy R (Row.x1 R) (Row.ff R)
  have dgateL := Row.dgateL R r3 xh3 dy (Row.gateL R) (Row.upL R) (Row.sgL R)
  unfold out0_A_17 kernelRun0_A
  refine (Stores.miss_col _ _ _ _ _ _ _ (by have := cc.isLt; simp only [left, right, lo, hi]; omega)).trans ?_
  refine (Stores.miss_col _ _ _ _ _ _ _ (by have := cc.isLt; simp only [left, right, lo, hi]; omega)).trans ?_
  refine (Stores.miss_col _ _ _ _ _ _ _ (by have := cc.isLt; simp only [left, right, lo, hi]; omega)).trans ?_
  exact (Stores.hit _ _ _ _ _ _ _ r cc (Nat.zero_add _).symm (by simp [left, right, lo, hi]; try omega)).trans (dgateL r cc)

theorem first_acc5 (j : Fin 1024) : out0_A_19 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 (ix2 5 j) = ∑ r, p.small (a r) 5 j := by
  have R := reads arg1 harg1 arg2 harg2 arg3 harg3 arg4 harg4 arg5 harg5 arg6 harg6 arg7 harg7 arg8 harg8 arg9 harg9
      arg10 harg10 arg11 harg11 arg12 harg12 h
  have r3 := Row.r3 R (Row.x1 R) (Row.ff R)
  have xh3 := Row.xh3 R (Row.x1 R) (Row.ff R)
  have dy := Row.dy R (Row.x1 R) (Row.ff R)
  have dff := Row.dff R r3 xh3 dy
  have dgateL := Row.dgateL R r3 xh3 dy (Row.gateL R) (Row.upL R) (Row.sgL R)
  have dupL := Row.dupL R r3 xh3 dy (Row.gateL R) (Row.sgL R)
  have dh2 := Row.dh2 R dff (Row.gateR R) (Row.upR R) (Row.sgR R) dgateL dupL
  have dx2 := Row.dx2 R r3 xh3 dy
  have dx1mix := Row.dx1mix R dh2 (Row.osc2 R) (Row.xh2 R) (Row.r2 R) dx2 (Row.mix R)
  have acc5 := Row.acc5 dx1mix
  unfold out0_A_19 kernelRun0_A
  refine (Stores.hit _ _ _ _ _ _ _ 0 j rfl (Nat.zero_add _).symm).trans ((acc5 _ 0 j).trans ?_)
  refine (congrArg (· + _) ?_).trans (zero_add _)
  unfold kernelRun0_A.sl.v215
  refine (Stores.cov _ _ _ 0 j 5 j rfl (Nat.zero_add _).symm).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.hit _ _ _ _ _ _ _ 5 j rfl (Nat.zero_add _).symm).trans ?_
  exact zero_pay 5 j

theorem first_acc3 (j : Fin 1024) : out0_A_19 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 (ix2 3 j) = ∑ r, p.small (a r) 3 j := by
  have R := reads arg1 harg1 arg2 harg2 arg3 harg3 arg4 harg4 arg5 harg5 arg6 harg6 arg7 harg7 arg8 harg8 arg9 harg9
      arg10 harg10 arg11 harg11 arg12 harg12 h
  have r3 := Row.r3 R (Row.x1 R) (Row.ff R)
  have xh3 := Row.xh3 R (Row.x1 R) (Row.ff R)
  have dy := Row.dy R (Row.x1 R) (Row.ff R)
  have dff := Row.dff R r3 xh3 dy
  have dgateL := Row.dgateL R r3 xh3 dy (Row.gateL R) (Row.upL R) (Row.sgL R)
  have dupL := Row.dupL R r3 xh3 dy (Row.gateL R) (Row.sgL R)
  have dh2 := Row.dh2 R dff (Row.gateR R) (Row.upR R) (Row.sgR R) dgateL dupL
  have acc3 := Row.acc3 dh2 (Row.osc2 R) (Row.xh2 R)
  unfold out0_A_19 kernelRun0_A
  refine (Stores.miss_row _ _ _ _ _ _ _ (by decide)).trans ?_
  refine (Stores.hit _ _ _ _ _ _ _ 0 j rfl (Nat.zero_add _).symm).trans ((acc3 _ 0 j).trans ?_)
  refine (congrArg (· + _) ?_).trans (zero_add _)
  unfold kernelRun0_A.sl.v194
  refine (Stores.cov _ _ _ 0 j 3 j rfl (Nat.zero_add _).symm).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.hit _ _ _ _ _ _ _ 3 j rfl (Nat.zero_add _).symm).trans ?_
  exact zero_pay 3 j

theorem first_acc1 (j : Fin 1024) : out0_A_19 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 (ix2 1 j) = ∑ r, p.small (a r) 1 j := by
  have R := reads arg1 harg1 arg2 harg2 arg3 harg3 arg4 harg4 arg5 harg5 arg6 harg6 arg7 harg7 arg8 harg8 arg9 harg9
      arg10 harg10 arg11 harg11 arg12 harg12 h
  have r3 := Row.r3 R (Row.x1 R) (Row.ff R)
  have xh3 := Row.xh3 R (Row.x1 R) (Row.ff R)
  have dy := Row.dy R (Row.x1 R) (Row.ff R)
  have dff := Row.dff R r3 xh3 dy
  have dgateL := Row.dgateL R r3 xh3 dy (Row.gateL R) (Row.upL R) (Row.sgL R)
  have dupL := Row.dupL R r3 xh3 dy (Row.gateL R) (Row.sgL R)
  have dh2 := Row.dh2 R dff (Row.gateR R) (Row.upR R) (Row.sgR R) dgateL dupL
  have acc1 := Row.acc1 dh2 (Row.n2 R)
  unfold out0_A_19 kernelRun0_A
  refine (Stores.miss_row _ _ _ _ _ _ _ (by decide)).trans ?_
  refine (Stores.miss_row _ _ _ _ _ _ _ (by decide)).trans ?_
  refine (Stores.hit _ _ _ _ _ _ _ 0 j rfl (Nat.zero_add _).symm).trans ((acc1 _ 0 j).trans ?_)
  refine (congrArg (· + _) ?_).trans (zero_add _)
  unfold kernelRun0_A.sl.v185
  refine (Stores.cov _ _ _ 0 j 1 j rfl (Nat.zero_add _).symm).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.hit _ _ _ _ _ _ _ 1 j rfl (Nat.zero_add _).symm).trans ?_
  exact zero_pay 1 j

theorem first_acc2 (j : Fin 1024) : out0_A_19 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 (ix2 2 j) = ∑ r, p.small (a r) 2 j := by
  have R := reads arg1 harg1 arg2 harg2 arg3 harg3 arg4 harg4 arg5 harg5 arg6 harg6 arg7 harg7 arg8 harg8 arg9 harg9
      arg10 harg10 arg11 harg11 arg12 harg12 h
  have r3 := Row.r3 R (Row.x1 R) (Row.ff R)
  have xh3 := Row.xh3 R (Row.x1 R) (Row.ff R)
  have dy := Row.dy R (Row.x1 R) (Row.ff R)
  have dff := Row.dff R r3 xh3 dy
  have dgateL := Row.dgateL R r3 xh3 dy (Row.gateL R) (Row.upL R) (Row.sgL R)
  have dupL := Row.dupL R r3 xh3 dy (Row.gateL R) (Row.sgL R)
  have dh2 := Row.dh2 R dff (Row.gateR R) (Row.upR R) (Row.sgR R) dgateL dupL
  have acc2 := Row.acc2 dh2
  unfold out0_A_19 kernelRun0_A
  refine (Stores.miss_row _ _ _ _ _ _ _ (by decide)).trans ?_
  refine (Stores.miss_row _ _ _ _ _ _ _ (by decide)).trans ?_
  refine (Stores.miss_row _ _ _ _ _ _ _ (by decide)).trans ?_
  refine (Stores.hit _ _ _ _ _ _ _ 0 j rfl (Nat.zero_add _).symm).trans ((acc2 _ 0 j).trans ?_)
  refine (congrArg (· + _) ?_).trans (zero_add _)
  unfold kernelRun0_A.sl.v178
  refine (Stores.cov _ _ _ 0 j 2 j rfl (Nat.zero_add _).symm).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.hit _ _ _ _ _ _ _ 2 j rfl (Nat.zero_add _).symm).trans ?_
  exact zero_pay 2 j

theorem first_acc0 (j : Fin 1024) : out0_A_19 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 (ix2 0 j) = ∑ r, p.small (a r) 0 j := by
  have R := reads arg1 harg1 arg2 harg2 arg3 harg3 arg4 harg4 arg5 harg5 arg6 harg6 arg7 harg7 arg8 harg8 arg9 harg9
      arg10 harg10 arg11 harg11 arg12 harg12 h
  have r3 := Row.r3 R (Row.x1 R) (Row.ff R)
  have xh3 := Row.xh3 R (Row.x1 R) (Row.ff R)
  have dy := Row.dy R (Row.x1 R) (Row.ff R)
  have acc0 := Row.acc0 R (Row.ff R) r3 xh3 dy
  unfold out0_A_19 kernelRun0_A
  refine (Stores.miss_row _ _ _ _ _ _ _ (by decide)).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.hit _ _ _ _ _ _ _ 0 j rfl (Nat.zero_add _).symm).trans ((acc0 _ 0 j).trans ?_)
  refine (congrArg (· + _) ?_).trans (zero_add _)
  unfold kernelRun0_A.sl.v117
  refine (Stores.cov _ _ _ 0 j 0 j rfl (Nat.zero_add _).symm).trans ?_
  refine (Stores.miss_row _ _ _ _ _ _ _ (by decide)).trans ?_
  refine (Stores.miss_row _ _ _ _ _ _ _ (by decide)).trans ?_
  refine (Stores.hit _ _ _ _ _ _ _ 0 j rfl (Nat.zero_add _).symm).trans ?_
  exact zero_pay 0 j

theorem first_acc4 (j : Fin 1024) : out0_A_19 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 (ix2 4 j) = ∑ r, p.small (a r) 4 j := by
  have R := reads arg1 harg1 arg2 harg2 arg3 harg3 arg4 harg4 arg5 harg5 arg6 harg6 arg7 harg7 arg8 harg8 arg9 harg9
      arg10 harg10 arg11 harg11 arg12 harg12 h
  have acc4 := Row.acc4 R (Row.x1 R) (Row.ff R)
  unfold out0_A_19 kernelRun0_A
  refine (Stores.miss_row _ _ _ _ _ _ _ (by decide)).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.hit _ _ _ _ _ _ _ 0 j rfl (Nat.zero_add _).symm).trans ((acc4 _ 0 j).trans ?_)
  refine (congrArg (· + _) ?_).trans (zero_add _)
  unfold kernelRun0_A.sl.v97
  refine (Stores.cov _ _ _ 0 j 4 j rfl (Nat.zero_add _).symm).trans ?_
  refine (Stores.miss_row _ _ _ _ _ _ _ (by decide)).trans ?_
  refine (Stores.hit _ _ _ _ _ _ _ 4 j rfl (Nat.zero_add _).symm).trans ?_
  exact zero_pay 4 j

theorem first_acc6 (j : Fin 1024) : out0_A_19 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 (ix2 6 j) = ∑ r, p.small (a r) 6 j := by
  have R := reads arg1 harg1 arg2 harg2 arg3 harg3 arg4 harg4 arg5 harg5 arg6 harg6 arg7 harg7 arg8 harg8 arg9 harg9
      arg10 harg10 arg11 harg11 arg12 harg12 h
  have acc6 := Row.acc6 R (Row.x1 R) (Row.ff R)
  unfold out0_A_19 kernelRun0_A
  refine (Stores.miss_row _ _ _ _ _ _ _ (by decide)).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.hit _ _ _ _ _ _ _ 0 j rfl (Nat.zero_add _).symm).trans ((acc6 _ 0 j).trans ?_)
  refine (congrArg (· + _) ?_).trans (zero_add _)
  unfold kernelRun0_A.sl.v88
  refine (Stores.cov _ _ _ 0 j 6 j rfl (Nat.zero_add _).symm).trans ?_
  refine (Stores.hit _ _ _ _ _ _ _ 6 j rfl (Nat.zero_add _).symm).trans ?_
  exact zero_pay 6 j

theorem first_acc7 (j : Fin 1024) : out0_A_19 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 (ix2 7 j) = ∑ r, p.small (a r) 7 j := by
  unfold out0_A_19 kernelRun0_A
  refine (Stores.miss_row _ _ _ _ _ _ _ (by decide)).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.miss_row _ _ _ _ _ _ _ (by decide)).trans ?_
  refine ((Stores.hit _ _ _ _ _ _ _ 7 j rfl (Nat.zero_add _).symm).trans (zero_pay 7 j)).trans ?_
  exact (Finset.sum_eq_zero fun r _ => (rfl : p.small (a r) 7 j = 0)).symm

theorem first_act (r : Fin 256) (q : Fin 2816) : out0_A_15 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 (ix2 r q) = p.act (a r) q := by
  rcases left_or_right q with ⟨e, rfl⟩ | ⟨e, rfl⟩
  · exact first_act_left c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 h r e
  · exact first_act_right c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 h r e

theorem first_dgu (r : Fin 256) (q : Fin 5632) : out0_A_17 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 (ix2 r q) = p.dgu (a r) q := by
  rcases lo_or_hi q with ⟨d, rfl⟩ | ⟨d, rfl⟩ <;> rcases left_or_right d with ⟨e, rfl⟩ | ⟨e, rfl⟩
  · exact (first_dgate_left c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 h r e).trans (p.dgu_lo (a r) _).symm
  · exact (first_dgate_right c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 h r e).trans (p.dgu_lo (a r) _).symm
  · exact (first_dup_left c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 h r e).trans (p.dgu_hi (a r) _).symm
  · exact (first_dup_right c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 h r e).trans (p.dgu_hi (a r) _).symm

theorem first_acc (q : Fin 8) (j : Fin 1024) : out0_A_19 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 (ix2 q j) = ∑ r, p.small (a r) q j := by
  match q with
  | 0 => exact first_acc0 c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 h j
  | 1 => exact first_acc1 c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 h j
  | 2 => exact first_acc2 c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 h j
  | 3 => exact first_acc3 c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 h j
  | 4 => exact first_acc4 c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 h j
  | 5 => exact first_acc5 c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 h j
  | 6 => exact first_acc6 c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 h j
  | 7 => exact first_acc7 c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 h j

end First

end Cert.KernelIdeal.Block
-- ==== Proof.Later.lean ====
/-
  What a later grid point leaves: every output block holds at `(r, j)` the quantity of `Step` of token `r`, and the
  accumulated rows have grown by the tokens' contributions.
-/
module

public import proofs.«01_k».proof.Proof.Block
public import Idealize.ShloMosaic.Lib.Tactic

@[expose] public section

noncomputable section

namespace Cert.KernelIdeal.Block

open Idealize.ShloMosaic Idealize.ShloMosaic.TcCoe
open Cert.KernelIdeal Cert.KernelIdeal.Gen Step

variable {p : Params} {a : Fin 256 → Token}

/-! ## A later point -/

section Later
variable (c : Dev nD) (i : grid0.Coords)
variable (arg1 : Memref sig .tc .vmem S256x1024 .f32) (harg1 : arg1.IsWhole)
  (arg2 : Memref sig .tc .vmem S256x1024 .bf16) (harg2 : arg2.IsWhole) (arg3 : Memref sig .tc .vmem S256x1024 .f32)
  (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S1x1024 .f32)
  (harg6 : arg6.IsWhole) (arg7 : Memref sig .tc .vmem S1x1024 .f32) (harg7 : arg7.IsWhole)
  (arg8 : Memref sig .tc .vmem S1x1024 .f32) (harg8 : arg8.IsWhole) (arg9 : Memref sig .tc .vmem S1x1024 .f32)
  (harg9 : arg9.IsWhole) (arg10 : Memref sig .tc .vmem S1024x1024 .bf16) (harg10 : arg10.IsWhole)
  (arg11 : Memref sig .tc .vmem S1024x5632 .bf16) (harg11 : arg11.IsWhole)
  (arg12 : Memref sig .tc .vmem S2816x1024 .bf16) (harg12 : arg12.IsWhole)
variable (arg13 : Memref sig .tc .vmem S256x1024 .f32) (harg13 : arg13.IsWhole)
  (arg14 : Memref sig .tc .vmem S256x1024 .f32) (harg14 : arg14.IsWhole)
  (arg15 : Memref sig .tc .vmem S256x1024 .bf16) (harg15 : arg15.IsWhole)
  (arg16 : Memref sig .tc .vmem S256x2816 .bf16) (harg16 : arg16.IsWhole)
  (arg17 : Memref sig .tc .vmem S256x1024 .bf16) (harg17 : arg17.IsWhole)
  (arg18 : Memref sig .tc .vmem S256x5632 .bf16) (harg18 : arg18.IsWhole)
  (arg19 : Memref sig .tc .vmem S256x1024 .bf16) (harg19 : arg19.IsWhole) (arg20 : Memref sig .tc .vmem S8x1024 .f32)
  (harg20 : arg20.IsWhole)
variable (hc0 : ¬cond0_0 i)
variable {x0 : Vec Ideal S256x1024 .f32} {x1 : Vec Ideal S256x1024 .bf16} {x2 : Vec Ideal S256x1024 .f32} {x3 : Vec
  Ideal S1x1024 .f32} {x4 : Vec Ideal S1x1024 .f32} {x5 : Vec Ideal S1x1024 .f32} {x6 : Vec Ideal S1x1024 .f32} {x7 :
  Vec Ideal S1x1024 .f32} {x8 : Vec Ideal S1x1024 .f32} {x9 : Vec Ideal S1024x1024 .bf16} {x10 : Vec Ideal S1024x5632
  .bf16} {x11 : Vec Ideal S2816x1024 .bf16}
variable (xo19 : Vec Ideal S8x1024 .f32)
variable (h : Holds p a x0 x1 x2 x3 x4 x5 x6 x7 x8 x9 x10 x11)
include h

theorem later_dY (r : Fin 256) (j : Fin 1024) : out0_B_12 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 xo19 (ix2 r j) = p.dY (a r) j := by
  have R := reads arg1 harg1 arg2 harg2 arg3 harg3 arg4 harg4 arg5 harg5 arg6 harg6 arg7 harg7 arg8 harg8 arg9 harg9
      arg10 harg10 arg11 harg11 arg12 harg12 h
  have r3 := Row.r3 R (Row.x1 R) (Row.ff R)
  have xh3 := Row.xh3 R (Row.x1 R) (Row.ff R)
  have dy := Row.dy R (Row.x1 R) (Row.ff R)
  have dff := Row.dff R r3 xh3 dy
  have dgateL := Row.dgateL R r3 xh3 dy (Row.gateL R) (Row.upL R) (Row.sgL R)
  have dupL := Row.dupL R r3 xh3 dy (Row.gateL R) (Row.sgL R)
  have dh2 := Row.dh2 R dff (Row.gateR R) (Row.upR R) (Row.sgR R) dgateL dupL
  have dx2 := Row.dx2 R r3 xh3 dy
  have dx1 := Row.dx1 R dh2 (Row.osc2 R) (Row.xh2 R) (Row.r2 R) dx2
  have dY := Row.dY R dx1
  unfold out0_B_12 kernelRun0_B
  exact (Stores.hit _ _ _ _ _ _ _ _ _ (Nat.zero_add _).symm (Nat.zero_add _).symm).trans (dY r j)

theorem later_dx1 (r : Fin 256) (j : Fin 1024) : out0_B_13 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 xo19 (ix2 r j) = p.dx1 (a r) j := by
  have R := reads arg1 harg1 arg2 harg2 arg3 harg3 arg4 harg4 arg5 harg5 arg6 harg6 arg7 harg7 arg8 harg8 arg9 harg9
      arg10 harg10 arg11 harg11 arg12 harg12 h
  have r3 := Row.r3 R (Row.x1 R) (Row.ff R)
  have xh3 := Row.xh3 R (Row.x1 R) (Row.ff R)
  have dy := Row.dy R (Row.x1 R) (Row.ff R)
  have dff := Row.dff R r3 xh3 dy
  have dgateL := Row.dgateL R r3 xh3 dy (Row.gateL R) (Row.upL R) (Row.sgL R)
  have dupL := Row.dupL R r3 xh3 dy (Row.gateL R) (Row.sgL R)
  have dh2 := Row.dh2 R dff (Row.gateR R) (Row.upR R) (Row.sgR R) dgateL dupL
  have dx2 := Row.dx2 R r3 xh3 dy
  have dx1 := Row.dx1 R dh2 (Row.osc2 R) (Row.xh2 R) (Row.r2 R) dx2
  unfold out0_B_13 kernelRun0_B
  exact (Stores.hit _ _ _ _ _ _ _ _ _ (Nat.zero_add _).symm (Nat.zero_add _).symm).trans (dx1 r j)

theorem later_h2 (r : Fin 256) (j : Fin 1024) : out0_B_14 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 xo19 (ix2 r j) = p.h2 (a r) j := by
  have R := reads arg1 harg1 arg2 harg2 arg3 harg3 arg4 harg4 arg5 harg5 arg6 harg6 arg7 harg7 arg8 harg8 arg9 harg9
      arg10 harg10 arg11 harg11 arg12 harg12 h
  unfold out0_B_14 kernelRun0_B
  exact (Stores.hit _ _ _ _ _ _ _ _ _ (Nat.zero_add _).symm (Nat.zero_add _).symm).trans (Row.h2 R r j)

theorem later_dff (r : Fin 256) (j : Fin 1024) : out0_B_16 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 xo19 (ix2 r j) = p.dff (a r) j := by
  have R := reads arg1 harg1 arg2 harg2 arg3 harg3 arg4 harg4 arg5 harg5 arg6 harg6 arg7 harg7 arg8 harg8 arg9 harg9
      arg10 harg10 arg11 harg11 arg12 harg12 h
  have r3 := Row.r3 R (Row.x1 R) (Row.ff R)
  have xh3 := Row.xh3 R (Row.x1 R) (Row.ff R)
  have dy := Row.dy R (Row.x1 R) (Row.ff R)
  have dff := Row.dff R r3 xh3 dy
  unfold out0_B_16 kernelRun0_B
  exact (Stores.hit _ _ _ _ _ _ _ _ _ (Nat.zero_add _).symm (Nat.zero_add _).symm).trans (dff r j)

theorem later_dmix (r : Fin 256) (j : Fin 1024) : out0_B_18 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 xo19 (ix2 r j) = p.dmix (a r) j := by
  have R := reads arg1 harg1 arg2 harg2 arg3 harg3 arg4 harg4 arg5 harg5 arg6 harg6 arg7 harg7 arg8 harg8 arg9 harg9
      arg10 harg10 arg11 harg11 arg12 harg12 h
  have r3 := Row.r3 R (Row.x1 R) (Row.ff R)
  have xh3 := Row.xh3 R (Row.x1 R) (Row.ff R)
  have dy := Row.dy R (Row.x1 R) (Row.ff R)
  have dff := Row.dff R r3 xh3 dy
  have dgateL := Row.dgateL R r3 xh3 dy (Row.gateL R) (Row.upL R) (Row.sgL R)
  have dupL := Row.dupL R r3 xh3 dy (Row.gateL R) (Row.sgL R)
  have dh2 := Row.dh2 R dff (Row.gateR R) (Row.upR R) (Row.sgR R) dgateL dupL
  have dx2 := Row.dx2 R r3 xh3 dy
  have dx1 := Row.dx1 R dh2 (Row.osc2 R) (Row.xh2 R) (Row.r2 R) dx2
  have dmix := Row.dmix R dx1
  unfold out0_B_18 kernelRun0_B
  exact (Stores.hit _ _ _ _ _ _ _ _ _ (Nat.zero_add _).symm (Nat.zero_add _).symm).trans (dmix r j)

theorem later_act_right (r : Fin 256) (cc : Fin 1408) : out0_B_15 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 xo19 (ix2 r (right cc)) = p.act (a r) (right cc) := by
  have R := reads arg1 harg1 arg2 harg2 arg3 harg3 arg4 harg4 arg5 harg5 arg6 harg6 arg7 harg7 arg8 harg8 arg9 harg9
      arg10 harg10 arg11 harg11 arg12 harg12 h
  unfold out0_B_15 kernelRun0_B
  exact (Stores.hit _ _ _ _ _ _ _ r cc (Nat.zero_add _).symm (by simp [left, right, lo, hi]; try omega)).trans (Row.actR R r cc)

theorem later_act_left (r : Fin 256) (cc : Fin 1408) : out0_B_15 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 xo19 (ix2 r (left cc)) = p.act (a r) (left cc) := by
  have R := reads arg1 harg1 arg2 harg2 arg3 harg3 arg4 harg4 arg5 harg5 arg6 harg6 arg7 harg7 arg8 harg8 arg9 harg9
      arg10 harg10 arg11 harg11 arg12 harg12 h
  unfold out0_B_15 kernelRun0_B
  refine (Stores.miss_col _ _ _ _ _ _ _ (by have := cc.isLt; simp only [left, right, lo, hi]; omega)).trans ?_
  exact (Stores.hit _ _ _ _ _ _ _ r cc (Nat.zero_add _).symm (by simp [left, right, lo, hi]; try omega)).trans (Row.actL R r cc)

theorem later_dup_right (r : Fin 256) (cc : Fin 1408) : out0_B_17 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 xo19 (ix2 r (hi (right cc))) = p.dup (a r) (right cc) := by
  have R := reads arg1 harg1 arg2 harg2 arg3 harg3 arg4 harg4 arg5 harg5 arg6 harg6 arg7 harg7 arg8 harg8 arg9 harg9
      arg10 harg10 arg11 harg11 arg12 harg12 h
  have r3 := Row.r3 R (Row.x1 R) (Row.ff R)
  have xh3 := Row.xh3 R (Row.x1 R) (Row.ff R)
  have dy := Row.dy R (Row.x1 R) (Row.ff R)
  have dff := Row.dff R r3 xh3 dy
  have dupR := Row.dupR R dff (Row.gateR R) (Row.sgR R)
  unfold out0_B_17 kernelRun0_B
  exact (Stores.hit _ _ _ _ _ _ _ r cc (Nat.zero_add _).symm (by simp [left, right, lo, hi]; try omega)).trans (dupR r cc)

theorem later_dgate_right (r : Fin 256) (cc : Fin 1408) : out0_B_17 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 xo19 (ix2 r (lo (right cc))) = p.dgate (a r) (right cc) := by
  have R := reads arg1 harg1 arg2 harg2 arg3 harg3 arg4 harg4 arg5 harg5 arg6 harg6 arg7 harg7 arg8 harg8 arg9 harg9
      arg10 harg10 arg11 harg11 arg12 harg12 h
  have r3 := Row.r3 R (Row.x1 R) (Row.ff R)
  have xh3 := Row.xh3 R (Row.x1 R) (Row.ff R)
  have dy := Row.dy R (Row.x1 R) (Row.ff R)
  have dff := Row.dff R r3 xh3 dy
  have dgateR := Row.dgateR R dff (Row.gateR R) (Row.upR R) (Row.sgR R)
  unfold out0_B_17 kernelRun0_B
  refine (Stores.miss_col _ _ _ _ _ _ _ (by have := cc.isLt; simp only [left, right, lo, hi]; omega)).trans ?_
  exact (Stores.hit _ _ _ _ _ _ _ r cc (Nat.zero_add _).symm (by simp [left, right, lo, hi]; try omega)).trans (dgateR r cc)

theorem later_dup_left (r : Fin 256) (cc : Fin 1408) : out0_B_17 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 xo19 (ix2 r (hi (left cc))) = p.dup (a r) (left cc) := by
  have R := reads arg1 harg1 arg2 harg2 arg3 harg3 arg4 harg4 arg5 harg5 arg6 harg6 arg7 harg7 arg8 harg8 arg9 harg9
      arg10 harg10 arg11 harg11 arg12 harg12 h
  have r3 := Row.r3 R (Row.x1 R) (Row.ff R)
  have xh3 := Row.xh3 R (Row.x1 R) (Row.ff R)
  have dy := Row.dy R (Row.x1 R) (Row.ff R)
  have dupL := Row.dupL R r3 xh3 dy (Row.gateL R) (Row.sgL R)
  unfold out0_B_17 kernelRun0_B
  refine (Stores.miss_col _ _ _ _ _ _ _ (by have := cc.isLt; simp only [left, right, lo, hi]; omega)).trans ?_
  refine (Stores.miss_col _ _ _ _ _ _ _ (by have := cc.isLt; simp only [left, right, lo, hi]; omega)).trans ?_
  exact (Stores.hit _ _ _ _ _ _ _ r cc (Nat.zero_add _).symm (by simp [left, right, lo, hi]; try omega)).trans (dupL r cc)

theorem later_dgate_left (r : Fin 256) (cc : Fin 1408) : out0_B_17 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 xo19 (ix2 r (lo (left cc))) = p.dgate (a r) (left cc) := by
  have R := reads arg1 harg1 arg2 harg2 arg3 harg3 arg4 harg4 arg5 harg5 arg6 harg6 arg7 harg7 arg8 harg8 arg9 harg9
      arg10 harg10 arg11 harg11 arg12 harg12 h
  have r3 := Row.r3 R (Row.x1 R) (Row.ff R)
  have xh3 := Row.xh3 R (Row.x1 R) (Row.ff R)
  have dy := Row.dy R (Row.x1 R) (Row.ff R)
  have dgateL := Row.dgateL R r3 xh3 dy (Row.gateL R) (Row.upL R) (Row.sgL R)
  unfold out0_B_17 kernelRun0_B
  refine (Stores.miss_col _ _ _ _ _ _ _ (by have := cc.isLt; simp only [left, right, lo, hi]; omega)).trans ?_
  refine (Stores.miss_col _ _ _ _ _ _ _ (by have := cc.isLt; simp only [left, right, lo, hi]; omega)).trans ?_
  refine (Stores.miss_col _ _ _ _ _ _ _ (by have := cc.isLt; simp only [left, right, lo, hi]; omega)).trans ?_
  exact (Stores.hit _ _ _ _ _ _ _ r cc (Nat.zero_add _).symm (by simp [left, right, lo, hi]; try omega)).trans (dgateL r cc)

theorem later_acc5 (j : Fin 1024) : out0_B_19 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 xo19 (ix2 5 j) = xo19 (ix2 5 j) + ∑ r, p.small (a r) 5 j := by
  have R := reads arg1 harg1 arg2 harg2 arg3 harg3 arg4 harg4 arg5 harg5 arg6 harg6 arg7 harg7 arg8 harg8 arg9 harg9
      arg10 harg10 arg11 harg11 arg12 harg12 h
  have r3 := Row.r3 R (Row.x1 R) (Row.ff R)
  have xh3 := Row.xh3 R (Row.x1 R) (Row.ff R)
  have dy := Row.dy R (Row.x1 R) (Row.ff R)
  have dff := Row.dff R r3 xh3 dy
  have dgateL := Row.dgateL R r3 xh3 dy (Row.gateL R) (Row.upL R) (Row.sgL R)
  have dupL := Row.dupL R r3 xh3 dy (Row.gateL R) (Row.sgL R)
  have dh2 := Row.dh2 R dff (Row.gateR R) (Row.upR R) (Row.sgR R) dgateL dupL
  have dx2 := Row.dx2 R r3 xh3 dy
  have dx1mix := Row.dx1mix R dh2 (Row.osc2 R) (Row.xh2 R) (Row.r2 R) dx2 (Row.mix R)
  have acc5 := Row.acc5 dx1mix
  unfold out0_B_19 kernelRun0_B
  refine (Stores.hit _ _ _ _ _ _ _ 0 j rfl (Nat.zero_add _).symm).trans ((acc5 _ 0 j).trans ?_)
  exact congrArg (· + _) (Stores.load _ _ _ _ 0 j 5 j rfl (Nat.zero_add _).symm)

theorem later_acc3 (j : Fin 1024) : out0_B_19 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 xo19 (ix2 3 j) = xo19 (ix2 3 j) + ∑ r, p.small (a r) 3 j := by
  have R := reads arg1 harg1 arg2 harg2 arg3 harg3 arg4 harg4 arg5 harg5 arg6 harg6 arg7 harg7 arg8 harg8 arg9 harg9
      arg10 harg10 arg11 harg11 arg12 harg12 h
  have r3 := Row.r3 R (Row.x1 R) (Row.ff R)
  have xh3 := Row.xh3 R (Row.x1 R) (Row.ff R)
  have dy := Row.dy R (Row.x1 R) (Row.ff R)
  have dff := Row.dff R r3 xh3 dy
  have dgateL := Row.dgateL R r3 xh3 dy (Row.gateL R) (Row.upL R) (Row.sgL R)
  have dupL := Row.dupL R r3 xh3 dy (Row.gateL R) (Row.sgL R)
  have dh2 := Row.dh2 R dff (Row.gateR R) (Row.upR R) (Row.sgR R) dgateL dupL
  have acc3 := Row.acc3 dh2 (Row.osc2 R) (Row.xh2 R)
  unfold out0_B_19 kernelRun0_B
  refine (Stores.miss_row _ _ _ _ _ _ _ (by decide)).trans ?_
  refine (Stores.hit _ _ _ _ _ _ _ 0 j rfl (Nat.zero_add _).symm).trans ((acc3 _ 0 j).trans ?_)
  exact congrArg (· + _) (Stores.load _ _ _ _ 0 j 3 j rfl (Nat.zero_add _).symm)

theorem later_acc1 (j : Fin 1024) : out0_B_19 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 xo19 (ix2 1 j) = xo19 (ix2 1 j) + ∑ r, p.small (a r) 1 j := by
  have R := reads arg1 harg1 arg2 harg2 arg3 harg3 arg4 harg4 arg5 harg5 arg6 harg6 arg7 harg7 arg8 harg8 arg9 harg9
      arg10 harg10 arg11 harg11 arg12 harg12 h
  have r3 := Row.r3 R (Row.x1 R) (Row.ff R)
  have xh3 := Row.xh3 R (Row.x1 R) (Row.ff R)
  have dy := Row.dy R (Row.x1 R) (Row.ff R)
  have dff := Row.dff R r3 xh3 dy
  have dgateL := Row.dgateL R r3 xh3 dy (Row.gateL R) (Row.upL R) (Row.sgL R)
  have dupL := Row.dupL R r3 xh3 dy (Row.gateL R) (Row.sgL R)
  have dh2 := Row.dh2 R dff (Row.gateR R) (Row.upR R) (Row.sgR R) dgateL dupL
  have acc1 := Row.acc1 dh2 (Row.n2 R)
  unfold out0_B_19 kernelRun0_B
  refine (Stores.miss_row _ _ _ _ _ _ _ (by decide)).trans ?_
  refine (Stores.miss_row _ _ _ _ _ _ _ (by decide)).trans ?_
  refine (Stores.hit _ _ _ _ _ _ _ 0 j rfl (Nat.zero_add _).symm).trans ((acc1 _ 0 j).trans ?_)
  exact congrArg (· + _) (Stores.load _ _ _ _ 0 j 1 j rfl (Nat.zero_add _).symm)

theorem later_acc2 (j : Fin 1024) : out0_B_19 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 xo19 (ix2 2 j) = xo19 (ix2 2 j) + ∑ r, p.small (a r) 2 j := by
  have R := reads arg1 harg1 arg2 harg2 arg3 harg3 arg4 harg4 arg5 harg5 arg6 harg6 arg7 harg7 arg8 harg8 arg9 harg9
      arg10 harg10 arg11 harg11 arg12 harg12 h
  have r3 := Row.r3 R (Row.x1 R) (Row.ff R)
  have xh3 := Row.xh3 R (Row.x1 R) (Row.ff R)
  have dy := Row.dy R (Row.x1 R) (Row.ff R)
  have dff := Row.dff R r3 xh3 dy
  have dgateL := Row.dgateL R r3 xh3 dy (Row.gateL R) (Row.upL R) (Row.sgL R)
  have dupL := Row.dupL R r3 xh3 dy (Row.gateL R) (Row.sgL R)
  have dh2 := Row.dh2 R dff (Row.gateR R) (Row.upR R) (Row.sgR R) dgateL dupL
  have acc2 := Row.acc2 dh2
  unfold out0_B_19 kernelRun0_B
  refine (Stores.miss_row _ _ _ _ _ _ _ (by decide)).trans ?_
  refine (Stores.miss_row _ _ _ _ _ _ _ (by decide)).trans ?_
  refine (Stores.miss_row _ _ _ _ _ _ _ (by decide)).trans ?_
  refine (Stores.hit _ _ _ _ _ _ _ 0 j rfl (Nat.zero_add _).symm).trans ((acc2 _ 0 j).trans ?_)
  exact congrArg (· + _) (Stores.load _ _ _ _ 0 j 2 j rfl (Nat.zero_add _).symm)

theorem later_acc0 (j : Fin 1024) : out0_B_19 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 xo19 (ix2 0 j) = xo19 (ix2 0 j) + ∑ r, p.small (a r) 0 j := by
  have R := reads arg1 harg1 arg2 harg2 arg3 harg3 arg4 harg4 arg5 harg5 arg6 harg6 arg7 harg7 arg8 harg8 arg9 harg9
      arg10 harg10 arg11 harg11 arg12 harg12 h
  have r3 := Row.r3 R (Row.x1 R) (Row.ff R)
  have xh3 := Row.xh3 R (Row.x1 R) (Row.ff R)
  have dy := Row.dy R (Row.x1 R) (Row.ff R)
  have acc0 := Row.acc0 R (Row.ff R) r3 xh3 dy
  unfold out0_B_19 kernelRun0_B
  refine (Stores.miss_row _ _ _ _ _ _ _ (by decide)).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.hit _ _ _ _ _ _ _ 0 j rfl (Nat.zero_add _).symm).trans ((acc0 _ 0 j).trans ?_)
  exact congrArg (· + _) (Stores.load _ _ _ _ 0 j 0 j rfl (Nat.zero_add _).symm)

theorem later_acc4 (j : Fin 1024) : out0_B_19 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 xo19 (ix2 4 j) = xo19 (ix2 4 j) + ∑ r, p.small (a r) 4 j := by
  have R := reads arg1 harg1 arg2 harg2 arg3 harg3 arg4 harg4 arg5 harg5 arg6 harg6 arg7 harg7 arg8 harg8 arg9 harg9
      arg10 harg10 arg11 harg11 arg12 harg12 h
  have acc4 := Row.acc4 R (Row.x1 R) (Row.ff R)
  unfold out0_B_19 kernelRun0_B
  refine (Stores.miss_row _ _ _ _ _ _ _ (by decide)).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.hit _ _ _ _ _ _ _ 0 j rfl (Nat.zero_add _).symm).trans ((acc4 _ 0 j).trans ?_)
  exact congrArg (· + _) (Stores.load _ _ _ _ 0 j 4 j rfl (Nat.zero_add _).symm)

theorem later_acc6 (j : Fin 1024) : out0_B_19 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 xo19 (ix2 6 j) = xo19 (ix2 6 j) + ∑ r, p.small (a r) 6 j := by
  have R := reads arg1 harg1 arg2 harg2 arg3 harg3 arg4 harg4 arg5 harg5 arg6 harg6 arg7 harg7 arg8 harg8 arg9 harg9
      arg10 harg10 arg11 harg11 arg12 harg12 h
  have acc6 := Row.acc6 R (Row.x1 R) (Row.ff R)
  unfold out0_B_19 kernelRun0_B
  refine (Stores.miss_row _ _ _ _ _ _ _ (by decide)).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.hit _ _ _ _ _ _ _ 0 j rfl (Nat.zero_add _).symm).trans ((acc6 _ 0 j).trans ?_)
  exact congrArg (· + _) (Stores.load _ _ _ _ 0 j 6 j rfl (Nat.zero_add _).symm)

theorem later_acc7 (j : Fin 1024) : out0_B_19 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 xo19 (ix2 7 j) = xo19 (ix2 7 j) + ∑ r, p.small (a r) 7 j := by
  unfold out0_B_19 kernelRun0_B
  refine (Stores.miss_row _ _ _ _ _ _ _ (by decide)).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.miss_row _ _ _ _ _ _ _ (by decide)).trans ?_
  refine (Stores.miss_row _ _ _ _ _ _ _ (by decide)).trans ?_
  rw [(Finset.sum_eq_zero fun r _ => (rfl : p.small (a r) 7 j = 0)), add_zero]
  exact congrFun (harg20.read_unread xo19) (ix2 7 j)

theorem later_act (r : Fin 256) (q : Fin 2816) : out0_B_15 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 xo19 (ix2 r q) = p.act (a r) q := by
  rcases left_or_right q with ⟨e, rfl⟩ | ⟨e, rfl⟩
  · exact later_act_left c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 xo19 h r e
  · exact later_act_right c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 xo19 h r e

theorem later_dgu (r : Fin 256) (q : Fin 5632) : out0_B_17 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 xo19 (ix2 r q) = p.dgu (a r) q := by
  rcases lo_or_hi q with ⟨d, rfl⟩ | ⟨d, rfl⟩ <;> rcases left_or_right d with ⟨e, rfl⟩ | ⟨e, rfl⟩
  · exact (later_dgate_left c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 xo19 h r e).trans (p.dgu_lo (a r) _).symm
  · exact (later_dgate_right c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 xo19 h r e).trans (p.dgu_lo (a r) _).symm
  · exact (later_dup_left c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 xo19 h r e).trans (p.dgu_hi (a r) _).symm
  · exact (later_dup_right c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 xo19 h r e).trans (p.dgu_hi (a r) _).symm

theorem later_acc (q : Fin 8) (j : Fin 1024) : out0_B_19 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 hc0 x0 x1 x2 x3 x4 x5 x6 x7 x8 x9 x10 x11 xo19 (ix2 q j) = xo19 (ix2 q j) + ∑ r, p.small (a r) q j := by
  match q with
  | 0 => exact later_acc0 c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 xo19 h j
  | 1 => exact later_acc1 c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 xo19 h j
  | 2 => exact later_acc2 c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 xo19 h j
  | 3 => exact later_acc3 c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 xo19 h j
  | 4 => exact later_acc4 c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 xo19 h j
  | 5 => exact later_acc5 c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 xo19 h j
  | 6 => exact later_acc6 c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 xo19 h j
  | 7 => exact later_acc7 c i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18
            arg19 harg19 arg20 harg20 hc0 xo19 h j

end Later
-- ==== Proof.Points.lean ====
/-
  The operand blocks of grid point `t` are the rows of tokens `256 t … 256 t + 255` and the parameters.
-/
module

public import proofs.«01_k».proof.Proof.Inputs
public import proofs.«01_k».proof.Proof.First
public import proofs.«01_k».proof.Proof.Later
public import Idealize.ShloMosaic.Lib.StableHlo.RunRead

@[expose] public section

noncomputable section

namespace Cert.KernelIdeal.Points

open Idealize.ShloMosaic Idealize.ShloMosaic.TcCoe
open Cert.KernelIdeal Cert.KernelIdeal.Gen Step

variable (m : (ℓ : Loc nD τ sig) → Buf (Elt Ideal) ℓ) (c : Dev nD)

/-- The parameters as launched. -/
def params : Params :=
  prm (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The tokens as launched. -/
def token (T : Fin 8192) : Token :=
  tok (m ((c : Thread nD τ).loc main_arg0)) (m ((c : Thread nD τ).loc main_arg1)) (m ((c : Thread nD τ).loc main_arg2)) T

/-! ## Where the blocks lie -/

theorem index_token0 : ∀ t : Fin grid0.N, win0_0.index t 0 = t.val ∧ win0_0.index t 1 = 0 := by decide +kernel
theorem index_token1 : ∀ t : Fin grid0.N, win0_1.index t 0 = t.val ∧ win0_1.index t 1 = 0 := by decide +kernel
theorem index_token2 : ∀ t : Fin grid0.N, win0_2.index t 0 = t.val ∧ win0_2.index t 1 = 0 := by decide +kernel
theorem index_g1 : ∀ t : Fin grid0.N, win0_3.index t 0 = 0 ∧ win0_3.index t 1 = 2 := by decide +kernel
theorem index_nw2 : ∀ t : Fin grid0.N, win0_4.index t 0 = 0 ∧ win0_4.index t 1 = 0 := by decide +kernel
theorem index_sc2 : ∀ t : Fin grid0.N, win0_5.index t 0 = 0 ∧ win0_5.index t 1 = 4 := by decide +kernel
theorem index_sh2 : ∀ t : Fin grid0.N, win0_6.index t 0 = 0 ∧ win0_6.index t 1 = 3 := by decide +kernel
theorem index_g2 : ∀ t : Fin grid0.N, win0_7.index t 0 = 0 ∧ win0_7.index t 1 = 5 := by decide +kernel
theorem index_fw : ∀ t : Fin grid0.N, win0_8.index t 0 = 0 ∧ win0_8.index t 1 = 0 := by decide +kernel
theorem index_wo : ∀ t : Fin grid0.N, win0_9.index t 0 = 0 ∧ win0_9.index t 1 = 0 := by decide +kernel
theorem index_wfi : ∀ t : Fin grid0.N, win0_10.index t 0 = 0 ∧ win0_10.index t 1 = 0 := by decide +kernel
theorem index_wfo : ∀ t : Fin grid0.N, win0_11.index t 0 = 0 ∧ win0_11.index t 1 = 0 := by decide +kernel

/-! ## The casts before the region -/

theorem V_wo : (V m c main_v0 : S1024x1024.Idx → EReal) = m ((c : Thread nD τ).loc main_arg6) := by rfl
theorem V_wfi : (V m c main_v1 : S1024x5632.Idx → EReal) = m ((c : Thread nD τ).loc main_arg7) := by rfl
theorem V_wfo : (V m c main_v2 : S2816x1024.Idx → EReal) = m ((c : Thread nD τ).loc main_arg8) := by rfl

/-! ## The blocks' entries -/

theorem x (t : Fin cfg0.N) (r : Fin 256) (j : Fin 1024) :
    iblk m c 0 t (ix2 r j) = m ((c : Thread nD τ).loc main_arg0) (ix2 (row t r) j) := by
  unfold iblk
  rw [View.read_apply]
  refine Eq.trans (b := V m c main_arg0 _) rfl ?_
  rw [V_main_arg0]
  congr 1
  funext a
  refine Fin.ext ?_
  match a with
  | ⟨0, _⟩ => show win0_0.index t 0 * 256 + 1 * r.val = 256 * t.val + r.val; rw [(index_token0 t).1]; omega
  | ⟨1, _⟩ => show win0_0.index t 1 * 1024 + 1 * j.val = j.val; rw [(index_token0 t).2]; omega

theorem y (t : Fin cfg0.N) (r : Fin 256) (j : Fin 1024) :
    iblk m c 1 t (ix2 r j) = m ((c : Thread nD τ).loc main_arg1) (ix2 (row t r) j) := by
  unfold iblk
  rw [View.read_apply]
  refine Eq.trans (b := V m c main_arg1 _) rfl ?_
  rw [V_main_arg1]
  congr 1
  funext a
  refine Fin.ext ?_
  match a with
  | ⟨0, _⟩ => show win0_1.index t 0 * 256 + 1 * r.val = 256 * t.val + r.val; rw [(index_token1 t).1]; omega
  | ⟨1, _⟩ => show win0_1.index t 1 * 1024 + 1 * j.val = j.val; rw [(index_token1 t).2]; omega

theorem t (t : Fin cfg0.N) (r : Fin 256) (j : Fin 1024) :
    iblk m c 2 t (ix2 r j) = m ((c : Thread nD τ).loc main_arg2) (ix2 (row t r) j) := by
  unfold iblk
  rw [View.read_apply]
  refine Eq.trans (b := V m c main_arg2 _) rfl ?_
  rw [V_main_arg2]
  congr 1
  funext a
  refine Fin.ext ?_
  match a with
  | ⟨0, _⟩ => show win0_2.index t 0 * 256 + 1 * r.val = 256 * t.val + r.val; rw [(index_token2 t).1]; omega
  | ⟨1, _⟩ => show win0_2.index t 1 * 1024 + 1 * j.val = j.val; rw [(index_token2 t).2]; omega

theorem g1 (t : Fin cfg0.N) (j : Fin 1024) :
    iblk m c 3 t (ix2 0 j) = m ((c : Thread nD τ).loc main_arg3) (ix2 0 (chunk 2 j)) := by
  unfold iblk
  rw [View.read_apply]
  refine Eq.trans (b := V m c main_arg3 _) rfl ?_
  rw [V_main_arg3]
  congr 1
  funext a
  refine Fin.ext ?_
  match a with
  | ⟨0, _⟩ => show win0_3.index t 0 * 1 + 1 * 0 = 0; rw [(index_g1 t).1]
  | ⟨1, _⟩ => show win0_3.index t 1 * 1024 + 1 * j.val = 1024 * 2 + j.val; rw [(index_g1 t).2]; omega

theorem nw2 (t : Fin cfg0.N) (j : Fin 1024) :
    iblk m c 4 t (ix2 0 j) = m ((c : Thread nD τ).loc main_arg4) (ix2 0 j) := by
  unfold iblk
  rw [View.read_apply]
  refine Eq.trans (b := V m c main_arg4 _) rfl ?_
  rw [V_main_arg4]
  congr 1
  funext a
  refine Fin.ext ?_
  match a with
  | ⟨0, _⟩ => show win0_4.index t 0 * 1 + 1 * 0 = 0; rw [(index_nw2 t).1]
  | ⟨1, _⟩ => show win0_4.index t 1 * 1024 + 1 * j.val = j.val; rw [(index_nw2 t).2]; omega

theorem sc2 (t : Fin cfg0.N) (j : Fin 1024) :
    iblk m c 5 t (ix2 0 j) = m ((c : Thread nD τ).loc main_arg3) (ix2 0 (chunk 4 j)) := by
  unfold iblk
  rw [View.read_apply]
  refine Eq.trans (b := V m c main_arg3 _) rfl ?_
  rw [V_main_arg3]
  congr 1
  funext a
  refine Fin.ext ?_
  match a with
  | ⟨0, _⟩ => show win0_5.index t 0 * 1 + 1 * 0 = 0; rw [(index_sc2 t).1]
  | ⟨1, _⟩ => show win0_5.index t 1 * 1024 + 1 * j.val = 1024 * 4 + j.val; rw [(index_sc2 t).2]; omega

theorem sh2 (t : Fin cfg0.N) (j : Fin 1024) :
    iblk m c 6 t (ix2 0 j) = m ((c : Thread nD τ).loc main_arg3) (ix2 0 (chunk 3 j)) := by
  unfold iblk
  rw [View.read_apply]
  refine Eq.trans (b := V m c main_arg3 _) rfl ?_
  rw [V_main_arg3]
  congr 1
  funext a
  refine Fin.ext ?_
  match a with
  | ⟨0, _⟩ => show win0_6.index t 0 * 1 + 1 * 0 = 0; rw [(index_sh2 t).1]
  | ⟨1, _⟩ => show win0_6.index t 1 * 1024 + 1 * j.val = 1024 * 3 + j.val; rw [(index_sh2 t).2]; omega

theorem g2 (t : Fin cfg0.N) (j : Fin 1024) :
    iblk m c 7 t (ix2 0 j) = m ((c : Thread nD τ).loc main_arg3) (ix2 0 (chunk 5 j)) := by
  unfold iblk
  rw [View.read_apply]
  refine Eq.trans (b := V m c main_arg3 _) rfl ?_
  rw [V_main_arg3]
  congr 1
  funext a
  refine Fin.ext ?_
  match a with
  | ⟨0, _⟩ => show win0_7.index t 0 * 1 + 1 * 0 = 0; rw [(index_g2 t).1]
  | ⟨1, _⟩ => show win0_7.index t 1 * 1024 + 1 * j.val = 1024 * 5 + j.val; rw [(index_g2 t).2]; omega

theorem fw (t : Fin cfg0.N) (j : Fin 1024) :
    iblk m c 8 t (ix2 0 j) = m ((c : Thread nD τ).loc main_arg5) (ix2 0 j) := by
  unfold iblk
  rw [View.read_apply]
  refine Eq.trans (b := V m c main_arg5 _) rfl ?_
  rw [V_main_arg5]
  congr 1
  funext a
  refine Fin.ext ?_
  match a with
  | ⟨0, _⟩ => show win0_8.index t 0 * 1 + 1 * 0 = 0; rw [(index_fw t).1]
  | ⟨1, _⟩ => show win0_8.index t 1 * 1024 + 1 * j.val = j.val; rw [(index_fw t).2]; omega

theorem wo (t : Fin cfg0.N) (k : Fin 1024) (j : Fin 1024) :
    iblk m c 9 t (ix2 k j) = m ((c : Thread nD τ).loc main_arg6) (ix2 k j) := by
  unfold iblk
  rw [View.read_apply]
  refine Eq.trans (b := V m c main_v0 _) rfl ?_
  rw [V_wo]
  congr 1
  funext a
  refine Fin.ext ?_
  match a with
  | ⟨0, _⟩ => show win0_9.index t 0 * 1024 + 1 * k.val = k.val; rw [(index_wo t).1]; omega
  | ⟨1, _⟩ => show win0_9.index t 1 * 1024 + 1 * j.val = j.val; rw [(index_wo t).2]; omega

theorem wfi (t : Fin cfg0.N) (k : Fin 1024) (j : Fin 5632) :
    iblk m c 10 t (ix2 k j) = m ((c : Thread nD τ).loc main_arg7) (ix2 k j) := by
  unfold iblk
  rw [View.read_apply]
  refine Eq.trans (b := V m c main_v1 _) rfl ?_
  rw [V_wfi]
  congr 1
  funext a
  refine Fin.ext ?_
  match a with
  | ⟨0, _⟩ => show win0_10.index t 0 * 1024 + 1 * k.val = k.val; rw [(index_wfi t).1]; omega
  | ⟨1, _⟩ => show win0_10.index t 1 * 5632 + 1 * j.val = j.val; rw [(index_wfi t).2]; omega

theorem wfo (t : Fin cfg0.N) (k : Fin 2816) (j : Fin 1024) :
    iblk m c 11 t (ix2 k j) = m ((c : Thread nD τ).loc main_arg8) (ix2 k j) := by
  unfold iblk
  rw [View.read_apply]
  refine Eq.trans (b := V m c main_v2 _) rfl ?_
  rw [V_wfo]
  congr 1
  funext a
  refine Fin.ext ?_
  match a with
  | ⟨0, _⟩ => show win0_11.index t 0 * 2816 + 1 * k.val = k.val; rw [(index_wfo t).1]; omega
  | ⟨1, _⟩ => show win0_11.index t 1 * 1024 + 1 * j.val = j.val; rw [(index_wfo t).2]; omega

/-- The twelve operand blocks of point `t`. -/
theorem holds (q : Fin cfg0.N) : Block.Holds (params m c) (fun r => token m c (row q r)) (iblk m c 0 q) (iblk m c 1 q)
    (iblk m c 2 q) (iblk m c 3 q) (iblk m c 4 q) (iblk m c 5 q) (iblk m c 6 q) (iblk m c 7 q) (iblk m c 8 q) (iblk m c 9 q)
    (iblk m c 10 q) (iblk m c 11 q) where
  x := x m c q
  y := y m c q
  t := t m c q
  g1 := g1 m c q
  nw2 := nw2 m c q
  sc2 := sc2 m c q
  sh2 := sh2 m c q
  g2 := g2 m c q
  fw := fw m c q
  wo := wo m c q
  wfi := wfi m c q
  wfo := wfo m c q

/-! ## What point `t` leaves in the output blocks -/

theorem out_dY (q : Fin cfg0.N) (r : Fin 256) (j : Fin 1024) :
    (outsAt0 m c q.val q.isLt).1 (ix2 r j) = (params m c).dY (token m c (row q r)) j := by
  by_cases h0 : q.val % 32 = 0
  · rw [outsAt0_A m c q h0]; dsimp only; exact Block.first_dY (h := holds m c q) ..
  · rw [outsAt0_B m c q h0]; dsimp only; exact Block.later_dY (h := holds m c q) ..

theorem out_dx1 (q : Fin cfg0.N) (r : Fin 256) (j : Fin 1024) :
    (outsAt0 m c q.val q.isLt).2.1 (ix2 r j) = (params m c).dx1 (token m c (row q r)) j := by
  by_cases h0 : q.val % 32 = 0
  · rw [outsAt0_A m c q h0]; dsimp only; exact Block.first_dx1 (h := holds m c q) ..
  · rw [outsAt0_B m c q h0]; dsimp only; exact Block.later_dx1 (h := holds m c q) ..

theorem out_h2 (q : Fin cfg0.N) (r : Fin 256) (j : Fin 1024) :
    (outsAt0 m c q.val q.isLt).2.2.1 (ix2 r j) = (params m c).h2 (token m c (row q r)) j := by
  by_cases h0 : q.val % 32 = 0
  · rw [outsAt0_A m c q h0]; dsimp only; exact Block.first_h2 (h := holds m c q) ..
  · rw [outsAt0_B m c q h0]; dsimp only; exact Block.later_h2 (h := holds m c q) ..

theorem out_act (q : Fin cfg0.N) (r : Fin 256) (j : Fin 2816) :
    (outsAt0 m c q.val q.isLt).2.2.2.1 (ix2 r j) = (params m c).act (token m c (row q r)) j := by
  by_cases h0 : q.val % 32 = 0
  · rw [outsAt0_A m c q h0]; dsimp only; exact Block.first_act (h := holds m c q) ..
  · rw [outsAt0_B m c q h0]; dsimp only; exact Block.later_act (h := holds m c q) ..

theorem out_dff (q : Fin cfg0.N) (r : Fin 256) (j : Fin 1024) :
    (outsAt0 m c q.val q.isLt).2.2.2.2.1 (ix2 r j) = (params m c).dff (token m c (row q r)) j := by
  by_cases h0 : q.val % 32 = 0
  · rw [outsAt0_A m c q h0]; dsimp only; exact Block.first_dff (h := holds m c q) ..
  · rw [outsAt0_B m c q h0]; dsimp only; exact Block.later_dff (h := holds m c q) ..

theorem out_dgu (q : Fin cfg0.N) (r : Fin 256) (j : Fin 5632) :
    (outsAt0 m c q.val q.isLt).2.2.2.2.2.1 (ix2 r j) = (params m c).dgu (token m c (row q r)) j := by
  by_cases h0 : q.val % 32 = 0
  · rw [outsAt0_A m c q h0]; dsimp only; exact Block.first_dgu (h := holds m c q) ..
  · rw [outsAt0_B m c q h0]; dsimp only; exact Block.later_dgu (h := holds m c q) ..

theorem out_dmix (q : Fin cfg0.N) (r : Fin 256) (j : Fin 1024) :
    (outsAt0 m c q.val q.isLt).2.2.2.2.2.2.1 (ix2 r j) = (params m c).dmix (token m c (row q r)) j := by
  by_cases h0 : q.val % 32 = 0
  · rw [outsAt0_A m c q h0]; dsimp only; exact Block.first_dmix (h := holds m c q) ..
  · rw [outsAt0_B m c q h0]; dsimp only; exact Block.later_dmix (h := holds m c q) ..

/-- The accumulated rows after point `n`: the contributions of all blocks so far. -/
theorem out_acc (i : Fin 8) (j : Fin 1024) : ∀ (n : ℕ) (hn : n < cfg0.N),
    (outsAt0 m c n hn).2.2.2.2.2.2.2 (ix2 i j)
      = ∑ b : Fin (n + 1), ∑ r : Fin 256, (params m c).small (token m c (row ⟨b.val, lt_of_lt_of_le b.isLt hn⟩ r)) i j
  | 0, hn => by
    rw [Fin.sum_univ_one, outsAt0_A m c ⟨0, hn⟩ rfl]
    dsimp only
    exact Block.first_acc (h := holds m c ⟨0, hn⟩) ..
  | n + 1, hn => by
    have hN : cfg0.N = 32 := N_0
    have hB : ¬(⟨n + 1, hn⟩ : Fin cfg0.N).val % 32 = 0 := by dsimp only; omega
    rw [outsAt0_B m c ⟨n + 1, hn⟩ hB, Fin.sum_univ_castSucc]
    dsimp only
    refine (Block.later_acc (h := holds m c ⟨n + 1, hn⟩) ..).trans ?_
    refine congrArg (· + _) ?_
    exact out_acc i j n (Nat.lt_of_succ_lt hn)

end Cert.KernelIdeal.Points
-- ==== Proof.Arrays.lean ====
/-
  The arrays the kernel leaves: row `T` of each token array is the quantity of `Step` of token `T`, and the eight small
  rows are sums over all the tokens.
-/
module

public import proofs.«01_k».proof.Proof.Points
public import proofs.«01_k».proof.Proof.Gen.KernelIdeal.Value

@[expose] public section

noncomputable section

namespace Step

open Idealize.ShloMosaic

/-- The array whose row `T` is `f` of token `T`. -/
def rowsOf {n : Nat} (a : Fin 8192 → Token) (f : Token → Fin n → EReal) : Mat 8192 n := fun i => f (a (i 0)) (i 1)

/-- The small rows: sums over the tokens. -/
def sums (p : Params) (a : Fin 8192 → Token) : Mat 8 1024 := fun i => ∑ T, p.small (a T) (i 0) (i 1)

theorem sums_ix2 (p : Params) (a : Fin 8192 → Token) (i : Fin 8) (j : Fin 1024) :
    sums p a (ix2 i j) = ∑ T, p.small (a T) i j := rfl

/-- A sum over the tokens block by block. -/
theorem sum_rows (f : Fin 8192 → EReal) : ∑ b : Fin 32, ∑ r : Fin 256, f (row b r) = ∑ T, f T := by
  rw [← Fintype.sum_prod_type' (fun b r => f (row b r))]
  refine Fintype.sum_equiv (finProdFinEquiv (m := 32) (n := 256)) _ _ fun x => congrArg f (Fin.ext ?_)
  show 256 * x.1.val + x.2.val = x.2.val + 256 * x.1.val
  omega

end Step

namespace Cert.KernelIdeal.Arrays

open Idealize.ShloMosaic Idealize.ShloMosaic.TcCoe
open Cert.KernelIdeal Cert.KernelIdeal.Gen Step
open Cert.KernelIdeal.Points (params token)

variable (m : (ℓ : Loc nD τ sig) → Buf (Elt Ideal) ℓ) (c : Dev nD)

/-! ## Output 12 -/

theorem index_dY : ∀ t : Fin grid0.N, win0_12.index t 0 = t.val ∧ win0_12.index t 1 = 0 := by decide +kernel

theorem flushed_dY (t : Fin cfg0.N) :
    (dats m 0 c).flushed 12 t = ((cfg0.win 12).blk t).view.read (Elt Ideal) (rowsOf (token m c) (params m c).dY) := by
  rw [Value.flushed12]
  funext y
  obtain ⟨r, j, rfl⟩ : ∃ (r : Fin 256) (j : Fin 1024), y = ix2 r j := ⟨y 0, y 1, eq_ix2 y⟩
  rw [View.read_apply]
  refine Eq.trans (b := (outsAt0 m c t.val t.isLt).1 (ix2 r j)) rfl ?_
  rw [Points.out_dY]
  refine Eq.trans (b := rowsOf (token m c) (params m c).dY (ix2 (row t r) j)) rfl ?_
  refine congrArg (rowsOf (token m c) (params m c).dY) (funext fun a => ?_)
  refine Fin.ext ?_
  match a with
  | ⟨0, _⟩ => show 256 * t.val + r.val = win0_12.index t 0 * 256 + 1 * r.val; rw [(index_dY t).1]; omega
  | ⟨1, _⟩ => show j.val = win0_12.index t 1 * 1024 + 1 * j.val; rw [(index_dY t).2]; omega

theorem flush_dY : ∀ t : Fin cfg0.N, (cfg0.win 12).flush t = true := by decide +kernel

theorem cover_dY (i : S8192x1024.Idx) (t : Fin cfg0.N) (ht : t.val = (i 0 : Nat) / 256) :
    i ∈ ((View.whole main_v3_0).slice (win0_12.rect t)).set := by
  have h0 : (i 0 : Nat) < 8192 := (i 0).isLt
  have h1 : (i 1 : Nat) < 1024 := (i 1).isLt
  rw [View.set_slice_whole, Rect.mem_set_unit]
  intro a
  match a with
  | ⟨0, _⟩ =>
    show win0_12.index t 0 * 256 ≤ (i 0 : Nat) ∧ (i 0 : Nat) < win0_12.index t 0 * 256 + 256
    rw [(index_dY t).1]
    omega
  | ⟨1, _⟩ =>
    show win0_12.index t 1 * 1024 ≤ (i 1 : Nat) ∧ (i 1 : Nat) < win0_12.index t 1 * 1024 + 1024
    rw [(index_dY t).2]
    omega

theorem arr_dY : (dats m 0 c).arrAt 12 cfg0.N = rowsOf (token m c) (params m c).dY :=
  (dats m 0 c).arrAt_eq_of_cover 12 (rowsOf (token m c) (params m c).dY) (fun t _ => flushed_dY m c t) fun i =>
    have h0 : (i 0 : Nat) < 8192 := (i 0).isLt
    ⟨⟨(i 0 : Nat) / 256, by have hN : cfg0.N = 32 := N_0; omega⟩, flush_dY _, cover_dY i _ rfl⟩

/-! ## Output 13 -/

theorem index_dx1 : ∀ t : Fin grid0.N, win0_13.index t 0 = t.val ∧ win0_13.index t 1 = 0 := by decide +kernel

theorem flushed_dx1 (t : Fin cfg0.N) :
    (dats m 0 c).flushed 13 t = ((cfg0.win 13).blk t).view.read (Elt Ideal) (rowsOf (token m c) (params m c).dx1) := by
  rw [Value.flushed13]
  funext y
  obtain ⟨r, j, rfl⟩ : ∃ (r : Fin 256) (j : Fin 1024), y = ix2 r j := ⟨y 0, y 1, eq_ix2 y⟩
  rw [View.read_apply]
  refine Eq.trans (b := (outsAt0 m c t.val t.isLt).2.1 (ix2 r j)) rfl ?_
  rw [Points.out_dx1]
  refine Eq.trans (b := rowsOf (token m c) (params m c).dx1 (ix2 (row t r) j)) rfl ?_
  refine congrArg (rowsOf (token m c) (params m c).dx1) (funext fun a => ?_)
  refine Fin.ext ?_
  match a with
  | ⟨0, _⟩ => show 256 * t.val + r.val = win0_13.index t 0 * 256 + 1 * r.val; rw [(index_dx1 t).1]; omega
  | ⟨1, _⟩ => show j.val = win0_13.index t 1 * 1024 + 1 * j.val; rw [(index_dx1 t).2]; omega

theorem flush_dx1 : ∀ t : Fin cfg0.N, (cfg0.win 13).flush t = true := by decide +kernel

theorem cover_dx1 (i : S8192x1024.Idx) (t : Fin cfg0.N) (ht : t.val = (i 0 : Nat) / 256) :
    i ∈ ((View.whole main_v3_1).slice (win0_13.rect t)).set := by
  have h0 : (i 0 : Nat) < 8192 := (i 0).isLt
  have h1 : (i 1 : Nat) < 1024 := (i 1).isLt
  rw [View.set_slice_whole, Rect.mem_set_unit]
  intro a
  match a with
  | ⟨0, _⟩ =>
    show win0_13.index t 0 * 256 ≤ (i 0 : Nat) ∧ (i 0 : Nat) < win0_13.index t 0 * 256 + 256
    rw [(index_dx1 t).1]
    omega
  | ⟨1, _⟩ =>
    show win0_13.index t 1 * 1024 ≤ (i 1 : Nat) ∧ (i 1 : Nat) < win0_13.index t 1 * 1024 + 1024
    rw [(index_dx1 t).2]
    omega

theorem arr_dx1 : (dats m 0 c).arrAt 13 cfg0.N = rowsOf (token m c) (params m c).dx1 :=
  (dats m 0 c).arrAt_eq_of_cover 13 (rowsOf (token m c) (params m c).dx1) (fun t _ => flushed_dx1 m c t) fun i =>
    have h0 : (i 0 : Nat) < 8192 := (i 0).isLt
    ⟨⟨(i 0 : Nat) / 256, by have hN : cfg0.N = 32 := N_0; omega⟩, flush_dx1 _, cover_dx1 i _ rfl⟩

/-! ## Output 14 -/

theorem index_h2 : ∀ t : Fin grid0.N, win0_14.index t 0 = t.val ∧ win0_14.index t 1 = 0 := by decide +kernel

theorem flushed_h2 (t : Fin cfg0.N) :
    (dats m 0 c).flushed 14 t = ((cfg0.win 14).blk t).view.read (Elt Ideal) (rowsOf (token m c) (params m c).h2) := by
  rw [Value.flushed14]
  funext y
  obtain ⟨r, j, rfl⟩ : ∃ (r : Fin 256) (j : Fin 1024), y = ix2 r j := ⟨y 0, y 1, eq_ix2 y⟩
  rw [View.read_apply]
  refine Eq.trans (b := (outsAt0 m c t.val t.isLt).2.2.1 (ix2 r j)) rfl ?_
  rw [Points.out_h2]
  refine Eq.trans (b := rowsOf (token m c) (params m c).h2 (ix2 (row t r) j)) rfl ?_
  refine congrArg (rowsOf (token m c) (params m c).h2) (funext fun a => ?_)
  refine Fin.ext ?_
  match a with
  | ⟨0, _⟩ => show 256 * t.val + r.val = win0_14.index t 0 * 256 + 1 * r.val; rw [(index_h2 t).1]; omega
  | ⟨1, _⟩ => show j.val = win0_14.index t 1 * 1024 + 1 * j.val; rw [(index_h2 t).2]; omega

theorem flush_h2 : ∀ t : Fin cfg0.N, (cfg0.win 14).flush t = true := by decide +kernel

theorem cover_h2 (i : S8192x1024.Idx) (t : Fin cfg0.N) (ht : t.val = (i 0 : Nat) / 256) :
    i ∈ ((View.whole main_v3_2).slice (win0_14.rect t)).set := by
  have h0 : (i 0 : Nat) < 8192 := (i 0).isLt
  have h1 : (i 1 : Nat) < 1024 := (i 1).isLt
  rw [View.set_slice_whole, Rect.mem_set_unit]
  intro a
  match a with
  | ⟨0, _⟩ =>
    show win0_14.index t 0 * 256 ≤ (i 0 : Nat) ∧ (i 0 : Nat) < win0_14.index t 0 * 256 + 256
    rw [(index_h2 t).1]
    omega
  | ⟨1, _⟩ =>
    show win0_14.index t 1 * 1024 ≤ (i 1 : Nat) ∧ (i 1 : Nat) < win0_14.index t 1 * 1024 + 1024
    rw [(index_h2 t).2]
    omega

theorem arr_h2 : (dats m 0 c).arrAt 14 cfg0.N = rowsOf (token m c) (params m c).h2 :=
  (dats m 0 c).arrAt_eq_of_cover 14 (rowsOf (token m c) (params m c).h2) (fun t _ => flushed_h2 m c t) fun i =>
    have h0 : (i 0 : Nat) < 8192 := (i 0).isLt
    ⟨⟨(i 0 : Nat) / 256, by have hN : cfg0.N = 32 := N_0; omega⟩, flush_h2 _, cover_h2 i _ rfl⟩

/-! ## Output 15 -/

theorem index_act : ∀ t : Fin grid0.N, win0_15.index t 0 = t.val ∧ win0_15.index t 1 = 0 := by decide +kernel

theorem flushed_act (t : Fin cfg0.N) :
    (dats m 0 c).flushed 15 t = ((cfg0.win 15).blk t).view.read (Elt Ideal) (rowsOf (token m c) (params m c).act) := by
  rw [Value.flushed15]
  funext y
  obtain ⟨r, j, rfl⟩ : ∃ (r : Fin 256) (j : Fin 2816), y = ix2 r j := ⟨y 0, y 1, eq_ix2 y⟩
  rw [View.read_apply]
  refine Eq.trans (b := (outsAt0 m c t.val t.isLt).2.2.2.1 (ix2 r j)) rfl ?_
  rw [Points.out_act]
  refine Eq.trans (b := rowsOf (token m c) (params m c).act (ix2 (row t r) j)) rfl ?_
  refine congrArg (rowsOf (token m c) (params m c).act) (funext fun a => ?_)
  refine Fin.ext ?_
  match a with
  | ⟨0, _⟩ => show 256 * t.val + r.val = win0_15.index t 0 * 256 + 1 * r.val; rw [(index_act t).1]; omega
  | ⟨1, _⟩ => show j.val = win0_15.index t 1 * 2816 + 1 * j.val; rw [(index_act t).2]; omega

theorem flush_act : ∀ t : Fin cfg0.N, (cfg0.win 15).flush t = true := by decide +kernel

theorem cover_act (i : S8192x2816.Idx) (t : Fin cfg0.N) (ht : t.val = (i 0 : Nat) / 256) :
    i ∈ ((View.whole main_v3_3).slice (win0_15.rect t)).set := by
  have h0 : (i 0 : Nat) < 8192 := (i 0).isLt
  have h1 : (i 1 : Nat) < 2816 := (i 1).isLt
  rw [View.set_slice_whole, Rect.mem_set_unit]
  intro a
  match a with
  | ⟨0, _⟩ =>
    show win0_15.index t 0 * 256 ≤ (i 0 : Nat) ∧ (i 0 : Nat) < win0_15.index t 0 * 256 + 256
    rw [(index_act t).1]
    omega
  | ⟨1, _⟩ =>
    show win0_15.index t 1 * 2816 ≤ (i 1 : Nat) ∧ (i 1 : Nat) < win0_15.index t 1 * 2816 + 2816
    rw [(index_act t).2]
    omega

theorem arr_act : (dats m 0 c).arrAt 15 cfg0.N = rowsOf (token m c) (params m c).act :=
  (dats m 0 c).arrAt_eq_of_cover 15 (rowsOf (token m c) (params m c).act) (fun t _ => flushed_act m c t) fun i =>
    have h0 : (i 0 : Nat) < 8192 := (i 0).isLt
    ⟨⟨(i 0 : Nat) / 256, by have hN : cfg0.N = 32 := N_0; omega⟩, flush_act _, cover_act i _ rfl⟩

/-! ## Output 16 -/

theorem index_dff : ∀ t : Fin grid0.N, win0_16.index t 0 = t.val ∧ win0_16.index t 1 = 0 := by decide +kernel

theorem flushed_dff (t : Fin cfg0.N) :
    (dats m 0 c).flushed 16 t = ((cfg0.win 16).blk t).view.read (Elt Ideal) (rowsOf (token m c) (params m c).dff) := by
  rw [Value.flushed16]
  funext y
  obtain ⟨r, j, rfl⟩ : ∃ (r : Fin 256) (j : Fin 1024), y = ix2 r j := ⟨y 0, y 1, eq_ix2 y⟩
  rw [View.read_apply]
  refine Eq.trans (b := (outsAt0 m c t.val t.isLt).2.2.2.2.1 (ix2 r j)) rfl ?_
  rw [Points.out_dff]
  refine Eq.trans (b := rowsOf (token m c) (params m c).dff (ix2 (row t r) j)) rfl ?_
  refine congrArg (rowsOf (token m c) (params m c).dff) (funext fun a => ?_)
  refine Fin.ext ?_
  match a with
  | ⟨0, _⟩ => show 256 * t.val + r.val = win0_16.index t 0 * 256 + 1 * r.val; rw [(index_dff t).1]; omega
  | ⟨1, _⟩ => show j.val = win0_16.index t 1 * 1024 + 1 * j.val; rw [(index_dff t).2]; omega

theorem flush_dff : ∀ t : Fin cfg0.N, (cfg0.win 16).flush t = true := by decide +kernel

theorem cover_dff (i : S8192x1024.Idx) (t : Fin cfg0.N) (ht : t.val = (i 0 : Nat) / 256) :
    i ∈ ((View.whole main_v3_4).slice (win0_16.rect t)).set := by
  have h0 : (i 0 : Nat) < 8192 := (i 0).isLt
  have h1 : (i 1 : Nat) < 1024 := (i 1).isLt
  rw [View.set_slice_whole, Rect.mem_set_unit]
  intro a
  match a with
  | ⟨0, _⟩ =>
    show win0_16.index t 0 * 256 ≤ (i 0 : Nat) ∧ (i 0 : Nat) < win0_16.index t 0 * 256 + 256
    rw [(index_dff t).1]
    omega
  | ⟨1, _⟩ =>
    show win0_16.index t 1 * 1024 ≤ (i 1 : Nat) ∧ (i 1 : Nat) < win0_16.index t 1 * 1024 + 1024
    rw [(index_dff t).2]
    omega

theorem arr_dff : (dats m 0 c).arrAt 16 cfg0.N = rowsOf (token m c) (params m c).dff :=
  (dats m 0 c).arrAt_eq_of_cover 16 (rowsOf (token m c) (params m c).dff) (fun t _ => flushed_dff m c t) fun i =>
    have h0 : (i 0 : Nat) < 8192 := (i 0).isLt
    ⟨⟨(i 0 : Nat) / 256, by have hN : cfg0.N = 32 := N_0; omega⟩, flush_dff _, cover_dff i _ rfl⟩

/-! ## Output 17 -/

theorem index_dgu : ∀ t : Fin grid0.N, win0_17.index t 0 = t.val ∧ win0_17.index t 1 = 0 := by decide +kernel

theorem flushed_dgu (t : Fin cfg0.N) :
    (dats m 0 c).flushed 17 t = ((cfg0.win 17).blk t).view.read (Elt Ideal) (rowsOf (token m c) (params m c).dgu) := by
  rw [Value.flushed17]
  funext y
  obtain ⟨r, j, rfl⟩ : ∃ (r : Fin 256) (j : Fin 5632), y = ix2 r j := ⟨y 0, y 1, eq_ix2 y⟩
  rw [View.read_apply]
  refine Eq.trans (b := (outsAt0 m c t.val t.isLt).2.2.2.2.2.1 (ix2 r j)) rfl ?_
  rw [Points.out_dgu]
  refine Eq.trans (b := rowsOf (token m c) (params m c).dgu (ix2 (row t r) j)) rfl ?_
  refine congrArg (rowsOf (token m c) (params m c).dgu) (funext fun a => ?_)
  refine Fin.ext ?_
  match a with
  | ⟨0, _⟩ => show 256 * t.val + r.val = win0_17.index t 0 * 256 + 1 * r.val; rw [(index_dgu t).1]; omega
  | ⟨1, _⟩ => show j.val = win0_17.index t 1 * 5632 + 1 * j.val; rw [(index_dgu t).2]; omega

theorem flush_dgu : ∀ t : Fin cfg0.N, (cfg0.win 17).flush t = true := by decide +kernel

theorem cover_dgu (i : S8192x5632.Idx) (t : Fin cfg0.N) (ht : t.val = (i 0 : Nat) / 256) :
    i ∈ ((View.whole main_v3_5).slice (win0_17.rect t)).set := by
  have h0 : (i 0 : Nat) < 8192 := (i 0).isLt
  have h1 : (i 1 : Nat) < 5632 := (i 1).isLt
  rw [View.set_slice_whole, Rect.mem_set_unit]
  intro a
  match a with
  | ⟨0, _⟩ =>
    show win0_17.index t 0 * 256 ≤ (i 0 : Nat) ∧ (i 0 : Nat) < win0_17.index t 0 * 256 + 256
    rw [(index_dgu t).1]
    omega
  | ⟨1, _⟩ =>
    show win0_17.index t 1 * 5632 ≤ (i 1 : Nat) ∧ (i 1 : Nat) < win0_17.index t 1 * 5632 + 5632
    rw [(index_dgu t).2]
    omega

theorem arr_dgu : (dats m 0 c).arrAt 17 cfg0.N = rowsOf (token m c) (params m c).dgu :=
  (dats m 0 c).arrAt_eq_of_cover 17 (rowsOf (token m c) (params m c).dgu) (fun t _ => flushed_dgu m c t) fun i =>
    have h0 : (i 0 : Nat) < 8192 := (i 0).isLt
    ⟨⟨(i 0 : Nat) / 256, by have hN : cfg0.N = 32 := N_0; omega⟩, flush_dgu _, cover_dgu i _ rfl⟩

/-! ## Output 18 -/

theorem index_dmix : ∀ t : Fin grid0.N, win0_18.index t 0 = t.val ∧ win0_18.index t 1 = 0 := by decide +kernel

theorem flushed_dmix (t : Fin cfg0.N) :
    (dats m 0 c).flushed 18 t = ((cfg0.win 18).blk t).view.read (Elt Ideal) (rowsOf (token m c) (params m c).dmix) := by
  rw [Value.flushed18]
  funext y
  obtain ⟨r, j, rfl⟩ : ∃ (r : Fin 256) (j : Fin 1024), y = ix2 r j := ⟨y 0, y 1, eq_ix2 y⟩
  rw [View.read_apply]
  refine Eq.trans (b := (outsAt0 m c t.val t.isLt).2.2.2.2.2.2.1 (ix2 r j)) rfl ?_
  rw [Points.out_dmix]
  refine Eq.trans (b := rowsOf (token m c) (params m c).dmix (ix2 (row t r) j)) rfl ?_
  refine congrArg (rowsOf (token m c) (params m c).dmix) (funext fun a => ?_)
  refine Fin.ext ?_
  match a with
  | ⟨0, _⟩ => show 256 * t.val + r.val = win0_18.index t 0 * 256 + 1 * r.val; rw [(index_dmix t).1]; omega
  | ⟨1, _⟩ => show j.val = win0_18.index t 1 * 1024 + 1 * j.val; rw [(index_dmix t).2]; omega

theorem flush_dmix : ∀ t : Fin cfg0.N, (cfg0.win 18).flush t = true := by decide +kernel

theorem cover_dmix (i : S8192x1024.Idx) (t : Fin cfg0.N) (ht : t.val = (i 0 : Nat) / 256) :
    i ∈ ((View.whole main_v3_6).slice (win0_18.rect t)).set := by
  have h0 : (i 0 : Nat) < 8192 := (i 0).isLt
  have h1 : (i 1 : Nat) < 1024 := (i 1).isLt
  rw [View.set_slice_whole, Rect.mem_set_unit]
  intro a
  match a with
  | ⟨0, _⟩ =>
    show win0_18.index t 0 * 256 ≤ (i 0 : Nat) ∧ (i 0 : Nat) < win0_18.index t 0 * 256 + 256
    rw [(index_dmix t).1]
    omega
  | ⟨1, _⟩ =>
    show win0_18.index t 1 * 1024 ≤ (i 1 : Nat) ∧ (i 1 : Nat) < win0_18.index t 1 * 1024 + 1024
    rw [(index_dmix t).2]
    omega

theorem arr_dmix : (dats m 0 c).arrAt 18 cfg0.N = rowsOf (token m c) (params m c).dmix :=
  (dats m 0 c).arrAt_eq_of_cover 18 (rowsOf (token m c) (params m c).dmix) (fun t _ => flushed_dmix m c t) fun i =>
    have h0 : (i 0 : Nat) < 8192 := (i 0).isLt
    ⟨⟨(i 0 : Nat) / 256, by have hN : cfg0.N = 32 := N_0; omega⟩, flush_dmix _, cover_dmix i _ rfl⟩

/-! ## The small rows -/

theorem index_acc : ∀ t : Fin grid0.N, win0_19.index t 0 = 0 ∧ win0_19.index t 1 = 0 := by decide +kernel

theorem flush_acc : ∀ t : Fin cfg0.N, (cfg0.win 19).flush t = true → t.val = 31 := by decide +kernel

theorem flush_last : ∀ t : Fin cfg0.N, t.val = 31 → (cfg0.win 19).flush t = true := by decide +kernel

theorem flushed_acc (t : Fin cfg0.N) (hf : (cfg0.win 19).flush t = true) :
    (dats m 0 c).flushed 19 t = ((cfg0.win 19).blk t).view.read (Elt Ideal) (sums (params m c) (token m c)) := by
  rw [Value.flushed19]
  funext y
  obtain ⟨i, j, rfl⟩ : ∃ (i : Fin 8) (j : Fin 1024), y = ix2 i j := ⟨y 0, y 1, eq_ix2 y⟩
  rw [View.read_apply]
  refine Eq.trans (b := (outsAt0 m c t.val t.isLt).2.2.2.2.2.2.2 (ix2 i j)) rfl ?_
  rw [Points.out_acc]
  have h31 := flush_acc t hf
  obtain ⟨n, hn⟩ := t
  dsimp only at h31
  subst h31
  refine Eq.trans (sum_rows fun T => (params m c).small (token m c T) i j) ?_
  refine Eq.trans (sums_ix2 _ _ i j).symm ?_
  refine Eq.trans ?_ (cast_eq rfl _).symm
  refine congrArg (sums (params m c) (token m c)) (funext fun a => ?_)
  refine Fin.ext ?_
  match a with
  | ⟨0, _⟩ => show i.val = win0_19.index _ 0 * 8 + 1 * i.val; rw [(index_acc _).1]; omega
  | ⟨1, _⟩ => show j.val = win0_19.index _ 1 * 1024 + 1 * j.val; rw [(index_acc _).2]; omega

theorem cover_acc (i : S8x1024.Idx) (t : Fin cfg0.N) : i ∈ ((View.whole main_v3_7).slice (win0_19.rect t)).set := by
  have h0 : (i 0 : Nat) < 8 := (i 0).isLt
  have h1 : (i 1 : Nat) < 1024 := (i 1).isLt
  rw [View.set_slice_whole, Rect.mem_set_unit]
  intro a
  match a with
  | ⟨0, _⟩ =>
    show win0_19.index t 0 * 8 ≤ (i 0 : Nat) ∧ (i 0 : Nat) < win0_19.index t 0 * 8 + 8
    rw [(index_acc t).1]
    omega
  | ⟨1, _⟩ =>
    show win0_19.index t 1 * 1024 ≤ (i 1 : Nat) ∧ (i 1 : Nat) < win0_19.index t 1 * 1024 + 1024
    rw [(index_acc t).2]
    omega

theorem arr_acc : (dats m 0 c).arrAt 19 cfg0.N = sums (params m c) (token m c) :=
  (dats m 0 c).arrAt_eq_of_cover 19 (sums (params m c) (token m c)) (flushed_acc m c) fun i =>
    ⟨⟨31, by have hN : cfg0.N = 32 := N_0; omega⟩, flush_last _ rfl, cover_acc i _⟩

end Cert.KernelIdeal.Arrays
-- ==== Proof.RefValue.lean ====
/-
  What the reference returns, as arrays over all the tokens.
-/
module

public import proofs.«01_k».proof.Proof.RefBackward
public import proofs.«01_k».proof.Proof.Arrays

@[expose] public section

noncomputable section

namespace Cert.ReferenceIdeal.Stages

open Idealize.ShloMosaic Idealize.ShloMosaic.TcCoe
open Cert.ReferenceIdeal Cert.ReferenceIdeal.Gen Cert.ReferenceIdeal.Read Step

variable (x0 : (⟨S8192x1024, .f32⟩ : BufTy).Contents (Elt Ideal)) (x1 : (⟨S8192x1024, .bf16⟩ : BufTy).Contents (Elt Ideal))
  (x2 : (⟨S8192x1024, .f32⟩ : BufTy).Contents (Elt Ideal)) (x3 : (⟨S1x6144, .f32⟩ : BufTy).Contents (Elt Ideal))
  (x4 x5 : (⟨S1x1024, .f32⟩ : BufTy).Contents (Elt Ideal)) (x6 : (⟨S1024x1024, .f32⟩ : BufTy).Contents (Elt Ideal))
  (x7 : (⟨S1024x5632, .f32⟩ : BufTy).Contents (Elt Ideal)) (x8 : (⟨S2816x1024, .f32⟩ : BufTy).Contents (Elt Ideal))

/-- The eight results of the reference. -/
def Returns (y0 : (⟨S8192x1024, .f32⟩ : BufTy).Contents (Elt Ideal)) (y1 : (⟨S8192x1024, .bf16⟩ : BufTy).Contents (Elt Ideal))
    (y2 : (⟨S8192x1024, .f32⟩ : BufTy).Contents (Elt Ideal)) (y3 : (⟨S1x6144, .f32⟩ : BufTy).Contents (Elt Ideal))
    (y4 y5 : (⟨S1x1024, .f32⟩ : BufTy).Contents (Elt Ideal)) (y6 : (⟨S1024x1024, .f32⟩ : BufTy).Contents (Elt Ideal))
    (y7 : (⟨S1024x5632, .f32⟩ : BufTy).Contents (Elt Ideal)) (y8 : (⟨S2816x1024, .f32⟩ : BufTy).Contents (Elt Ideal)) (a : Fin 8192 → Token) (p : Params) : Prop :=
  (val_main_v145 (F := Ideal) y0 y1 y2 y3 y4 y5 y6 y7 y8) = rowsOf a p.dY
    ∧ (val_main_v139 (F := Ideal) y0 y1 y2 y3 y4 y5 y6 y7 y8) = rowsOf a p.dx1
    ∧ (val_main_v148 (F := Ideal) y0 y1 y3 y4 y6) = rowsOf a p.h2
    ∧ (val_main_v149 (F := Ideal) y0 y1 y3 y4 y6 y7) = rowsOf a p.act
    ∧ (val_main_v150 (F := Ideal) y0 y1 y2 y3 y4 y5 y6 y7 y8) = rowsOf a p.dff
    ∧ (val_main_v151 (F := Ideal) y0 y1 y2 y3 y4 y5 y6 y7 y8) = rowsOf a p.dgu
    ∧ (val_main_v152 (F := Ideal) y0 y1 y2 y3 y4 y5 y6 y7 y8) = rowsOf a p.dmix
    ∧ (val_main_v147 (F := Ideal) y0 y1 y2 y3 y4 y5 y6 y7 y8) = sums p a

theorem returns (ht : ∀ T j, Real' ((tok x0 x1 x2 T).t j)) (hg : ∀ j, Real' ((prm x3 x4 x5 x6 x7 x8).g2 j)) (hf : ∀ j, Real' ((prm x3 x4 x5 x6 x7 x8).fw j)) :
    Returns x0 x1 x2 x3 x4 x5 x6 x7 x8 (tok x0 x1 x2) (prm x3 x4 x5 x6 x7 x8) :=
  ⟨(funext fun i => e_v145 x0 x1 x2 x3 x4 x5 x6 x7 x8 ht hg hf i),
    (funext fun i => e_v139 x0 x1 x2 x3 x4 x5 x6 x7 x8 ht hg hf i),
    (funext fun i => (val_main_v148_apply x0 x1 x3 x4 x6 i).trans (e_v35 x0 x1 x2 x3 x4 x5 x6 x7 x8 i)),
    (funext fun i => (val_main_v149_apply x0 x1 x3 x4 x6 x7 i).trans (e_v41 x0 x1 x2 x3 x4 x5 x6 x7 x8 i)),
    (funext fun i => (val_main_v150_apply x0 x1 x2 x3 x4 x5 x6 x7 x8 i).trans (e_v103 x0 x1 x2 x3 x4 x5 x6 x7 x8 i)),
    (funext fun i => (val_main_v151_apply x0 x1 x2 x3 x4 x5 x6 x7 x8 i).trans (e_v111 x0 x1 x2 x3 x4 x5 x6 x7 x8 ht hg hf i)),
    (funext fun i => (val_main_v152_apply x0 x1 x2 x3 x4 x5 x6 x7 x8 i).trans (e_v141 x0 x1 x2 x3 x4 x5 x6 x7 x8 ht hg hf i)),
    (funext fun i => by
      obtain ⟨r, j, rfl⟩ : ∃ (r : Fin 8) (j : Fin 1024), i = ix2 r j := ⟨i 0, i 1, eq_ix2 i⟩
      exact e_v147 x0 x1 x2 x3 x4 x5 x6 x7 x8 ht hg hf r j)⟩

/-- The results at arguments that agree with others. -/
theorem returns_of_eq {y0 : (⟨S8192x1024, .f32⟩ : BufTy).Contents (Elt Ideal)} {y1 : (⟨S8192x1024, .bf16⟩ : BufTy).Contents (Elt Ideal)}
    {y2 : (⟨S8192x1024, .f32⟩ : BufTy).Contents (Elt Ideal)} {y3 : (⟨S1x6144, .f32⟩ : BufTy).Contents (Elt Ideal)}
    {y4 y5 : (⟨S1x1024, .f32⟩ : BufTy).Contents (Elt Ideal)} {y6 : (⟨S1024x1024, .f32⟩ : BufTy).Contents (Elt Ideal)}
    {y7 : (⟨S1024x5632, .f32⟩ : BufTy).Contents (Elt Ideal)} {y8 : (⟨S2816x1024, .f32⟩ : BufTy).Contents (Elt Ideal)}
    (h0 : y0 = x0) (h1 : y1 = x1) (h2 : y2 = x2) (h3 : y3 = x3) (h4 : y4 = x4) (h5 : y5 = x5) (h6 : y6 = x6) (h7 : y7 = x7) (h8 : y8 = x8)
    (ht : ∀ T j, Real' ((tok x0 x1 x2 T).t j)) (hg : ∀ j, Real' ((prm x3 x4 x5 x6 x7 x8).g2 j)) (hf : ∀ j, Real' ((prm x3 x4 x5 x6 x7 x8).fw j)) :
    Returns y0 y1 y2 y3 y4 y5 y6 y7 y8 (tok x0 x1 x2) (prm x3 x4 x5 x6 x7 x8) := by
  subst h0 h1 h2 h3 h4 h5 h6 h7 h8
  exact returns _ _ _ _ _ _ _ _ _ ht hg hf

end Cert.ReferenceIdeal.Stages
-- ==== Proof.Finite.lean ====
/-
  The precondition: an entry whose absolute value is below infinity is a real number. It is stated of the targets, of the
  feed-forward gate's vector and of the final norm's weight.
-/
module

public import proofs.«01_k».proof.Defs
public import proofs.«01_k».proof.Proof.Points
public import proofs.«01_k».proof.Proof.Algebra

@[expose] public section

noncomputable section

namespace Cert.Finite

open Idealize.ShloMosaic Idealize.ShloMosaic.TcCoe Step
open Cert.KernelIdeal.Points (params token)

theorem facts : Cert.Pre_finite.Facts where
  bcast_S_S8192x1024 := by decide
  slices_S1x6144_S1x1024_0_5120 := by decide
  bcast_S_S1x1024 := by decide

attribute [local instance] facts

theorem inf_word : Ideal.ofBits .f32 0x7F800000#32 = ⊤ := by simp [Ideal.ofBits, Ideal.ieee]

theorem real_of_lt {x : EReal} (h : Ideal.cmp .olt (max x (-x)) (Ideal.ofBits .f32 0x7F800000#32) = 1#1) : Real' x := by
  rw [inf_word] at h
  have h' : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  rw [max_lt_iff] at h'
  refine Real'.of_ne (fun e => ?_) (ne_of_lt h'.1)
  rw [e] at h'
  exact absurd h'.2 (by simp)

variable (m : (ℓ : Loc Cert.KernelIdeal.nD Cert.KernelIdeal.τ Cert.KernelIdeal.sig) → Buf (Elt Ideal) ℓ)
  (h : Cert.Pre_KernelIdeal_finite m) (c : Dev Cert.KernelIdeal.nD)
include h

theorem targets (T : Fin 8192) (j : Fin 1024) : Real' ((token m c T).t j) :=
  real_of_lt (congrFun (h c).1 (ix2 T j))

theorem gate2 (j : Fin 1024) : Real' ((params m c).g2 j) := by
  have e := congrFun (h c).2.1 (ix2 0 j)
  refine real_of_lt (Eq.trans ?_ e)
  have hs := extractStridedSlice_apply (s := Cert.Pre_finite.S1x6144) (t := Cert.Pre_finite.S1x1024) ![0, 5120]
    (m ((c.tc : Thread Cert.KernelIdeal.nD Cert.KernelIdeal.τ).loc Cert.KernelIdeal.main_arg3))
    Cert.Pre_finite.Facts.slices_S1x6144_S1x1024_0_5120 (ix2 0 j) (ix2 0 (chunk 5 j)) fun a => by
      match a with
      | ⟨0, _⟩ => rfl
      | ⟨1, _⟩ => rfl
  exact (congrArg (fun x : EReal => Ideal.cmp .olt (max x (-x)) (Ideal.ofBits .f32 0x7F800000#32)) hs).symm

theorem weight (j : Fin 1024) : Real' ((params m c).fw j) :=
  real_of_lt (congrFun (h c).2.2 (ix2 0 j))

end Cert.Finite
-- ==== Proof.Final.lean ====
/-
  The frames and the value claim: at every input whose targets, feed-forward gate vector and final norm weight are real
  numbers, the kernel's eight results are the reference's.
-/
module

public import proofs.«01_k».proof.Proof.RefValue
public import proofs.«01_k».proof.Proof.Finite
public import proofs.«01_k».proof.Proof.Gen.KernelIdeal.Value
public import proofs.«01_k».proof.Proof.Gen.ReferenceIdeal.Run

@[expose] public section

noncomputable section

namespace Cert.Local

open Idealize.ShloMosaic Idealize.ShloMosaic.TcCoe Idealize.SL.Sem Step

attribute [local instance] Cert.Finite.facts

theorem frame_reference : Cert.quiescent_ReferenceIdeal := fun m ρ _ =>
  (θ_run Cert.ReferenceIdeal.defs _ _).mono (fun r h => ⟨fun c => (h c).2.2.2.2.2.2.2.2,
      Idealize.ShloMosaic.sem_eq_zero_of_no_sems (by decide) r.2⟩)
    (Cert.ReferenceIdeal.Value.run (F := Ideal) m ρ)

open Cert.ReferenceIdeal.Read Cert.ReferenceIdeal.Stages in
theorem algebraic : Cert.algebraic_KernelIdeal_ReferenceIdeal_pre_finite := by
  intro m g m' g' hpre hagree
  have key := fun c : Dev Cert.KernelIdeal.nD => returns_of_eq _ _ _ _ _ _ _ _ _ (hagree c).1 (hagree c).2.1 (hagree c).2.2.1
    (hagree c).2.2.2.1 (hagree c).2.2.2.2.1 (hagree c).2.2.2.2.2.1 (hagree c).2.2.2.2.2.2.1 (hagree c).2.2.2.2.2.2.2.1
    (hagree c).2.2.2.2.2.2.2.2 (Cert.Finite.targets m hpre c) (Cert.Finite.gate2 m hpre c) (Cert.Finite.weight m hpre c)
  refine ⟨fun c => rowsOf (Cert.KernelIdeal.Points.token m c) (Cert.KernelIdeal.Points.params m c).dY,
    fun c => rowsOf (Cert.KernelIdeal.Points.token m c) (Cert.KernelIdeal.Points.params m c).dx1,
    fun c => rowsOf (Cert.KernelIdeal.Points.token m c) (Cert.KernelIdeal.Points.params m c).h2,
    fun c => rowsOf (Cert.KernelIdeal.Points.token m c) (Cert.KernelIdeal.Points.params m c).act,
    fun c => rowsOf (Cert.KernelIdeal.Points.token m c) (Cert.KernelIdeal.Points.params m c).dff,
    fun c => rowsOf (Cert.KernelIdeal.Points.token m c) (Cert.KernelIdeal.Points.params m c).dgu,
    fun c => rowsOf (Cert.KernelIdeal.Points.token m c) (Cert.KernelIdeal.Points.params m c).dmix,
    fun c => sums (Cert.KernelIdeal.Points.params m c) (Cert.KernelIdeal.Points.token m c), ?_, ?_⟩
  · refine (θ_run Cert.KernelIdeal.defs _ _).mono (fun r h c => ?_) (Cert.KernelIdeal.Value.run_blocks (F := Ideal) m g)
    obtain ⟨r0, r1, r2, r3, r4, r5, r6, r7, kept⟩ := h c
    exact ⟨r0.trans (Cert.KernelIdeal.Arrays.arr_dY m c), r1.trans (Cert.KernelIdeal.Arrays.arr_dx1 m c), r2.trans (Cert.KernelIdeal.Arrays.arr_h2 m c), r3.trans (Cert.KernelIdeal.Arrays.arr_act m c), r4.trans (Cert.KernelIdeal.Arrays.arr_dff m c), r5.trans (Cert.KernelIdeal.Arrays.arr_dgu m c), r6.trans (Cert.KernelIdeal.Arrays.arr_dmix m c), r7.trans (Cert.KernelIdeal.Arrays.arr_acc m c), kept⟩
  · refine (θ_run Cert.ReferenceIdeal.defs _ _).mono (fun r h c => ?_) (Cert.ReferenceIdeal.Value.run (F := Ideal) m' g')
    obtain ⟨r0, r1, r2, r3, r4, r5, r6, r7, kept⟩ := h c
    obtain ⟨k0, k1, k2, k3, k4, k5, k6, k7⟩ := key c
    exact ⟨r0.trans ((val_main_v145_eq (Idealize.ShloMosaic.StableHlo.launchContents m' c)).trans k0),
      r1.trans ((val_main_v139_eq (Idealize.ShloMosaic.StableHlo.launchContents m' c)).trans k1),
      r2.trans ((val_main_v148_eq (Idealize.ShloMosaic.StableHlo.launchContents m' c)).trans k2),
      r3.trans ((val_main_v149_eq (Idealize.ShloMosaic.StableHlo.launchContents m' c)).trans k3),
      r4.trans ((val_main_v150_eq (Idealize.ShloMosaic.StableHlo.launchContents m' c)).trans k4),
      r5.trans ((val_main_v151_eq (Idealize.ShloMosaic.StableHlo.launchContents m' c)).trans k5),
      r6.trans ((val_main_v152_eq (Idealize.ShloMosaic.StableHlo.launchContents m' c)).trans k6),
      r7.trans ((val_main_v147_eq (Idealize.ShloMosaic.StableHlo.launchContents m' c)).trans k7), kept⟩

end Cert.Local
-- ==== Proof.Product.lean ====
/-
  The gradient of a weight of a product: the product of the two factors' rows summed over the 8192 tokens.

  The kernel takes 2048 tokens at a time and keeps a running sum of the blocks' products, four in a row for each block of
  the result. Over the extended reals the running sum is the sum over all tokens, whatever the entries are.
-/
module

public import Idealize.ShloMosaic.PureOps.Ideal
public import Idealize.ShloMosaic.PureOps.Ideal.Laws
public import Idealize.ShloMosaic.Lib.Pipeline.Value
public import Idealize.ShloMosaic.Lib.Pointwise

@[expose] public section

noncomputable section

namespace Product

open Idealize.ShloMosaic

/-- Entry `(k, n)` of the weight's gradient, the tokens' rows of the left factor `a` and of the gradient `g`. -/
def entry {K N : Nat} (a : (⟨2, ![8192, K]⟩ : Shape).Idx → EReal) (g : (⟨2, ![8192, N]⟩ : Shape).Idx → EReal)
    (k : Fin K) (n : Fin N) : EReal := ∑ T, a (ix2 T k) * g (ix2 T n)

/-- Reading an array of rows at two columns of the same number. -/
theorem read_congr {K : Nat} (a : (⟨2, ![8192, K]⟩ : Shape).Idx → EReal) (i : (⟨2, ![8192, K]⟩ : Shape).Idx) (T : Fin 8192)
    (k : Fin K) (h0 : (i 0).val = T.val) (h1 : (i 1).val = k.val) : a i = a (ix2 T k) :=
  congrArg a (funext fun x => Fin.ext (match x with | ⟨0, _⟩ => h0 | ⟨1, _⟩ => h1))

/-- The gradient as the kernel lays it out: the columns in `P` blocks of `N`, block by block. -/
def blocks {K P N M : Nat} (hM : P * N = M) (a : (⟨2, ![8192, K]⟩ : Shape).Idx → EReal)
    (g : (⟨2, ![8192, M]⟩ : Shape).Idx → EReal) : (⟨3, ![P, K, N]⟩ : Shape).Idx → EReal := fun i =>
  entry a g (i 1) ⟨N * (i 0).val + (i 2).val, by
    have h0 : (i 0).val < P := (i 0).isLt
    have h2 : (i 2).val < N := (i 2).isLt
    calc N * (i 0).val + (i 2).val < N * ((i 0).val + 1) := by rw [Nat.mul_add, Nat.mul_one]; omega
      _ ≤ N * P := Nat.mul_le_mul_left _ h0
      _ = M := by rw [Nat.mul_comm, hM]⟩

/-- An index of a block of the result by its two coordinates that vary. -/
theorem at_block {K N : Nat} (i : (⟨3, ![1, K, N]⟩ : Shape).Idx) : ∃ (k : Fin K) (n : Fin N), i = ix3 0 k n :=
  ⟨i 1, i 2, funext fun a => Fin.ext (by
    match a with
    | ⟨0, _⟩ => have h : (i 0).val < 1 := (i 0).isLt; show (i 0).val = 0; omega
    | ⟨1, _⟩ => rfl
    | ⟨2, _⟩ => rfl)⟩

/-- Token `r` of the block of 2048 the grid is at in its step `n`. -/
def row (n : ℕ) (r : Fin 2048) : Fin 8192 := ⟨2048 * (n % 4) + r.val, by omega⟩

/-- A sum over the tokens block by block, in the four steps of run `q`. -/
theorem sum_run (f : Fin 8192 → EReal) (q : ℕ) :
    ∑ s ∈ Finset.range 4, ∑ r : Fin 2048, f (row (4 * q + s) r) = ∑ T, f T := by
  rw [← Fin.sum_univ_eq_sum_range (fun s => ∑ r : Fin 2048, f (row (4 * q + s) r)) 4,
    ← Fintype.sum_prod_type' (fun (s : Fin 4) r => f (row (4 * q + s.val) r))]
  refine Fintype.sum_equiv (finProdFinEquiv (m := 4) (n := 2048)) _ _ fun x => congrArg f (Fin.ext ?_)
  show 2048 * ((4 * q + x.1.val) % 4) + x.2.val = x.2.val + 2048 * x.1.val
  have := x.1.isLt
  omega

/-- A running sum of products of blocks over run `q`. A block of the left factor is 2048 tokens of the columns `cl`, one
    of the gradient 2048 tokens of the columns `cr`; the reset is to zeros (`z`). The run's fold is the gradient there. -/
theorem accumulated {K N K' N' C : ℕ}
    (body : ((⟨3, ![1, K, N]⟩ : Shape).Idx → EReal) → ((⟨2, ![2048, K]⟩ : Shape).Idx → EReal)
      → ((⟨2, ![2048, N]⟩ : Shape).Idx → EReal) → (⟨3, ![1, K, N]⟩ : Shape).Idx → EReal)
    (z : (⟨3, ![1, K, N]⟩ : Shape).Idx → EReal)
    (x : (n : ℕ) → n < C → (⟨2, ![2048, K]⟩ : Shape).Idx → EReal) (y : (n : ℕ) → n < C → (⟨2, ![2048, N]⟩ : Shape).Idx → EReal)
    (a : (⟨2, ![8192, K']⟩ : Shape).Idx → EReal) (g : (⟨2, ![8192, N']⟩ : Shape).Idx → EReal)
    (cl : ℕ → Fin K → Fin K') (cr : ℕ → Fin N → Fin N')
    (hbody : ∀ acc x y k n, body acc x y (ix3 0 k n) = acc (ix3 0 k n) + ∑ r, x (ix2 r k) * y (ix2 r n))
    (hz : ∀ i, z i = 0)
    (hx : ∀ n h r k, x n h (ix2 r k) = a (ix2 (row n r) (cl (n / 4) k)))
    (hy : ∀ n h r k, y n h (ix2 r k) = g (ix2 (row n r) (cr (n / 4) k)))
    (q : ℕ) (h : 4 * q + 3 < C) (i : (⟨3, ![1, K, N]⟩ : Shape).Idx) :
    Pipeline.accAt (fun n h => body z (x n h) (y n h)) (fun n h acc => body acc (x n h) (y n h)) (4 * q) 3 h i
      = entry a g (cl q (i 1)) (cr q (i 2)) := by
  have step (n : ℕ) (h : n < C) (acc : (⟨3, ![1, K, N]⟩ : Shape).Idx → EReal) (i : (⟨3, ![1, K, N]⟩ : Shape).Idx) :
      body acc (x n h) (y n h) i = acc i
        + ∑ r, a (ix2 (row n r) (cl (n / 4) (i 1))) * g (ix2 (row n r) (cr (n / 4) (i 2))) := by
    obtain ⟨k, l, rfl⟩ := at_block i
    refine (hbody _ _ _ _ _).trans (congrArg (acc (ix3 0 k l) + ·) (Finset.sum_congr rfl fun r _ => ?_))
    exact congrArg₂ (· * ·) (hx n h r k) (hy n h r l)
  rw [Pipeline.accAt_add_apply _ _ (fun _ => 0)
    (fun n i => ∑ r, a (ix2 (row n r) (cl (n / 4) (i 1))) * g (ix2 (row n r) (cr (n / 4) (i 2)))) (4 * q) 3
    (fun h i => (step _ h z i).trans (by rw [hz])) (fun n h acc i _ _ => step n h acc i) 3 le_rfl h i, zero_add]
  unfold entry
  rw [← sum_run _ q]
  refine Finset.sum_congr rfl fun s hs => ?_
  have hs := Finset.mem_range.mp hs
  rw [show (4 * q + s) / 4 = q by omega]

end Product

end
-- ==== Proof.GradOut.lean ====
/-
  The gradient of the mixers' output weight: one block, in the kernel's result as in the reference's.
-/
module

public import proofs.«01_k».proof.Proof.Product
public import proofs.«01_k».proof.Proof.Gen.GradOutIdeal.Value
public import proofs.«01_k».proof.Proof.Gen.GradOutReferenceIdeal.Run
public import proofs.«01_k».proof.Proof.Gen.GradOutReferenceIdeal.Read
public import proofs.«01_k».proof.Defs
public import Idealize.ShloMosaic.Lib.StableHlo.RunRead

@[expose] public section

noncomputable section

namespace Cert.GradOutIdeal

open Idealize.ShloMosaic Idealize.ShloMosaic.TcCoe
open Cert.GradOutIdeal.Gen Cert.GradOutIdeal.Value Product

/-- The body adds a block's product to what the result's block holds. -/
theorem body (acc : Vec Ideal S1x1024x1024 .f32) (a : Vec Ideal S2048x1024 .bf16) (g : Vec Ideal S2048x1024 .bf16)
    (k : Fin 1024) (n : Fin 1024) :
    k0_pay2 acc a g (ix3 0 k n) = acc (ix3 0 k n) + ∑ r : Fin 2048, a (ix2 r k) * g (ix2 r n) := by
  unfold k0_pay2; pointwise [dot_S2048x1024_S2048x1024_S1024x1024_0_0_1_1_n_n]

/-- The first block is added to zeros. -/
theorem zeros (i : S1x1024x1024.Idx) : k0_pay1 (F := Ideal) i = 0 := by
  unfold k0_pay1; pointwise

variable (m : (ℓ : Loc nD τ sig) → Buf (Elt Ideal) ℓ) (c : Dev nD)

/-- The left factor and the gradient as launched. -/
abbrev left : S8192x1024.Idx → EReal := m ((c : Thread nD τ).loc main_arg0)
abbrev right : S8192x1024.Idx → EReal := m ((c : Thread nD τ).loc main_arg1)

theorem index_left : ∀ t : Fin grid0.N, win0_0.index t 0 = t.val % 4 ∧ win0_0.index t 1 = 0 := by decide +kernel
theorem index_right : ∀ t : Fin grid0.N, win0_1.index t 0 = t.val % 4 ∧ win0_1.index t 1 = 0 := by decide +kernel

theorem block_left (t : Fin cfg0.N) (r : Fin 2048) (k : Fin 1024) :
    iblk m c 0 t (ix2 r k) = left m c (ix2 (row t.val r) k) := by
  unfold iblk
  rw [View.read_apply]
  refine Eq.trans (b := V m c main_arg0 _) rfl ?_
  rw [V_main_arg0]
  refine read_congr _ _ _ _ ?_ ?_
  · show win0_0.index t 0 * 2048 + 1 * r.val = 2048 * (t.val % 4) + r.val; rw [(index_left t).1]; omega
  · show win0_0.index t 1 * 1024 + 1 * k.val = k.val; rw [(index_left t).2]; omega

theorem block_right (t : Fin cfg0.N) (r : Fin 2048) (n : Fin 1024) :
    iblk m c 1 t (ix2 r n) = right m c (ix2 (row t.val r) n) := by
  unfold iblk
  rw [View.read_apply]
  refine Eq.trans (b := V m c main_arg1 _) rfl ?_
  rw [V_main_arg1]
  refine read_congr _ _ _ _ ?_ ?_
  · show win0_1.index t 0 * 2048 + 1 * r.val = 2048 * (t.val % 4) + r.val; rw [(index_right t).1]; omega
  · show win0_1.index t 1 * 1024 + 1 * n.val = n.val; rw [(index_right t).2]; omega

/-- What the kernel leaves is the gradient. -/
theorem returns : G2 m c = blocks rfl (left m c) (right m c) := by
  funext i
  have h0 : (i 0).val < 1 := (i 0).isLt
  have h1 : (i 1).val < 1024 := (i 1).isLt
  have h2 : (i 2).val < 1024 := (i 2).isLt
  have hq : run2Of i = 0 := by
    show 1 * ((i 0).val / 1 - 0) + 1 * ((i 1).val / 1024 - 0) + 1 * ((i 2).val / 1024 - 0) = _; omega
  unfold G2
  rw [dif_pos (by rw [hq]; exact lt_of_lt_of_eq (by omega) (show 4 = cfg0.N from N_0.symm))]
  refine (accumulated (k0_pay2 (F := Ideal)) (k0_pay1 (F := Ideal))
    (fun n h => iblk m c 0 ⟨n, h⟩) (fun n h => iblk m c 1 ⟨n, h⟩) (left m c) (right m c)
    (fun _ k => k) (fun _ n => n) body zeros (fun n h => block_left m c ⟨n, h⟩) (fun n h => block_right m c ⟨n, h⟩) _ _ _).trans ?_
  refine congrArg₂ (entry (left m c) (right m c)) (Fin.ext ?_) (Fin.ext ?_)
  · exact Nat.mod_eq_of_lt h1
  · show (i 2).val % 1024 = 1024 * (i 0).val + (i 2).val
    omega

end Cert.GradOutIdeal

namespace Cert.GradOutReferenceIdeal

open Idealize.ShloMosaic Idealize.ShloMosaic.TcCoe
open Cert.GradOutReferenceIdeal.Read Product

/-- What the reference returns is the gradient. -/
theorem returns (a : S8192x1024.Idx → EReal) (g : S8192x1024.Idx → EReal) :
    val_main_v7 (F := Ideal) a g = blocks rfl a g := by
  funext i
  have h0 : (i 0).val < 1 := (i 0).isLt
  have h1 : (i 1).val < 1024 := (i 1).isLt
  have h2 : (i 2).val < 1024 := (i 2).isLt
  rw [val_main_v7_apply, val_main_v6_apply, val_main_v5_apply, val_main_v4_apply]
  unfold blocks entry
  refine Finset.sum_congr rfl fun T _ => (mul_comm _ _).trans (congrArg₂ (· * ·) ?_ ?_)
  · refine read_congr a _ T (i 1) rfl ?_
    show (((i 1).val * 1 + (i 0).val) * 1024 + (i 2).val) / 1024 = (i 1).val
    omega
  · refine read_congr g _ T _ rfl ?_
    show (((i 1).val * 1 + (i 0).val) * 1024 + (i 2).val) % 1024 = 1024 * (i 0).val + (i 2).val
    omega

end Cert.GradOutReferenceIdeal

namespace Cert.GradOutIdeal

open Idealize.ShloMosaic Idealize.ShloMosaic.TcCoe

/-- The reference runs and leaves its arguments unchanged. -/
theorem frame_reference : Cert.quiescent_GradOutReferenceIdeal := fun m ρ _ =>
  (θ_run Cert.GradOutReferenceIdeal.defs _ _).mono (fun r h => ⟨fun c => (h c).2,
      Idealize.ShloMosaic.sem_eq_zero_of_no_sems (by decide) r.2⟩)
    (Cert.GradOutReferenceIdeal.Value.run (F := Ideal) m ρ)

/-- Kernel and reference return the same gradient. -/
theorem algebraic : Cert.algebraic_GradOutIdeal_GradOutReferenceIdeal := by
  intro m g m' g' _ hagree
  refine ⟨fun c => Product.blocks rfl (left m c) (right m c), ?_, ?_⟩
  · refine (θ_run Cert.GradOutIdeal.defs _ _).mono (fun r h c => ?_) (Cert.GradOutIdeal.Value.run (F := Ideal) m g)
    exact ⟨(h c).1.trans (returns m c), (h c).2⟩
  · refine (θ_run Cert.GradOutReferenceIdeal.defs _ _).mono (fun r h c => ?_)
      (Cert.GradOutReferenceIdeal.Value.run (F := Ideal) m' g')
    refine ⟨(h c).1.trans ((Cert.GradOutReferenceIdeal.Read.val_main_v7_eq _ _).trans ?_), (h c).2⟩
    rw [(hagree c).1, (hagree c).2]
    exact Cert.GradOutReferenceIdeal.returns _ _

end Cert.GradOutIdeal

end
-- ==== Proof.GradFfnIn.lean ====
/-
  The gradient of the feed-forward input weight: block `s` of the kernel's result is columns `1408 s … 1408 s + 1407` of
  the gradient, and so is the reference's.
-/
module

public import proofs.«01_k».proof.Proof.Product
public import proofs.«01_k».proof.Proof.Gen.GradFfnInIdeal.Value
public import proofs.«01_k».proof.Proof.Gen.GradFfnInReferenceIdeal.Run
public import proofs.«01_k».proof.Proof.Gen.GradFfnInReferenceIdeal.Read
public import proofs.«01_k».proof.Defs
public import Idealize.ShloMosaic.Lib.StableHlo.RunRead

@[expose] public section

noncomputable section

namespace Cert.GradFfnInIdeal

open Idealize.ShloMosaic Idealize.ShloMosaic.TcCoe
open Cert.GradFfnInIdeal.Gen Cert.GradFfnInIdeal.Value Product

/-- The body adds a block's product to what the result's block holds. -/
theorem body (acc : Vec Ideal S1x1024x1408 .f32) (a : Vec Ideal S2048x1024 .bf16) (g : Vec Ideal S2048x1408 .bf16)
    (k : Fin 1024) (n : Fin 1408) :
    k0_pay2 acc a g (ix3 0 k n) = acc (ix3 0 k n) + ∑ r : Fin 2048, a (ix2 r k) * g (ix2 r n) := by
  unfold k0_pay2; pointwise [dot_S2048x1024_S2048x1408_S1024x1408_0_0_1_1_n_n]

/-- The first block is added to zeros. -/
theorem zeros (i : S1x1024x1408.Idx) : k0_pay1 (F := Ideal) i = 0 := by
  unfold k0_pay1; pointwise

variable (m : (ℓ : Loc nD τ sig) → Buf (Elt Ideal) ℓ) (c : Dev nD)

/-- The left factor and the gradient as launched. -/
abbrev left : S8192x1024.Idx → EReal := m ((c : Thread nD τ).loc main_arg0)
abbrev right : S8192x5632.Idx → EReal := m ((c : Thread nD τ).loc main_arg1)

theorem index_left : ∀ t : Fin grid0.N, win0_0.index t 0 = t.val % 4 ∧ win0_0.index t 1 = 0 := by decide +kernel
theorem index_right : ∀ t : Fin grid0.N, win0_1.index t 0 = t.val % 4 ∧ win0_1.index t 1 = t.val / 4 := by decide +kernel

theorem block_left (t : Fin cfg0.N) (r : Fin 2048) (k : Fin 1024) :
    iblk m c 0 t (ix2 r k) = left m c (ix2 (row t.val r) k) := by
  unfold iblk
  rw [View.read_apply]
  refine Eq.trans (b := V m c main_arg0 _) rfl ?_
  rw [V_main_arg0]
  congr 1
  funext a
  refine Fin.ext ?_
  match a with
  | ⟨0, _⟩ => show win0_0.index t 0 * 2048 + 1 * r.val = 2048 * (t.val % 4) + r.val; rw [(index_left t).1]; omega
  | ⟨1, _⟩ => show win0_0.index t 1 * 1024 + 1 * k.val = k.val; rw [(index_left t).2]; omega

/-- Column `n` of the result's block `q`. -/
def column (q : ℕ) (n : Fin 1408) : Fin 5632 := ⟨1408 * (q % 4) + n.val, by omega⟩

theorem block_right (t : Fin cfg0.N) (r : Fin 2048) (n : Fin 1408) :
    iblk m c 1 t (ix2 r n) = right m c (ix2 (row t.val r) (column (t.val / 4) n)) := by
  unfold iblk
  rw [View.read_apply]
  refine Eq.trans (b := V m c main_arg1 _) rfl ?_
  rw [V_main_arg1]
  congr 1
  funext a
  refine Fin.ext ?_
  have ht : t.val < 16 := lt_of_lt_of_eq t.isLt (show cfg0.N = 16 from N_0)
  match a with
  | ⟨0, _⟩ => show win0_1.index t 0 * 2048 + 1 * r.val = 2048 * (t.val % 4) + r.val; rw [(index_right t).1]; omega
  | ⟨1, _⟩ => show win0_1.index t 1 * 1408 + 1 * n.val = 1408 * (t.val / 4 % 4) + n.val; rw [(index_right t).2]; omega

/-- What the kernel leaves is the gradient. -/
theorem returns : G2 m c = blocks rfl (left m c) (right m c) := by
  funext i
  have h0 : (i 0).val < 4 := (i 0).isLt
  have h1 : (i 1).val < 1024 := (i 1).isLt
  have h2 : (i 2).val < 1408 := (i 2).isLt
  have hq : run2Of i = (i 0).val := by
    show 1 * ((i 0).val / 1 - 0) + 1 * ((i 1).val / 1024 - 0) + 1 * ((i 2).val / 1408 - 0) = _; omega
  unfold G2
  rw [dif_pos (by rw [hq]; exact lt_of_lt_of_eq (by omega) (show 16 = cfg0.N from N_0.symm))]
  refine (accumulated (k0_pay2 (F := Ideal)) (k0_pay1 (F := Ideal))
    (fun n h => iblk m c 0 ⟨n, h⟩) (fun n h => iblk m c 1 ⟨n, h⟩) (left m c) (right m c)
    (fun _ k => k) column body zeros (fun n h => block_left m c ⟨n, h⟩) (fun n h => block_right m c ⟨n, h⟩) _ _ _).trans ?_
  refine congrArg₂ (entry (left m c) (right m c)) (Fin.ext (Nat.mod_eq_of_lt h1)) (Fin.ext ?_)
  show 1408 * (run2Of i % 4) + (i 2).val % 1408 = 1408 * (i 0).val + (i 2).val
  rw [hq]; omega

end Cert.GradFfnInIdeal

namespace Cert.GradFfnInReferenceIdeal

open Idealize.ShloMosaic Idealize.ShloMosaic.TcCoe
open Cert.GradFfnInReferenceIdeal.Read Product

/-- What the reference returns is the gradient. -/
theorem returns (a : S8192x1024.Idx → EReal) (g : S8192x5632.Idx → EReal) :
    val_main_v7 (F := Ideal) a g = blocks rfl a g := by
  funext i
  have h0 : (i 0).val < 4 := (i 0).isLt
  have h1 : (i 1).val < 1024 := (i 1).isLt
  have h2 : (i 2).val < 1408 := (i 2).isLt
  rw [val_main_v7_apply, val_main_v6_apply, val_main_v5_apply, val_main_v4_apply]
  unfold blocks entry
  refine Finset.sum_congr rfl fun T _ => (mul_comm _ _).trans (congrArg₂ (· * ·) ?_ ?_)
  · refine read_congr a _ T (i 1) rfl ?_
    show (((i 1).val * 4 + (i 0).val) * 1408 + (i 2).val) / 5632 = (i 1).val
    omega
  · refine read_congr g _ T _ rfl ?_
    show (((i 1).val * 4 + (i 0).val) * 1408 + (i 2).val) % 5632 = 1408 * (i 0).val + (i 2).val
    omega

end Cert.GradFfnInReferenceIdeal

namespace Cert.GradFfnInIdeal

open Idealize.ShloMosaic Idealize.ShloMosaic.TcCoe

/-- The reference runs and leaves its arguments unchanged. -/
theorem frame_reference : Cert.quiescent_GradFfnInReferenceIdeal := fun m ρ _ =>
  (θ_run Cert.GradFfnInReferenceIdeal.defs _ _).mono (fun r h => ⟨fun c => (h c).2,
      Idealize.ShloMosaic.sem_eq_zero_of_no_sems (by decide) r.2⟩)
    (Cert.GradFfnInReferenceIdeal.Value.run (F := Ideal) m ρ)

/-- Kernel and reference return the same gradient. -/
theorem algebraic : Cert.algebraic_GradFfnInIdeal_GradFfnInReferenceIdeal := by
  intro m g m' g' _ hagree
  refine ⟨fun c => Product.blocks rfl (left m c) (right m c), ?_, ?_⟩
  · refine (θ_run Cert.GradFfnInIdeal.defs _ _).mono (fun r h c => ?_) (Cert.GradFfnInIdeal.Value.run (F := Ideal) m g)
    exact ⟨(h c).1.trans (returns m c), (h c).2⟩
  · refine (θ_run Cert.GradFfnInReferenceIdeal.defs _ _).mono (fun r h c => ?_)
      (Cert.GradFfnInReferenceIdeal.Value.run (F := Ideal) m' g')
    refine ⟨(h c).1.trans ((Cert.GradFfnInReferenceIdeal.Read.val_main_v7_eq _ _).trans ?_), (h c).2⟩
    rw [(hagree c).1, (hagree c).2]
    exact Cert.GradFfnInReferenceIdeal.returns _ _

end Cert.GradFfnInIdeal

end
-- ==== Proof.GradFfnOut.lean ====
/-
  The gradient of the feed-forward output weight: the kernel takes its 2816 rows in two blocks of 1408, and returns it as
  the reference does.
-/
module

public import proofs.«01_k».proof.Proof.Product
public import proofs.«01_k».proof.Proof.Gen.GradFfnOutIdeal.Value
public import proofs.«01_k».proof.Proof.Gen.GradFfnOutReferenceIdeal.Run
public import proofs.«01_k».proof.Proof.Gen.GradFfnOutReferenceIdeal.Read
public import proofs.«01_k».proof.Defs
public import Idealize.ShloMosaic.Lib.StableHlo.RunRead

@[expose] public section

noncomputable section

namespace Cert.GradFfnOutIdeal

open Idealize.ShloMosaic Idealize.ShloMosaic.TcCoe
open Cert.GradFfnOutIdeal.Gen Cert.GradFfnOutIdeal.Value Product

/-- The body adds a block's product to what the result's block holds. -/
theorem body (acc : Vec Ideal S1x1408x1024 .f32) (a : Vec Ideal S2048x1408 .bf16) (g : Vec Ideal S2048x1024 .bf16)
    (k : Fin 1408) (n : Fin 1024) :
    k0_pay2 acc a g (ix3 0 k n) = acc (ix3 0 k n) + ∑ r : Fin 2048, a (ix2 r k) * g (ix2 r n) := by
  unfold k0_pay2; pointwise [dot_S2048x1408_S2048x1024_S1408x1024_0_0_1_1_n_n]

/-- The first block is added to zeros. -/
theorem zeros (i : S1x1408x1024.Idx) : k0_pay1 (F := Ideal) i = 0 := by
  unfold k0_pay1; pointwise

variable (m : (ℓ : Loc nD τ sig) → Buf (Elt Ideal) ℓ) (c : Dev nD)

/-- The left factor and the gradient as launched. -/
abbrev left : S8192x2816.Idx → EReal := m ((c : Thread nD τ).loc main_arg0)
abbrev right : S8192x1024.Idx → EReal := m ((c : Thread nD τ).loc main_arg1)

theorem index_left : ∀ t : Fin grid0.N, win0_0.index t 0 = t.val % 4 ∧ win0_0.index t 1 = t.val / 4 := by decide +kernel
theorem index_right : ∀ t : Fin grid0.N, win0_1.index t 0 = t.val % 4 ∧ win0_1.index t 1 = 0 := by decide +kernel

/-- Row `k` of the result's block `q`. -/
def line (q : ℕ) (k : Fin 1408) : Fin 2816 := ⟨1408 * (q % 2) + k.val, by omega⟩

theorem block_left (t : Fin cfg0.N) (r : Fin 2048) (k : Fin 1408) :
    iblk m c 0 t (ix2 r k) = left m c (ix2 (row t.val r) (line (t.val / 4) k)) := by
  unfold iblk
  rw [View.read_apply]
  refine Eq.trans (b := V m c main_arg0 _) rfl ?_
  rw [V_main_arg0]
  have ht : t.val < 8 := lt_of_lt_of_eq t.isLt (show cfg0.N = 8 from N_0)
  refine read_congr _ _ _ _ ?_ ?_
  · show win0_0.index t 0 * 2048 + 1 * r.val = 2048 * (t.val % 4) + r.val; rw [(index_left t).1]; omega
  · show win0_0.index t 1 * 1408 + 1 * k.val = 1408 * (t.val / 4 % 2) + k.val; rw [(index_left t).2]; omega

theorem block_right (t : Fin cfg0.N) (r : Fin 2048) (n : Fin 1024) :
    iblk m c 1 t (ix2 r n) = right m c (ix2 (row t.val r) n) := by
  unfold iblk
  rw [View.read_apply]
  refine Eq.trans (b := V m c main_arg1 _) rfl ?_
  rw [V_main_arg1]
  refine read_congr _ _ _ _ ?_ ?_
  · show win0_1.index t 0 * 2048 + 1 * r.val = 2048 * (t.val % 4) + r.val; rw [(index_right t).1]; omega
  · show win0_1.index t 1 * 1024 + 1 * n.val = n.val; rw [(index_right t).2]; omega

/-- What the kernel leaves is the gradient. -/
theorem returns : G2 m c = blocks rfl (left m c) (right m c) := by
  funext i
  have h0 : (i 0).val < 1 := (i 0).isLt
  have h1 : (i 1).val < 2816 := (i 1).isLt
  have h2 : (i 2).val < 1024 := (i 2).isLt
  have hq : run2Of i = (i 1).val / 1408 := by
    show 2 * ((i 0).val / 1 - 0) + 1 * ((i 1).val / 1408 - 0) + 1 * ((i 2).val / 1024 - 0) = _; omega
  unfold G2
  rw [dif_pos (by rw [hq]; exact lt_of_lt_of_eq (by omega) (show 8 = cfg0.N from N_0.symm))]
  refine (accumulated (k0_pay2 (F := Ideal)) (k0_pay1 (F := Ideal))
    (fun n h => iblk m c 0 ⟨n, h⟩) (fun n h => iblk m c 1 ⟨n, h⟩) (left m c) (right m c)
    line (fun _ n => n) body zeros (fun n h => block_left m c ⟨n, h⟩) (fun n h => block_right m c ⟨n, h⟩) _ _ _).trans ?_
  refine congrArg₂ (entry (left m c) (right m c)) (Fin.ext ?_) (Fin.ext ?_)
  · show 1408 * (run2Of i % 2) + (i 1).val % 1408 = (i 1).val
    rw [hq]; omega
  · show (i 2).val % 1024 = 1024 * (i 0).val + (i 2).val
    omega

end Cert.GradFfnOutIdeal

namespace Cert.GradFfnOutReferenceIdeal

open Idealize.ShloMosaic Idealize.ShloMosaic.TcCoe
open Cert.GradFfnOutReferenceIdeal.Read Product

/-- What the reference returns is the gradient. -/
theorem returns (a : S8192x2816.Idx → EReal) (g : S8192x1024.Idx → EReal) :
    val_main_v7 (F := Ideal) a g = blocks rfl a g := by
  funext i
  have h0 : (i 0).val < 1 := (i 0).isLt
  have h1 : (i 1).val < 2816 := (i 1).isLt
  have h2 : (i 2).val < 1024 := (i 2).isLt
  rw [val_main_v7_apply, val_main_v6_apply, val_main_v5_apply, val_main_v4_apply]
  unfold blocks entry
  refine Finset.sum_congr rfl fun T _ => (mul_comm _ _).trans (congrArg₂ (· * ·) ?_ ?_)
  · refine read_congr a _ T (i 1) rfl ?_
    show (((i 1).val * 1 + (i 0).val) * 1024 + (i 2).val) / 1024 = (i 1).val
    omega
  · refine read_congr g _ T _ rfl ?_
    show (((i 1).val * 1 + (i 0).val) * 1024 + (i 2).val) % 1024 = 1024 * (i 0).val + (i 2).val
    omega

end Cert.GradFfnOutReferenceIdeal

namespace Cert.GradFfnOutIdeal

open Idealize.ShloMosaic Idealize.ShloMosaic.TcCoe

/-- The reference runs and leaves its arguments unchanged. -/
theorem frame_reference : Cert.quiescent_GradFfnOutReferenceIdeal := fun m ρ _ =>
  (θ_run Cert.GradFfnOutReferenceIdeal.defs _ _).mono (fun r h => ⟨fun c => (h c).2,
      Idealize.ShloMosaic.sem_eq_zero_of_no_sems (by decide) r.2⟩)
    (Cert.GradFfnOutReferenceIdeal.Value.run (F := Ideal) m ρ)

/-- Kernel and reference return the same gradient. -/
theorem algebraic : Cert.algebraic_GradFfnOutIdeal_GradFfnOutReferenceIdeal := by
  intro m g m' g' _ hagree
  refine ⟨fun c => Product.blocks rfl (left m c) (right m c), ?_, ?_⟩
  · refine (θ_run Cert.GradFfnOutIdeal.defs _ _).mono (fun r h c => ?_) (Cert.GradFfnOutIdeal.Value.run (F := Ideal) m g)
    exact ⟨(h c).1.trans (returns m c), (h c).2⟩
  · refine (θ_run Cert.GradFfnOutReferenceIdeal.defs _ _).mono (fun r h c => ?_)
      (Cert.GradFfnOutReferenceIdeal.Value.run (F := Ideal) m' g')
    refine ⟨(h c).1.trans ((Cert.GradFfnOutReferenceIdeal.Read.val_main_v7_eq _ _).trans ?_), (h c).2⟩
    rw [(hagree c).1, (hagree c).2]
    exact Cert.GradFfnOutReferenceIdeal.returns _ _

end Cert.GradFfnOutIdeal

end
-- ==== Proof.GradIn.lean ====
/-
  The gradient of the mixers' input weight: three blocks of 1024 columns, and a copy of each of them in bfloat16, which the
  kernel stores when the block's running sum is complete. Kernel and reference return the same two arrays.
-/
module

public import proofs.«01_k».proof.Proof.Product
public import proofs.«01_k».proof.Proof.Gen.GradInIdeal.Value
public import proofs.«01_k».proof.Proof.Gen.GradInReferenceIdeal.Run
public import proofs.«01_k».proof.Proof.Gen.GradInReferenceIdeal.Read
public import proofs.«01_k».proof.Defs
public import Idealize.ShloMosaic.Lib.StableHlo.RunRead

@[expose] public section

noncomputable section

namespace Cert.GradInIdeal

open Idealize.ShloMosaic Idealize.ShloMosaic.TcCoe
open Cert.GradInIdeal.Gen Cert.GradInIdeal.Value Product

/-- The body adds a block's product to what the result's block holds. -/
theorem body (acc : Vec Ideal S1x1024x1024 .f32) (a : Vec Ideal S2048x1024 .bf16) (g : Vec Ideal S2048x1024 .bf16)
    (k : Fin 1024) (n : Fin 1024) :
    k0_pay2 acc a g (ix3 0 k n) = acc (ix3 0 k n) + ∑ r : Fin 2048, a (ix2 r k) * g (ix2 r n) := by
  unfold k0_pay2; pointwise [dot_S2048x1024_S2048x1024_S1024x1024_0_0_1_1_n_n]

/-- The first block is added to zeros. -/
theorem zeros (i : S1x1024x1024.Idx) : k0_pay1 (F := Ideal) i = 0 := by
  unfold k0_pay1; pointwise

/-- The copy is of the same extended reals. -/
theorem copy (v : Vec Ideal S1x1024x1024 .f32) (i : S1x1024x1024.Idx) : k0_pay3 v i = v i := by
  unfold k0_pay3; pointwise

/-! ## What the cases of the body store -/

theorem zero2 : (![0, 0] : Fin 2 → Nat) = fun _ => 0 := funext fun a => by fin_cases a <;> rfl
theorem zero3 : (![0, 0, 0] : Fin 3 → Nat) = fun _ => 0 := funext fun a => by fin_cases a <;> rfl

section Cases

variable {F : FTy → Type} [FloatOps F] (c : Dev nD) (i : grid0.Coords)
  (arg3 : Memref sig .tc .vmem S2048x1024 .bf16) (harg3 : arg3.IsWhole)
  (arg4 : Memref sig .tc .vmem S2048x1024 .bf16) (harg4 : arg4.IsWhole)
  (arg5 : Memref sig .tc .vmem S1x1024x1024 .f32) (harg5 : arg5.IsWhole)
  (arg6 : Memref sig .tc .vmem S1x1024x1024 .bf16) (harg6 : arg6.IsWhole)
  (x0 x1 : Vec F S2048x1024 .bf16) (xo : Vec F S1x1024x1024 .f32)

theorem first (hc0 : cond0_0 i) (hc1 : ¬cond0_1 i) :
    out0_A_2 c i arg3 harg3 arg4 harg4 arg5 harg5 arg6 harg6 hc0 hc1 x0 x1 = k0_pay2 (k0_pay1 (F := F)) x0 x1 := by
  unfold out0_A_2
  rw [View.read_writes_eq_canon _ _ _ (cover0_A_2 c i arg3 harg3 arg4 harg4 arg5 harg5 arg6 harg6 hc0 hc1 x0 x1)]
  unfold kernelRun0_A
  dsimp only
  try sl_unfold_words
  rw [View.canon_cons_unit_zero (S := S1x1024x1024) zero3, View.readCov_unit_zero (S := S1x1024x1024) _ zero3]
  simp only [View.readAt_eq_ld, harg3.read_unread, harg4.read_unread, harg5.read_unread,
    View.ld_unit_zero (S := S1x1024x1024) zero3, View.ld_unit_zero (S := S2048x1024) zero2, shapeCast_self]

theorem middle (hc0 : ¬cond0_0 i) (hc1 : ¬cond0_1 i) :
    out0_B_2 c i arg3 harg3 arg4 harg4 arg5 harg5 arg6 harg6 hc0 hc1 x0 x1 xo = k0_pay2 xo x0 x1 := by
  unfold out0_B_2
  rw [View.read_writes_eq_canon _ _ _ (cover0_B_2 c i arg3 harg3 arg4 harg4 arg5 harg5 arg6 harg6 hc0 hc1 x0 x1 xo)]
  unfold kernelRun0_B
  dsimp only
  try sl_unfold_words
  rw [View.canon_unit_zero zero3]
  simp only [View.readAt_eq_ld, harg3.read_unread, harg4.read_unread, harg5.read_unread,
    View.ld_unit_zero (S := S1x1024x1024) zero3, View.ld_unit_zero (S := S2048x1024) zero2, shapeCast_self]

theorem last (hc0 : ¬cond0_0 i) (hc1 : cond0_1 i) :
    out0_C_2 c i arg3 harg3 arg4 harg4 arg5 harg5 arg6 harg6 hc0 hc1 x0 x1 xo = k0_pay2 xo x0 x1 := by
  unfold out0_C_2
  rw [View.read_writes_eq_canon _ _ _ (cover0_C_2 c i arg3 harg3 arg4 harg4 arg5 harg5 arg6 harg6 hc0 hc1 x0 x1 xo)]
  unfold kernelRun0_C
  dsimp only
  try sl_unfold_words
  rw [View.canon_unit_zero zero3]
  simp only [View.readAt_eq_ld, harg3.read_unread, harg4.read_unread, harg5.read_unread,
    View.ld_unit_zero (S := S1x1024x1024) zero3, View.ld_unit_zero (S := S2048x1024) zero2, shapeCast_self]

theorem last_copy (hc0 : ¬cond0_0 i) (hc1 : cond0_1 i) :
    out0_C_3 c i arg3 harg3 arg4 harg4 arg5 harg5 arg6 harg6 hc0 hc1 x0 x1 xo = k0_pay3 (k0_pay2 xo x0 x1) := by
  unfold out0_C_3
  rw [View.read_writes_eq_canon _ _ _ (cover0_C_3 c i arg3 harg3 arg4 harg4 arg5 harg5 arg6 harg6 hc0 hc1 x0 x1 xo)]
  unfold kernelRun0_C
  dsimp only
  try sl_unfold_words
  rw [View.canon_unit_zero (S := S1x1024x1024) zero3, View.readCov_unit_zero (S := S1x1024x1024) _ zero3]
  simp only [View.readAt_eq_ld, harg3.read_unread, harg4.read_unread, harg5.read_unread,
    View.ld_unit_zero (S := S1x1024x1024) zero3, View.ld_unit_zero (S := S2048x1024) zero2, shapeCast_self]

end Cases

variable (m : (ℓ : Loc nD τ sig) → Buf (Elt Ideal) ℓ) (c : Dev nD)

/-- The left factor and the gradient as launched. -/
abbrev left : S8192x1024.Idx → EReal := m ((c : Thread nD τ).loc main_arg0)
abbrev right : S8192x3072.Idx → EReal := m ((c : Thread nD τ).loc main_arg1)

theorem index_left : ∀ t : Fin grid0.N, win0_0.index t 0 = t.val % 4 ∧ win0_0.index t 1 = 0 := by decide +kernel
theorem index_right : ∀ t : Fin grid0.N, win0_1.index t 0 = t.val % 4 ∧ win0_1.index t 1 = t.val / 4 := by decide +kernel

theorem block_left (t : Fin cfg0.N) (r : Fin 2048) (k : Fin 1024) :
    iblk m c 0 t (ix2 r k) = left m c (ix2 (row t.val r) k) := by
  unfold iblk
  rw [View.read_apply]
  refine Eq.trans (b := V m c main_arg0 _) rfl ?_
  rw [V_main_arg0]
  refine read_congr _ _ _ _ ?_ ?_
  · show win0_0.index t 0 * 2048 + 1 * r.val = 2048 * (t.val % 4) + r.val; rw [(index_left t).1]; omega
  · show win0_0.index t 1 * 1024 + 1 * k.val = k.val; rw [(index_left t).2]; omega

/-- Column `n` of the result's block `q`. -/
def column (q : ℕ) (n : Fin 1024) : Fin 3072 := ⟨1024 * (q % 3) + n.val, by omega⟩

theorem block_right (t : Fin cfg0.N) (r : Fin 2048) (n : Fin 1024) :
    iblk m c 1 t (ix2 r n) = right m c (ix2 (row t.val r) (column (t.val / 4) n)) := by
  unfold iblk
  rw [View.read_apply]
  refine Eq.trans (b := V m c main_arg1 _) rfl ?_
  rw [V_main_arg1]
  have ht : t.val < 12 := lt_of_lt_of_eq t.isLt (show cfg0.N = 12 from N_0)
  refine read_congr _ _ _ _ ?_ ?_
  · show win0_1.index t 0 * 2048 + 1 * r.val = 2048 * (t.val % 4) + r.val; rw [(index_right t).1]; omega
  · show win0_1.index t 1 * 1024 + 1 * n.val = 1024 * (t.val / 4 % 3) + n.val; rw [(index_right t).2]; omega

/-! ## The running sum and its copy -/

theorem sum_first (t : Fin cfg0.N) (h0 : t.val % 4 = 0) :
    (outsAt0 m c t.val t.isLt).1 = k0_pay2 (k0_pay1 (F := Ideal)) (iblk m c 0 t) (iblk m c 1 t) := by
  rw [outsAt0_A m c t h0 (by omega)]
  dsimp only
  rw [first]

theorem sum_later (t : Fin cfg0.N) (h0 : ¬t.val % 4 = 0) :
    (outsAt0 m c t.val t.isLt).1 = k0_pay2 (outsAt0 m c (t.val - 1) (Nat.lt_of_le_of_lt (Nat.sub_le _ _) t.isLt)).1
      (iblk m c 0 t) (iblk m c 1 t) := by
  by_cases h3 : t.val % 4 = 3
  · rw [outsAt0_C m c t h0 h3]
    dsimp only
    rw [last]
  · rw [outsAt0_B m c t h0 h3]
    dsimp only
    rw [middle]

/-- The running sum after a point is the fold of the body over the run so far. -/
theorem sum_at (t : Fin cfg0.N) :
    (outsAt0 m c t.val t.isLt).1 = Pipeline.accAt
      (fun n (h : n < cfg0.N) => k0_pay2 (k0_pay1 (F := Ideal)) (iblk m c 0 ⟨n, h⟩) (iblk m c 1 ⟨n, h⟩))
      (fun n h acc => k0_pay2 acc (iblk m c 0 ⟨n, h⟩) (iblk m c 1 ⟨n, h⟩)) (4 * (t.val / 4)) (t.val % 4)
      (by have h1 := t.isLt; have h2 := Nat.div_add_mod t.val 4; omega) := by
  exact Pipeline.eq_accAt_of_mod (fun n h => (outsAt0 m c n h).1) 4 _ _ (fun n h hn => sum_first m c ⟨n, h⟩ hn)
    (fun n h hn => sum_later m c ⟨n + 1, h⟩ hn) (by decide) t.val t.isLt _

/-- At a point that writes back the running sum is the gradient's block, and so is the copy. -/
theorem sum_full (t : Fin cfg0.N) (h3 : t.val % 4 = 3) (i : S1x1024x1024.Idx) :
    (outsAt0 m c t.val t.isLt).1 i = entry (left m c) (right m c) (i 1) (column (t.val / 4) (i 2)) := by
  rw [sum_at]
  have same : ∀ (j : ℕ) (h : 4 * (t.val / 4) + j < cfg0.N) (_ : j = 3), Pipeline.accAt
      (fun n (h : n < cfg0.N) => k0_pay2 (k0_pay1 (F := Ideal)) (iblk m c 0 ⟨n, h⟩) (iblk m c 1 ⟨n, h⟩))
      (fun n h acc => k0_pay2 acc (iblk m c 0 ⟨n, h⟩) (iblk m c 1 ⟨n, h⟩)) (4 * (t.val / 4)) j h i
        = entry (left m c) (right m c) (i 1) (column (t.val / 4) (i 2)) := by
    intro j h hj
    subst hj
    exact accumulated (k0_pay2 (F := Ideal)) (k0_pay1 (F := Ideal))
      (fun n h => iblk m c 0 ⟨n, h⟩) (fun n h => iblk m c 1 ⟨n, h⟩) (left m c) (right m c)
      (fun _ k => k) column body zeros (fun n h => block_left m c ⟨n, h⟩) (fun n h => block_right m c ⟨n, h⟩) _ _ _
  exact same _ _ h3

theorem copy_full (t : Fin cfg0.N) (h3 : t.val % 4 = 3) (i : S1x1024x1024.Idx) :
    (outsAt0 m c t.val t.isLt).2 i = (outsAt0 m c t.val t.isLt).1 i := by
  rw [outsAt0_C m c t (by omega) h3]
  dsimp only
  rw [last_copy, last]
  exact copy _ i

/-! ## The arrays -/

theorem index_sum : ∀ t : Fin grid0.N,
    win0_2.index t 0 = t.val / 4 ∧ win0_2.index t 1 = 0 ∧ win0_2.index t 2 = 0 := by decide +kernel
theorem index_copy : ∀ t : Fin grid0.N,
    win0_3.index t 0 = t.val / 4 ∧ win0_3.index t 1 = 0 ∧ win0_3.index t 2 = 0 := by decide +kernel

/-- Block `q` of the gradient. -/
theorem blocks_at (i : S3x1024x1024.Idx) (q : ℕ) (k n : Fin 1024) (h0 : (i 0).val = q) (h1 : (i 1).val = k.val)
    (h2 : (i 2).val = n.val) :
    entry (left m c) (right m c) k (column q n) = blocks rfl (left m c) (right m c) i := by
  have hi : (i 0).val < 3 := (i 0).isLt
  refine congrArg₂ (entry (left m c) (right m c)) (Fin.ext h1.symm) (Fin.ext ?_)
  show 1024 * (q % 3) + n.val = 1024 * (i 0).val + (i 2).val
  rw [← h0, ← h2]; omega

theorem flushed_sum (t : Fin cfg0.N) (hf : (cfg0.win 2).flush t = true) :
    (dats m 0 c).flushed 2 t = ((cfg0.win 2).blk t).view.read (Elt Ideal) (blocks rfl (left m c) (right m c)) := by
  rw [Value.flushed2]
  funext y
  obtain ⟨k, n, rfl⟩ := at_block y
  rw [View.read_apply]
  refine Eq.trans (b := (outsAt0 m c t.val t.isLt).1 (ix3 0 k n)) rfl ?_
  rw [sum_full m c t ((flush0_2 t).mp hf)]
  refine Eq.trans ?_ (cast_eq rfl _).symm
  refine blocks_at m c _ _ k n ?_ ?_ ?_
  · show win0_2.index t 0 * 1 + 1 * 0 = _; rw [(index_sum t).1]; omega
  · show win0_2.index t 1 * 1024 + 1 * k.val = _; rw [(index_sum t).2.1]; omega
  · show win0_2.index t 2 * 1024 + 1 * n.val = _; rw [(index_sum t).2.2]; omega

theorem flushed_copy (t : Fin cfg0.N) (hf : (cfg0.win 3).flush t = true) :
    (dats m 0 c).flushed 3 t = ((cfg0.win 3).blk t).view.read (Elt Ideal) (blocks rfl (left m c) (right m c)) := by
  rw [Value.flushed3]
  funext y
  obtain ⟨k, n, rfl⟩ := at_block y
  rw [View.read_apply]
  refine Eq.trans (b := (outsAt0 m c t.val t.isLt).2 (ix3 0 k n)) rfl ?_
  rw [copy_full m c t ((flush0_3 t).mp hf), sum_full m c t ((flush0_3 t).mp hf)]
  refine Eq.trans ?_ (cast_eq rfl _).symm
  refine blocks_at m c _ _ k n ?_ ?_ ?_
  · show win0_3.index t 0 * 1 + 1 * 0 = _; rw [(index_copy t).1]; omega
  · show win0_3.index t 1 * 1024 + 1 * k.val = _; rw [(index_copy t).2.1]; omega
  · show win0_3.index t 2 * 1024 + 1 * n.val = _; rw [(index_copy t).2.2]; omega

/-- The point that writes back the block an index lies in. -/
def point (i : S3x1024x1024.Idx) : Fin cfg0.N := ⟨4 * (i 0).val + 3, by
  have h0 : (i 0).val < 3 := (i 0).isLt
  have hN : cfg0.N = 12 := N_0
  omega⟩

theorem point_last (i : S3x1024x1024.Idx) : (point i).val % 4 = 3 := by show (4 * (i 0).val + 3) % 4 = 3; omega
theorem point_run (i : S3x1024x1024.Idx) : (point i).val / 4 = (i 0).val := by show (4 * (i 0).val + 3) / 4 = _; omega

theorem cover_sum (i : S3x1024x1024.Idx) : i ∈ ((View.whole main_v0_0).slice (win0_2.rect (point i))).set := by
  have h1 : (i 1 : Nat) < 1024 := (i 1).isLt
  have h2 : (i 2 : Nat) < 1024 := (i 2).isLt
  rw [View.set_slice_whole, Rect.mem_set_unit]
  intro a
  match a with
  | ⟨0, _⟩ =>
    show win0_2.index (point i) 0 * 1 ≤ (i 0 : Nat) ∧ (i 0 : Nat) < win0_2.index (point i) 0 * 1 + 1
    rw [(index_sum _).1, point_run]; omega
  | ⟨1, _⟩ =>
    show win0_2.index (point i) 1 * 1024 ≤ (i 1 : Nat) ∧ (i 1 : Nat) < win0_2.index (point i) 1 * 1024 + 1024
    rw [(index_sum _).2.1]; omega
  | ⟨2, _⟩ =>
    show win0_2.index (point i) 2 * 1024 ≤ (i 2 : Nat) ∧ (i 2 : Nat) < win0_2.index (point i) 2 * 1024 + 1024
    rw [(index_sum _).2.2]; omega

theorem cover_copy (i : S3x1024x1024.Idx) : i ∈ ((View.whole main_v0_1).slice (win0_3.rect (point i))).set := by
  have h1 : (i 1 : Nat) < 1024 := (i 1).isLt
  have h2 : (i 2 : Nat) < 1024 := (i 2).isLt
  rw [View.set_slice_whole, Rect.mem_set_unit]
  intro a
  match a with
  | ⟨0, _⟩ =>
    show win0_3.index (point i) 0 * 1 ≤ (i 0 : Nat) ∧ (i 0 : Nat) < win0_3.index (point i) 0 * 1 + 1
    rw [(index_copy _).1, point_run]; omega
  | ⟨1, _⟩ =>
    show win0_3.index (point i) 1 * 1024 ≤ (i 1 : Nat) ∧ (i 1 : Nat) < win0_3.index (point i) 1 * 1024 + 1024
    rw [(index_copy _).2.1]; omega
  | ⟨2, _⟩ =>
    show win0_3.index (point i) 2 * 1024 ≤ (i 2 : Nat) ∧ (i 2 : Nat) < win0_3.index (point i) 2 * 1024 + 1024
    rw [(index_copy _).2.2]; omega

/-- What the kernel leaves is the gradient, twice. -/
theorem returns_sum : (dats m 0 c).arrAt 2 cfg0.N = blocks rfl (left m c) (right m c) :=
  (dats m 0 c).arrAt_eq_of_cover 2 _ (flushed_sum m c) fun i => ⟨point i, (flush0_2 _).mpr (point_last i), cover_sum i⟩

theorem returns_copy : (dats m 0 c).arrAt 3 cfg0.N = blocks rfl (left m c) (right m c) :=
  (dats m 0 c).arrAt_eq_of_cover 3 _ (flushed_copy m c) fun i => ⟨point i, (flush0_3 _).mpr (point_last i), cover_copy i⟩

end Cert.GradInIdeal

namespace Cert.GradInReferenceIdeal

open Idealize.ShloMosaic Idealize.ShloMosaic.TcCoe
open Cert.GradInReferenceIdeal.Read Product

/-- What the reference returns is the gradient. -/
theorem returns (a : S8192x1024.Idx → EReal) (g : S8192x3072.Idx → EReal) :
    val_main_v7 (F := Ideal) a g = blocks rfl a g := by
  funext i
  have h0 : (i 0).val < 3 := (i 0).isLt
  have h1 : (i 1).val < 1024 := (i 1).isLt
  have h2 : (i 2).val < 1024 := (i 2).isLt
  rw [val_main_v7_apply, val_main_v6_apply, val_main_v5_apply, val_main_v4_apply]
  unfold blocks entry
  refine Finset.sum_congr rfl fun T _ => (mul_comm _ _).trans (congrArg₂ (· * ·) ?_ ?_)
  · refine read_congr a _ T (i 1) rfl ?_
    show (((i 1).val * 3 + (i 0).val) * 1024 + (i 2).val) / 3072 = (i 1).val
    omega
  · refine read_congr g _ T _ rfl ?_
    show (((i 1).val * 3 + (i 0).val) * 1024 + (i 2).val) % 3072 = 1024 * (i 0).val + (i 2).val
    omega

/-- The copy is of the same extended reals. -/
theorem returns_copy (a : S8192x1024.Idx → EReal) (g : S8192x3072.Idx → EReal) :
    val_main_v8 (F := Ideal) a g = Product.blocks rfl a g := returns a g

end Cert.GradInReferenceIdeal

namespace Cert.GradInIdeal

open Idealize.ShloMosaic Idealize.ShloMosaic.TcCoe

/-- The reference runs and leaves its arguments unchanged. -/
theorem frame_reference : Cert.quiescent_GradInReferenceIdeal := fun m ρ _ =>
  (θ_run Cert.GradInReferenceIdeal.defs _ _).mono (fun r h => ⟨fun c => (h c).2.2,
      Idealize.ShloMosaic.sem_eq_zero_of_no_sems (by decide) r.2⟩)
    (Cert.GradInReferenceIdeal.Value.run (F := Ideal) m ρ)

/-- Kernel and reference return the same gradient and the same copy. -/
theorem algebraic : Cert.algebraic_GradInIdeal_GradInReferenceIdeal := by
  intro m g m' g' _ hagree
  refine ⟨fun c => Product.blocks rfl (left m c) (right m c), fun c => Product.blocks rfl (left m c) (right m c), ?_, ?_⟩
  · refine (θ_run Cert.GradInIdeal.defs _ _).mono (fun r h c => ?_) (Cert.GradInIdeal.Value.run_blocks (F := Ideal) m g)
    exact ⟨(h c).1.trans (returns_sum m c), (h c).2.1.trans (returns_copy m c), (h c).2.2⟩
  · refine (θ_run Cert.GradInReferenceIdeal.defs _ _).mono (fun r h c => ?_)
      (Cert.GradInReferenceIdeal.Value.run (F := Ideal) m' g')
    refine ⟨(h c).1.trans ((Cert.GradInReferenceIdeal.Read.val_main_v7_eq _ _).trans ?_),
      (h c).2.1.trans ((Cert.GradInReferenceIdeal.Read.val_main_v8_eq _ _).trans ?_), (h c).2.2⟩
    · rw [(hagree c).1, (hagree c).2]
      exact Cert.GradInReferenceIdeal.returns _ _
    · rw [(hagree c).1, (hagree c).2]
      exact Cert.GradInReferenceIdeal.returns_copy _ _

end Cert.GradInIdeal

end
-- ==== Proof.ProjStep.lean ====
/-
  Back through the input projection, one token at a time, as arithmetic over the extended reals: from the gradient `p` of
  the projection's 3072 outputs to the gradient of the token's residual stream, and what is summed over the tokens for the
  shift, the scale and the norm's weight.

  The kernel keeps the gradient with the last 2048 outputs' entries first, and takes the product in those two parts.
-/
module

public import proofs.«01_k».proof.Proof.Algebra
public import Idealize.ShloMosaic.Lib.Pointwise

@[expose] public section

noncomputable section

namespace Proj

open Idealize.ShloMosaic Step

/-- What all tokens share: the norm's weight, the modulation's scale, the projection. -/
structure Params where
  nw : Fin 1024 → EReal
  sc : Fin 1024 → EReal
  w : Fin 1024 → Fin 3072 → EReal

/-- One token: the gradient of its projection, its residual stream, the gradient that reaches the residual stream from
    later in the step. -/
structure Token where
  p : Fin 3072 → EReal
  x : Fin 1024 → EReal
  d : Fin 1024 → EReal

/-- The first 2048 columns, and the last 1024. -/
def first (k : Fin 2048) : Fin 3072 := ⟨k.val, by omega⟩
def last (k : Fin 1024) : Fin 3072 := ⟨2048 + k.val, by omega⟩
/-- The first 1024 columns, and the last 2048. -/
def front (k : Fin 1024) : Fin 3072 := ⟨k.val, by omega⟩
def back (k : Fin 2048) : Fin 3072 := ⟨1024 + k.val, by omega⟩

namespace Params

variable (q : Params) (a : Token)

def r : EReal := rms a.x
def xh (j : Fin 1024) : EReal := a.x j * r a
def dh (j : Fin 1024) : EReal := (∑ k, a.p (first k) * q.w j (back k)) + ∑ k, a.p (last k) * q.w j (front k)
def n1 (j : Fin 1024) : EReal := xh a j * q.nw j
def osc (j : Fin 1024) : EReal := 1 + q.sc j
def dn (j : Fin 1024) : EReal := q.dh a j * q.osc j
/-- The gradient of the residual stream. -/
def dx (j : Fin 1024) : EReal := a.d j + rmsBwd (xh a) (r a) (fun k => q.dn a k * q.nw k) j

/-- What a token adds to the rows of the small result. -/
def small (i : Fin 8) (j : Fin 1024) : EReal :=
  match i with
  | 0 => q.dh a j
  | 1 => q.dh a j * q.n1 a j
  | 2 => q.dn a j * xh a j
  | _ => 0

theorem small_rest {e : ℕ} (he : e + 3 < 8) (j : Fin 1024) : q.small a ⟨e + 3, he⟩ j = 0 := rfl

end Params

/-- A sum over the gradient's 3072 entries in the projection's order is the sum of the two parts. -/
theorem sum_columns (f : Fin 3072 → EReal) : ∑ k, f k = (∑ k, f (back k)) + ∑ k, f (front k) := by
  rw [Fin.sum_univ_add (a := 1024) (b := 2048) f, add_comm]
  rfl

/-- A matrix read at an index known by its two coordinates. -/
theorem read_at {n m : ℕ} (x : (⟨2, ![n, m]⟩ : Shape).Idx → EReal) (i : (⟨2, ![n, m]⟩ : Shape).Idx) (r : Fin n) (k : Fin m)
    (h0 : (i 0).val = r.val) (h1 : (i 1).val = k.val) : x i = x (ix2 r k) :=
  congrArg x ((eq_ix2 i).trans (congrArg₂ ix2 (Fin.ext h0) (Fin.ext h1)))

/-- Token `r` of the block of 1024 tokens the grid is at. -/
def row (t : ℕ) (h : t < 8) (r : Fin 1024) : Fin 8192 := ⟨1024 * t + r.val, by omega⟩

/-- A sum over the tokens block by block. -/
theorem sum_rows (f : Fin 8192 → EReal) : ∑ b : Fin 8, ∑ r : Fin 1024, f (row b.val b.isLt r) = ∑ T, f T := by
  rw [← Fintype.sum_prod_type' (fun (b : Fin 8) (r : Fin 1024) => f (row b.val b.isLt r))]
  refine Fintype.sum_equiv (finProdFinEquiv (m := 8) (n := 1024)) _ _ fun x => congrArg f (Fin.ext ?_)
  show 1024 * x.1.val + x.2.val = x.2.val + 1024 * x.1.val
  omega

/-- The parameters and a token as launched, out of the arrays. -/
def params (x3 : (⟨2, ![1, 1024]⟩ : Shape).Idx → EReal) (x4 : (⟨2, ![1, 6144]⟩ : Shape).Idx → EReal)
    (x5 : (⟨2, ![1024, 3072]⟩ : Shape).Idx → EReal) : Params where
  nw j := x3 (ix2 0 j)
  sc j := x4 (ix2 0 ⟨1024 + j.val, by omega⟩)
  w j k := x5 (ix2 j k)
def token (x0 : (⟨2, ![8192, 3072]⟩ : Shape).Idx → EReal) (x1 x2 : (⟨2, ![8192, 1024]⟩ : Shape).Idx → EReal) (T : Fin 8192) :
    Token where
  p k := x0 (ix2 T k)
  x j := x1 (ix2 T j)
  d j := x2 (ix2 T j)

/-- The two results. -/
def grads (q : Params) (a : Fin 8192 → Token) : (⟨2, ![8192, 1024]⟩ : Shape).Idx → EReal := fun i => q.dx (a (i 0)) (i 1)
def sums (q : Params) (a : Fin 8192 → Token) : (⟨2, ![8, 1024]⟩ : Shape).Idx → EReal := fun i =>
  ∑ T, q.small (a T) (i 0) (i 1)

end Proj

end
-- ==== Proof.ProjKernel.lean ====
/-
  What a grid point of the kernel leaves: the gradients of its 1024 tokens' rows, and the rows of sums grown by what those
  tokens add.
-/
module

public import proofs.«01_k».proof.Proof.ProjStep
public import proofs.«01_k».proof.Proof.Stores
public import proofs.«01_k».proof.Proof.Gen.ProjInIdeal.Value
public import Idealize.ShloMosaic.Lib.Tactic

@[expose] public section

noncomputable section

namespace Cert.ProjInIdeal

open Idealize.ShloMosaic Idealize.ShloMosaic.TcCoe
open Cert Cert.ProjInIdeal.Gen Step Proj

/-! ## The body, one operation at a time -/

variable (q : Proj.Params) (a : Fin 1024 → Proj.Token)
variable (v3 v4 : Vec Ideal S1024x2048 .bf16) (v7 v8 : Vec Ideal S1024x1024 .bf16) (v12 v51 : Vec Ideal S1024x1024 .f32)
  (v23 v39 v52 : Vec Ideal S1x1024 .f32)

/-- The operands a point loads: the tokens' rows and the parameters. -/
structure Reads : Prop where
  p1 : ∀ (r : Fin 1024) (k : Fin 2048), v3 (ix2 r k) = (a r).p (first k)
  p2 : ∀ (r : Fin 1024) (k : Fin 1024), v7 (ix2 r k) = (a r).p (last k)
  w1 : ∀ (j : Fin 1024) (k : Fin 2048), v4 (ix2 j k) = q.w j (back k)
  w2 : ∀ (j : Fin 1024) (k : Fin 1024), v8 (ix2 j k) = q.w j (front k)
  x : ∀ (r : Fin 1024) (j : Fin 1024), v12 (ix2 r j) = (a r).x j
  d : ∀ (r : Fin 1024) (j : Fin 1024), v51 (ix2 r j) = (a r).d j
  nw : ∀ j : Fin 1024, v23 (ix2 0 j) = q.nw j
  nw' : ∀ j : Fin 1024, v52 (ix2 0 j) = q.nw j
  sc : ∀ j : Fin 1024, v39 (ix2 0 j) = q.sc j

variable {q a v3 v4 v7 v8 v12 v51 v23 v39 v52}

section Body
variable (h : Reads q a v3 v4 v7 v8 v12 v51 v23 v39 v52)
include h

theorem body_dh (r j : Fin 1024) : k0_pay6 v3 v4 v7 v8 (ix2 r j) = q.dh (a r) j := by
  unfold k0_pay6
  pointwise [dot_S1024x2048_S1024x2048_S1024x1024_1_1_0_0_n_n, dot_S1024x1024_S1024x1024_S1024x1024_1_1_0_0_n_n,
    h.p1, h.p2, h.w1, h.w2]
  rfl

theorem body_r (r : Fin 1024) (i : Fin 1) : k0_pay7 v12 (ix2 r i) = Params.r (a r) := by
  unfold k0_pay7; pointwise [h.x]; rfl

theorem body_xh (r j : Fin 1024) : k0_pay8 v12 (ix2 r j) = Params.xh (a r) j := by
  unfold k0_pay8; pointwise [h.x, body_r h]; rfl

theorem body_n1 (r j : Fin 1024) : k0_pay9 v12 v23 (ix2 r j) = q.n1 (a r) j := by
  unfold k0_pay9; pointwise [body_xh h, h.nw]; rfl

theorem body_dn (r j : Fin 1024) : k0_pay2 (k0_pay6 v3 v4 v7 v8) v39 (ix2 r j) = q.dn (a r) j := by
  unfold k0_pay2; pointwise [body_dh h, h.sc]; rfl

theorem body_dx (r j : Fin 1024) :
    k0_pay4 (k0_pay6 v3 v4 v7 v8) (k0_pay7 v12) (k0_pay8 v12) v39 v51 v52 (ix2 r j) = q.dx (a r) j := by
  unfold k0_pay4; pointwise [body_dn h, body_xh h, body_r h, h.nw', h.d]; rfl

theorem body_sum0 (v : Vec Ideal S1x1024 .f32) (i : Fin 1) (j : Fin 1024) :
    k0_pay10 v3 v4 v7 v8 v (ix2 i j) = v (ix2 i j) + ∑ r, q.small (a r) 0 j := by
  unfold k0_pay10; pointwise [body_dh h]; rfl

theorem body_sum1 (v : Vec Ideal S1x1024 .f32) (i : Fin 1) (j : Fin 1024) :
    k0_pay1 (k0_pay6 v3 v4 v7 v8) (k0_pay9 v12 v23) v (ix2 i j) = v (ix2 i j) + ∑ r, q.small (a r) 1 j := by
  unfold k0_pay1; pointwise [body_dh h, body_n1 h]; rfl

theorem body_sum2 (v : Vec Ideal S1x1024 .f32) (i : Fin 1) (j : Fin 1024) :
    k0_pay3 (k0_pay6 v3 v4 v7 v8) (k0_pay8 v12) v39 v (ix2 i j) = v (ix2 i j) + ∑ r, q.small (a r) 2 j := by
  unfold k0_pay3; pointwise [body_dn h, body_xh h]; rfl

end Body

/-- What the first point stores before it adds anything. -/
theorem body_zero (i : Fin 8) (j : Fin 1024) : (k0_pay5 : FVec Ideal S8x1024 .f32) (ix2 i j) = 0 := by
  unfold k0_pay5; pointwise

/-! ## The stores of a point -/

/-- The staged operand blocks hold the tokens' rows and the parameters. -/
structure Holds (q : Proj.Params) (a : Fin 1024 → Proj.Token) (x0 : Vec Ideal S1024x3072 .bf16) (x1 x2 : Vec Ideal S1024x1024 .f32)
    (x3 x4 : Vec Ideal S1x1024 .f32) (x5 : Vec Ideal S1024x3072 .bf16) : Prop where
  p : ∀ (r : Fin 1024) (k : Fin 3072), x0 (ix2 r k) = (a r).p k
  x : ∀ r j : Fin 1024, x1 (ix2 r j) = (a r).x j
  d : ∀ r j : Fin 1024, x2 (ix2 r j) = (a r).d j
  nw : ∀ j : Fin 1024, x3 (ix2 0 j) = q.nw j
  sc : ∀ j : Fin 1024, x4 (ix2 0 j) = q.sc j
  w : ∀ (j : Fin 1024) (k : Fin 3072), x5 (ix2 j k) = q.w j k

section Point
variable (c : Dev nD) (i : grid0.Coords)
  (arg1 : Memref sig .tc .vmem S1024x3072 .bf16) (harg1 : arg1.IsWhole)
  (arg2 : Memref sig .tc .vmem S1024x1024 .f32) (harg2 : arg2.IsWhole)
  (arg3 : Memref sig .tc .vmem S1024x1024 .f32) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1024x3072 .bf16) (harg6 : arg6.IsWhole)
  (arg7 : Memref sig .tc .vmem S1024x1024 .f32) (harg7 : arg7.IsWhole)
  (arg8 : Memref sig .tc .vmem S8x1024 .f32) (harg8 : arg8.IsWhole)
variable {x0 : Vec Ideal S1024x3072 .bf16} {x1 x2 : Vec Ideal S1024x1024 .f32} {x3 x4 : Vec Ideal S1x1024 .f32}
  {x5 : Vec Ideal S1024x3072 .bf16} (xo : Vec Ideal S8x1024 .f32)

section
variable (h : Holds q a x0 x1 x2 x3 x4 x5)
include h

/-- The loads of the operand blocks. -/
theorem reads : Reads q a
    (View.readAt (Elt Ideal) arg1.view (Rect.unit (s := S1024x3072) ![0, 0] S1024x2048.size inb_S1024x3072_S1024x2048_0_0).toLoadRect (harg1.unread x0))
    (View.readAt (Elt Ideal) arg6.view (Rect.unit (s := S1024x3072) ![0, 1024] S1024x2048.size inb_S1024x3072_S1024x2048_0_1024).toLoadRect (harg6.unread x5))
    (View.readAt (Elt Ideal) arg1.view (Rect.unit (s := S1024x3072) ![0, 2048] S1024x1024.size inb_S1024x3072_S1024x1024_0_2048).toLoadRect (harg1.unread x0))
    (View.readAt (Elt Ideal) arg6.view (Rect.unit (s := S1024x3072) ![0, 0] S1024x1024.size inb_S1024x3072_S1024x1024_0_0).toLoadRect (harg6.unread x5))
    (View.readAt (Elt Ideal) arg2.view (Rect.unit ![0, 0] S1024x1024.size inb_S1024x1024_S1024x1024_0_0).toLoadRect (harg2.unread x1))
    (View.readAt (Elt Ideal) arg3.view (Rect.unit ![0, 0] S1024x1024.size inb_S1024x1024_S1024x1024_0_0).toLoadRect (harg3.unread x2))
    (View.readAt (Elt Ideal) arg4.view (Rect.unit ![0, 0] S1x1024.size inb_S1x1024_S1x1024_0_0).toLoadRect (harg4.unread x3))
    (View.readAt (Elt Ideal) arg5.view (Rect.unit ![0, 0] S1x1024.size inb_S1x1024_S1x1024_0_0).toLoadRect (harg5.unread x4))
    (View.readAt (Elt Ideal) arg4.view (Rect.unit ![0, 0] S1x1024.size inb_S1x1024_S1x1024_0_0).toLoadRect (harg4.unread x3)) where
  p1 r k := (Stores.load _ _ _ _ r k r (first k) (by omega) (by simp [first])).trans (h.p r _)
  p2 r k := (Stores.load _ _ _ _ r k r (last k) (by omega) (by simp [last])).trans (h.p r _)
  w1 j k := (Stores.load _ _ _ _ j k j (back k) (by omega) (by simp [back])).trans (h.w j _)
  w2 j k := (Stores.load _ _ _ _ j k j (front k) (by omega) (by simp [front])).trans (h.w j _)
  x r j := (Stores.load _ _ _ _ r j r j (by omega) (by omega)).trans (h.x r j)
  d r j := (Stores.load _ _ _ _ r j r j (by omega) (by omega)).trans (h.d r j)
  nw j := (Stores.load _ _ _ _ 0 j 0 j (by omega) (by omega)).trans (h.nw j)
  nw' j := (Stores.load _ _ _ _ 0 j 0 j (by omega) (by omega)).trans (h.nw j)
  sc j := (Stores.load _ _ _ _ 0 j 0 j (by omega) (by omega)).trans (h.sc j)

theorem first_dx (hc0 : cond0_0 i) (r j : Fin 1024) :
    out0_A_6 c i arg1 harg1 arg2 harg2 arg3 harg3 arg4 harg4 arg5 harg5 arg6 harg6 arg7 harg7 arg8 harg8 hc0
      x0 x1 x2 x3 x4 x5 (ix2 r j) = q.dx (a r) j := by
  have R := reads arg1 harg1 arg2 harg2 arg3 harg3 arg4 harg4 arg5 harg5 arg6 harg6 h
  unfold out0_A_6 kernelRun0_A
  exact (Stores.hit _ _ _ _ _ _ _ _ _ (Nat.zero_add _).symm (Nat.zero_add _).symm).trans (body_dx R r j)

theorem later_dx (hc0 : ¬cond0_0 i) (r j : Fin 1024) :
    out0_B_6 c i arg1 harg1 arg2 harg2 arg3 harg3 arg4 harg4 arg5 harg5 arg6 harg6 arg7 harg7 arg8 harg8 hc0
      x0 x1 x2 x3 x4 x5 xo (ix2 r j) = q.dx (a r) j := by
  have R := reads arg1 harg1 arg2 harg2 arg3 harg3 arg4 harg4 arg5 harg5 arg6 harg6 h
  unfold out0_B_6 kernelRun0_B
  exact (Stores.hit _ _ _ _ _ _ _ _ _ (Nat.zero_add _).symm (Nat.zero_add _).symm).trans (body_dx R r j)

theorem first_sum (hc0 : cond0_0 i) (e : Fin 8) (j : Fin 1024) :
    out0_A_7 c i arg1 harg1 arg2 harg2 arg3 harg3 arg4 harg4 arg5 harg5 arg6 harg6 arg7 harg7 arg8 harg8 hc0
      x0 x1 x2 x3 x4 x5 (ix2 e j) = ∑ r, q.small (a r) e j := by
  have R := reads arg1 harg1 arg2 harg2 arg3 harg3 arg4 harg4 arg5 harg5 arg6 harg6 h
  unfold out0_A_7 kernelRun0_A
  match e with
  | 0 =>
    refine (Stores.miss_row _ _ _ _ _ _ _ (by decide)).trans ?_
    refine (Stores.miss_row _ _ _ _ _ _ _ (by decide)).trans ?_
    refine (Stores.hit _ _ _ _ _ _ _ 0 j rfl (Nat.zero_add _).symm).trans ((body_sum0 R _ 0 j).trans ?_)
    refine (congrArg (· + _) ?_).trans (zero_add _)
    unfold kernelRun0_A.sl.v26
    refine (Stores.cov _ _ _ 0 j 0 j rfl (Nat.zero_add _).symm).trans ?_
    exact (Stores.hit _ _ _ _ _ _ _ 0 j rfl (Nat.zero_add _).symm).trans (body_zero 0 j)
  | 1 =>
    refine (Stores.miss_row _ _ _ _ _ _ _ (by decide)).trans ?_
    refine (Stores.hit _ _ _ _ _ _ _ 0 j rfl (Nat.zero_add _).symm).trans ((body_sum1 R _ 0 j).trans ?_)
    refine (congrArg (· + _) ?_).trans (zero_add _)
    unfold kernelRun0_A.sl.v32
    refine (Stores.cov _ _ _ 0 j 1 j rfl (Nat.zero_add _).symm).trans ?_
    refine (Stores.miss_row _ _ _ _ _ _ _ (by decide)).trans ?_
    exact (Stores.hit _ _ _ _ _ _ _ 1 j rfl (Nat.zero_add _).symm).trans (body_zero 1 j)
  | 2 =>
    refine (Stores.hit _ _ _ _ _ _ _ 0 j rfl (Nat.zero_add _).symm).trans ((body_sum2 R _ 0 j).trans ?_)
    refine (congrArg (· + _) ?_).trans (zero_add _)
    unfold kernelRun0_A.sl.v44
    refine (Stores.cov _ _ _ 0 j 2 j rfl (Nat.zero_add _).symm).trans ?_
    refine (Stores.miss_row _ _ _ _ _ _ _ (by decide)).trans ?_
    refine (Stores.miss_row _ _ _ _ _ _ _ (by decide)).trans ?_
    exact (Stores.hit _ _ _ _ _ _ _ 2 j rfl (Nat.zero_add _).symm).trans (body_zero 2 j)
  | ⟨e + 3, he⟩ =>
    have small : ∑ r, q.small (a r) ⟨e + 3, he⟩ j = 0 := Finset.sum_eq_zero fun r _ => Params.small_rest q (a r) he j
    refine (Stores.miss_row _ _ _ _ _ _ _ (Or.inr (by show _ ≤ e + 3; omega))).trans ?_
    refine (Stores.miss_row _ _ _ _ _ _ _ (Or.inr (by show _ ≤ e + 3; omega))).trans ?_
    refine (Stores.miss_row _ _ _ _ _ _ _ (Or.inr (by show _ ≤ e + 3; omega))).trans ?_
    exact ((Stores.hit _ _ _ _ _ _ _ ⟨e + 3, he⟩ j (Nat.zero_add _).symm (Nat.zero_add _).symm).trans (body_zero _ j)).trans small.symm

theorem later_sum (hc0 : ¬cond0_0 i) (e : Fin 8) (j : Fin 1024) :
    out0_B_7 c i arg1 harg1 arg2 harg2 arg3 harg3 arg4 harg4 arg5 harg5 arg6 harg6 arg7 harg7 arg8 harg8 hc0
      x0 x1 x2 x3 x4 x5 xo (ix2 e j) = xo (ix2 e j) + ∑ r, q.small (a r) e j := by
  have R := reads arg1 harg1 arg2 harg2 arg3 harg3 arg4 harg4 arg5 harg5 arg6 harg6 h
  unfold out0_B_7 kernelRun0_B
  match e with
  | 0 =>
    refine (Stores.miss_row _ _ _ _ _ _ _ (by decide)).trans ?_
    refine (Stores.miss_row _ _ _ _ _ _ _ (by decide)).trans ?_
    refine (Stores.hit _ _ _ _ _ _ _ 0 j rfl (Nat.zero_add _).symm).trans ((body_sum0 R _ 0 j).trans ?_)
    exact congrArg (· + _) (Stores.load _ _ _ _ 0 j 0 j rfl (Nat.zero_add _).symm)
  | 1 =>
    refine (Stores.miss_row _ _ _ _ _ _ _ (by decide)).trans ?_
    refine (Stores.hit _ _ _ _ _ _ _ 0 j rfl (Nat.zero_add _).symm).trans ((body_sum1 R _ 0 j).trans ?_)
    exact congrArg (· + _) (Stores.load _ _ _ _ 0 j 1 j rfl (Nat.zero_add _).symm)
  | 2 =>
    refine (Stores.hit _ _ _ _ _ _ _ 0 j rfl (Nat.zero_add _).symm).trans ((body_sum2 R _ 0 j).trans ?_)
    exact congrArg (· + _) (Stores.load _ _ _ _ 0 j 2 j rfl (Nat.zero_add _).symm)
  | ⟨e + 3, he⟩ =>
    refine (Stores.miss_row _ _ _ _ _ _ _ (Or.inr (by show _ ≤ e + 3; omega))).trans ?_
    refine (Stores.miss_row _ _ _ _ _ _ _ (Or.inr (by show _ ≤ e + 3; omega))).trans ?_
    refine (Stores.miss_row _ _ _ _ _ _ _ (Or.inr (by show _ ≤ e + 3; omega))).trans ?_
    rw [Finset.sum_eq_zero fun r _ => Params.small_rest q (a r) he j, add_zero]
    exact congrFun (harg8.read_unread xo) _

end

end Point

end Cert.ProjInIdeal

end
-- ==== Proof.ProjArrays.lean ====
/-
  The arrays the kernel leaves: row `T` of the gradient is token `T`'s, and the small rows are sums over all the tokens.
-/
module

public import proofs.«01_k».proof.Proof.ProjKernel

@[expose] public section

noncomputable section

namespace Cert.ProjInIdeal

open Idealize.ShloMosaic Idealize.ShloMosaic.TcCoe
open Cert.ProjInIdeal.Gen Cert.ProjInIdeal.Value Proj

variable (m : (ℓ : Loc nD τ sig) → Buf (Elt Ideal) ℓ) (c : Dev nD)

/-- The parameters and the tokens as launched. -/
def q : Proj.Params := params (m ((c : Thread nD τ).loc main_arg3)) (m ((c : Thread nD τ).loc main_arg4))
  (m ((c : Thread nD τ).loc main_arg5))
def a : Fin 8192 → Proj.Token := token (m ((c : Thread nD τ).loc main_arg0)) (m ((c : Thread nD τ).loc main_arg1))
  (m ((c : Thread nD τ).loc main_arg2))

/-! ## The operand blocks -/

theorem index_p : ∀ t : Fin grid0.N, win0_0.index t 0 = t.val ∧ win0_0.index t 1 = 0 := by decide +kernel
theorem index_x : ∀ t : Fin grid0.N, win0_1.index t 0 = t.val ∧ win0_1.index t 1 = 0 := by decide +kernel
theorem index_d : ∀ t : Fin grid0.N, win0_2.index t 0 = t.val ∧ win0_2.index t 1 = 0 := by decide +kernel
theorem index_nw : ∀ t : Fin grid0.N, win0_3.index t 0 = 0 ∧ win0_3.index t 1 = 0 := by decide +kernel
theorem index_sc : ∀ t : Fin grid0.N, win0_4.index t 0 = 0 ∧ win0_4.index t 1 = 1 := by decide +kernel
theorem index_w : ∀ t : Fin grid0.N, win0_5.index t 0 = 0 ∧ win0_5.index t 1 = 0 := by decide +kernel
theorem index_dx : ∀ t : Fin grid0.N, win0_6.index t 0 = t.val ∧ win0_6.index t 1 = 0 := by decide +kernel
theorem index_sum : ∀ t : Fin grid0.N, win0_7.index t 0 = 0 ∧ win0_7.index t 1 = 0 := by decide +kernel

/-- The cast of the projection before the region keeps its entries. -/
theorem V_w : (V m c main_v0 : S1024x3072.Idx → EReal) = m ((c : Thread nD τ).loc main_arg5) := by rfl

theorem block_p (t : Fin cfg0.N) (r : Fin 1024) (k : Fin 3072) : iblk m c 0 t (ix2 r k) = (a m c (row t.val (lt_of_lt_of_eq t.isLt N_0) r)).p k := by
  unfold iblk
  rw [View.read_apply]
  refine Eq.trans (b := V m c main_arg0 _) rfl ?_
  rw [V_main_arg0]
  refine read_at _ _ _ _ ?_ ?_
  · show win0_0.index t 0 * 1024 + 1 * r.val = 1024 * t.val + r.val; rw [(index_p t).1]; omega
  · show win0_0.index t 1 * 3072 + 1 * k.val = k.val; rw [(index_p t).2]; omega

theorem block_x (t : Fin cfg0.N) (r j : Fin 1024) : iblk m c 1 t (ix2 r j) = (a m c (row t.val (lt_of_lt_of_eq t.isLt N_0) r)).x j := by
  unfold iblk
  rw [View.read_apply]
  refine Eq.trans (b := V m c main_arg1 _) rfl ?_
  rw [V_main_arg1]
  refine read_at _ _ _ _ ?_ ?_
  · show win0_1.index t 0 * 1024 + 1 * r.val = 1024 * t.val + r.val; rw [(index_x t).1]; omega
  · show win0_1.index t 1 * 1024 + 1 * j.val = j.val; rw [(index_x t).2]; omega

theorem block_d (t : Fin cfg0.N) (r j : Fin 1024) : iblk m c 2 t (ix2 r j) = (a m c (row t.val (lt_of_lt_of_eq t.isLt N_0) r)).d j := by
  unfold iblk
  rw [View.read_apply]
  refine Eq.trans (b := V m c main_arg2 _) rfl ?_
  rw [V_main_arg2]
  refine read_at _ _ _ _ ?_ ?_
  · show win0_2.index t 0 * 1024 + 1 * r.val = 1024 * t.val + r.val; rw [(index_d t).1]; omega
  · show win0_2.index t 1 * 1024 + 1 * j.val = j.val; rw [(index_d t).2]; omega

theorem block_nw (t : Fin cfg0.N) (j : Fin 1024) : iblk m c 3 t (ix2 0 j) = (q m c).nw j := by
  unfold iblk
  rw [View.read_apply]
  refine Eq.trans (b := V m c main_arg3 _) rfl ?_
  rw [V_main_arg3]
  refine read_at (m ((c : Thread nD τ).loc main_arg3)) _ 0 j ?_ ?_
  · show win0_3.index t 0 * 1 + 1 * 0 = 0; rw [(index_nw t).1]
  · show win0_3.index t 1 * 1024 + 1 * j.val = j.val; rw [(index_nw t).2]; omega

theorem block_sc (t : Fin cfg0.N) (j : Fin 1024) : iblk m c 4 t (ix2 0 j) = (q m c).sc j := by
  unfold iblk
  rw [View.read_apply]
  refine Eq.trans (b := V m c main_arg4 _) rfl ?_
  rw [V_main_arg4]
  refine read_at (m ((c : Thread nD τ).loc main_arg4)) _ 0 ⟨1024 + j.val, by omega⟩ ?_ ?_
  · show win0_4.index t 0 * 1 + 1 * 0 = 0; rw [(index_sc t).1]
  · show win0_4.index t 1 * 1024 + 1 * j.val = 1024 + j.val; rw [(index_sc t).2]; omega

theorem block_w (t : Fin cfg0.N) (j : Fin 1024) (k : Fin 3072) : iblk m c 5 t (ix2 j k) = (q m c).w j k := by
  unfold iblk
  rw [View.read_apply]
  refine Eq.trans (b := V m c main_v0 _) rfl ?_
  rw [V_w]
  refine read_at (m ((c : Thread nD τ).loc main_arg5)) _ j k ?_ ?_
  · show win0_5.index t 0 * 1024 + 1 * j.val = j.val; rw [(index_w t).1]; omega
  · show win0_5.index t 1 * 3072 + 1 * k.val = k.val; rw [(index_w t).2]; omega

theorem holds (t : Fin cfg0.N) : Holds (q m c) (fun r => a m c (row t.val (lt_of_lt_of_eq t.isLt N_0) r)) (iblk m c 0 t) (iblk m c 1 t) (iblk m c 2 t)
    (iblk m c 3 t) (iblk m c 4 t) (iblk m c 5 t) where
  p := block_p m c t
  x := block_x m c t
  d := block_d m c t
  nw := block_nw m c t
  sc := block_sc m c t
  w := block_w m c t

/-! ## What a point leaves in the result blocks -/

theorem out_dx (t : Fin cfg0.N) (r j : Fin 1024) :
    (outsAt0 m c t.val t.isLt).1 (ix2 r j) = (q m c).dx (a m c (row t.val (lt_of_lt_of_eq t.isLt N_0) r)) j := by
  by_cases h0 : t.val % 8 = 0
  · rw [outsAt0_A m c t h0]; dsimp only; exact first_dx (h := holds m c t) ..
  · rw [outsAt0_B m c t h0]; dsimp only; exact later_dx (h := holds m c t) ..

/-- The rows of sums after point `n`: what all the tokens so far add. -/
theorem out_sum (e : Fin 8) (j : Fin 1024) : ∀ (n : ℕ) (hn : n < cfg0.N),
    (outsAt0 m c n hn).2 (ix2 e j)
      = ∑ b : Fin (n + 1), ∑ r : Fin 1024, (q m c).small (a m c (row b.val (lt_of_lt_of_le b.isLt (lt_of_lt_of_eq hn N_0)) r)) e j
  | 0, hn => by
    rw [Fin.sum_univ_one, outsAt0_A m c ⟨0, hn⟩ rfl]
    dsimp only
    exact first_sum (h := holds m c ⟨0, hn⟩) ..
  | n + 1, hn => by
    have hN : cfg0.N = 8 := N_0
    have hB : ¬(⟨n + 1, hn⟩ : Fin cfg0.N).val % 8 = 0 := by dsimp only; omega
    rw [outsAt0_B m c ⟨n + 1, hn⟩ hB, Fin.sum_univ_castSucc]
    dsimp only
    refine (later_sum (h := holds m c ⟨n + 1, hn⟩) ..).trans ?_
    exact congrArg (· + _) (out_sum e j n (Nat.lt_of_succ_lt hn))

/-! ## The arrays -/

theorem flushed_dx (t : Fin cfg0.N) :
    (dats m 0 c).flushed 6 t = ((cfg0.win 6).blk t).view.read (Elt Ideal) (grads (q m c) (a m c)) := by
  rw [Value.flushed6]
  funext y
  obtain ⟨r, j, rfl⟩ : ∃ r j : Fin 1024, y = ix2 r j := ⟨y 0, y 1, eq_ix2 y⟩
  rw [View.read_apply]
  refine Eq.trans (b := (outsAt0 m c t.val t.isLt).1 (ix2 r j)) rfl ?_
  rw [out_dx]
  refine Eq.trans (b := grads (q m c) (a m c) (ix2 (row t.val (lt_of_lt_of_eq t.isLt N_0) r) j)) rfl ?_
  refine Eq.trans ?_ (cast_eq rfl _).symm
  refine (read_at _ _ _ _ ?_ ?_).symm
  · show win0_6.index t 0 * 1024 + 1 * r.val = 1024 * t.val + r.val; rw [(index_dx t).1]; omega
  · show win0_6.index t 1 * 1024 + 1 * j.val = j.val; rw [(index_dx t).2]; omega

theorem flushed_sum (t : Fin cfg0.N) (hf : (cfg0.win 7).flush t = true) :
    (dats m 0 c).flushed 7 t = ((cfg0.win 7).blk t).view.read (Elt Ideal) (sums (q m c) (a m c)) := by
  rw [Value.flushed7]
  funext y
  obtain ⟨e, j, rfl⟩ : ∃ (e : Fin 8) (j : Fin 1024), y = ix2 e j := ⟨y 0, y 1, eq_ix2 y⟩
  rw [View.read_apply]
  refine Eq.trans (b := (outsAt0 m c t.val t.isLt).2 (ix2 e j)) rfl ?_
  rw [out_sum]
  have h7 := (flush0_7 t).mp hf
  obtain ⟨n, hn⟩ := t
  have hN : cfg0.N = 8 := N_0
  obtain rfl : n = 7 := by dsimp only at h7; omega
  refine Eq.trans (sum_rows fun T => (q m c).small (a m c T) e j) ?_
  refine Eq.trans (b := sums (q m c) (a m c) (ix2 e j)) rfl ?_
  refine Eq.trans ?_ (cast_eq rfl _).symm
  refine (read_at _ _ _ _ ?_ ?_).symm
  · show win0_7.index _ 0 * 8 + 1 * e.val = e.val; rw [(index_sum _).1]; omega
  · show win0_7.index _ 1 * 1024 + 1 * j.val = j.val; rw [(index_sum _).2]; omega

/-- The point whose block holds a row of the gradient. -/
def point (i : S8192x1024.Idx) : Fin cfg0.N := ⟨(i 0).val / 1024, by
  have h0 : (i 0).val < 8192 := (i 0).isLt
  have hN : cfg0.N = 8 := N_0
  omega⟩

theorem cover_dx (i : S8192x1024.Idx) : i ∈ ((View.whole main_v1_0).slice (win0_6.rect (point i))).set := by
  have h1 : (i 1 : Nat) < 1024 := (i 1).isLt
  rw [View.set_slice_whole, Rect.mem_set_unit]
  intro b
  match b with
  | ⟨0, _⟩ =>
    show win0_6.index (point i) 0 * 1024 ≤ (i 0 : Nat) ∧ (i 0 : Nat) < win0_6.index (point i) 0 * 1024 + 1024
    rw [(index_dx _).1]
    show (i 0).val / 1024 * 1024 ≤ (i 0).val ∧ (i 0).val < (i 0).val / 1024 * 1024 + 1024
    omega
  | ⟨1, _⟩ =>
    show win0_6.index (point i) 1 * 1024 ≤ (i 1 : Nat) ∧ (i 1 : Nat) < win0_6.index (point i) 1 * 1024 + 1024
    rw [(index_dx _).2]; omega

theorem cover_sum (i : S8x1024.Idx) (t : Fin cfg0.N) : i ∈ ((View.whole main_v1_1).slice (win0_7.rect t)).set := by
  have h0 : (i 0 : Nat) < 8 := (i 0).isLt
  have h1 : (i 1 : Nat) < 1024 := (i 1).isLt
  rw [View.set_slice_whole, Rect.mem_set_unit]
  intro b
  match b with
  | ⟨0, _⟩ =>
    show win0_7.index t 0 * 8 ≤ (i 0 : Nat) ∧ (i 0 : Nat) < win0_7.index t 0 * 8 + 8
    rw [(index_sum t).1]; omega
  | ⟨1, _⟩ =>
    show win0_7.index t 1 * 1024 ≤ (i 1 : Nat) ∧ (i 1 : Nat) < win0_7.index t 1 * 1024 + 1024
    rw [(index_sum t).2]; omega

/-- What the kernel leaves. -/
theorem returns_dx : (dats m 0 c).arrAt 6 cfg0.N = grads (q m c) (a m c) :=
  (dats m 0 c).arrAt_eq_of_cover 6 _ (fun t _ => flushed_dx m c t) fun i => ⟨point i, flush0_6 _, cover_dx i⟩

theorem returns_sum : (dats m 0 c).arrAt 7 cfg0.N = sums (q m c) (a m c) :=
  (dats m 0 c).arrAt_eq_of_cover 7 _ (flushed_sum m c) fun i =>
    ⟨⟨7, by have hN : cfg0.N = 8 := N_0; omega⟩, (flush0_7 _).mpr rfl, cover_sum i _⟩

end Cert.ProjInIdeal

end
-- ==== Proof.ProjReference.lean ====
/-
  The reference, operation by operation: what each stage holds at an index is the quantity of the index's token.
-/
module

public import proofs.«01_k».proof.Proof.ProjStep
public import proofs.«01_k».proof.Proof.Gen.ProjInReferenceIdeal.Read

@[expose] public section

noncomputable section

namespace Cert.ProjInReferenceIdeal.Stages

open Idealize.ShloMosaic Idealize.ShloMosaic.TcCoe
open Cert.ProjInReferenceIdeal Cert.ProjInReferenceIdeal.Gen Cert.ProjInReferenceIdeal.Read Step Proj

/-- A sum that starts at the float zero. -/
theorem from_zero {z s t : EReal} (hz : z = 0) (h : s = t) : z + s = t := by rw [hz, zero_add, h]
theorem zero_word : FloatOps.ofBits (F := Ideal) .f32 0x00000000#32 = 0 := Ideal.ofBits_zero_f32
/-- The position in a one-column array, counted along the other axis. -/
theorem flat_col (i : S8192x1.Idx) : idx_main_v47 i = idx_main_v11 i :=
  funext fun a => Fin.ext (by
    have h : (i 1 : Nat) < 1 := (i 1).isLt
    match a with
    | ⟨0, _⟩ => show (i 0 : Nat) * 1 + (i 1 : Nat) = (i 0 : Nat); omega)
/-- A one-row array read at its only row. -/
theorem one_row (x : S1x1024.Idx → EReal) (i : S1x1024.Idx) : x i = x (ix2 0 (i 1)) :=
  congrArg x ((eq_ix2 i).trans (congrArg (ix2 · (i 1)) (Fin.ext (by have h : (i 0 : Nat) < 1 := (i 0).isLt; show (i 0 : Nat) = 0; omega))))

/-- Three rows and five, one below the other. -/
theorem four_rows (y0 y1 y2 : S1x1024.Idx → EReal) (y3 : S5x1024.Idx → EReal)
    (h : Shape.Concatenates ([⟨S1x1024, y0⟩, ⟨S1x1024, y1⟩, ⟨S1x1024, y2⟩, ⟨S5x1024, y3⟩].map (fun x : (s : Shape) × (s.Idx → EReal) => x.1)) S8x1024 0) (j : Fin 1024) (f : Fin 8 → EReal)
    (h0 : y0 (ix2 0 j) = f 0) (h1 : y1 (ix2 0 j) = f 1) (h2 : y2 (ix2 0 j) = f 2)
    (h3 : ∀ e : Fin 5, y3 (ix2 e j) = f ⟨e.val + 3, by omega⟩) (i : Fin 8) :
    concatenate S8x1024 0 [⟨S1x1024, y0⟩, ⟨S1x1024, y1⟩, ⟨S1x1024, y2⟩, ⟨S5x1024, y3⟩] h (ix2 i j) = f i := by
  match i with
  | ⟨0, _⟩ =>
    refine (concatenate_apply_piece 0 _ h _ 0 (by simp) S1x1024 y0 rfl rfl 0 rfl (ix2 0 j) (fun b hb => ?_) rfl).trans h0
    match b with
    | ⟨0, _⟩ => exact absurd rfl hb
    | ⟨1, _⟩ => rfl
  | ⟨1, _⟩ =>
    refine (concatenate_apply_piece 0 _ h _ 1 (by simp) S1x1024 y1 rfl rfl 1 rfl (ix2 0 j) (fun b hb => ?_) rfl).trans h1
    match b with
    | ⟨0, _⟩ => exact absurd rfl hb
    | ⟨1, _⟩ => rfl
  | ⟨2, _⟩ =>
    refine (concatenate_apply_piece 0 _ h _ 2 (by simp) S1x1024 y2 rfl rfl 2 rfl (ix2 0 j) (fun b hb => ?_) rfl).trans h2
    match b with
    | ⟨0, _⟩ => exact absurd rfl hb
    | ⟨1, _⟩ => rfl
  | ⟨e + 3, he⟩ =>
    refine (concatenate_apply_piece 0 _ h (ix2 ⟨e + 3, he⟩ j : S8x1024.Idx) 3 (by simp) S5x1024 y3 rfl rfl 3 rfl (ix2 ⟨e, by omega⟩ j) (fun b hb => ?_)
      (Nat.add_comm 3 e)).trans (h3 ⟨e, by omega⟩)
    match b with
    | ⟨0, _⟩ => exact absurd rfl hb
    | ⟨1, _⟩ => rfl

variable (x0 : (⟨S8192x3072, .bf16⟩ : BufTy).Contents (Elt Ideal)) (x1 x2 : (⟨S8192x1024, .f32⟩ : BufTy).Contents (Elt Ideal))
  (x3 : (⟨S1x1024, .f32⟩ : BufTy).Contents (Elt Ideal)) (x4 : (⟨S1x6144, .f32⟩ : BufTy).Contents (Elt Ideal))
  (x5 : (⟨S1024x3072, .f32⟩ : BufTy).Contents (Elt Ideal))
include x0 x1 x2 x3 x4 x5

/-! ## The norm -/

theorem e_meanSq (i : S8192x1.Idx) : val_main_v15 (F := Ideal) x1 i = meanSq (token x0 x1 x2 (i 0)).x := by
  rw [val_main_v15_apply, val_main_v13_apply, val_main_v11_apply, val_main_v10_apply, val_main_v12_apply, val_main_cst_0_apply,
    val_main_v14_apply, val_main_cst_1_apply, val_main_cst_apply]
  refine congrArg (fun s : EReal => Ideal.div s width + eps) (from_zero zero_word (Finset.sum_congr rfl fun k _ => ?_))
  rw [val_main_v9_apply]
  exact congrArg (fun b : EReal => b * b) (congrArg x1 (eq_ix2 _))

theorem e_r (i : S8192x1.Idx) : val_main_v16 (F := Ideal) x1 i = Params.r (token x0 x1 x2 (i 0)) := by
  rw [val_main_v16_apply, e_meanSq x0 x1 x2 x3 x4 x5 i]; rfl

theorem e_xh (i : S8192x1024.Idx) : val_main_v21 (F := Ideal) x1 i = Params.xh (token x0 x1 x2 (i 0)) (i 1) := by
  rw [val_main_v21_apply, val_main_v20_apply, e_r x0 x1 x2 x3 x4 x5 _]
  exact congrArg (fun b : EReal => b * Params.r (token x0 x1 x2 (i 0))) (congrArg x1 (eq_ix2 i))

theorem e_n1 (i : S8192x1024.Idx) : val_main_v23 (F := Ideal) x1 x3 i = (params x3 x4 x5).n1 (token x0 x1 x2 (i 0)) (i 1) := by
  rw [val_main_v23_apply, e_xh x0 x1 x2 x3 x4 x5 i, val_main_v22_apply, one_row x3]; rfl

theorem e_osc (i : S1x1024.Idx) : val_main_v25 (F := Ideal) x4 i = (params x3 x4 x5).osc (i 1) := by
  rw [val_main_v25_apply, val_main_v24_apply, val_main_cst_3_apply, val_main_v1_apply]
  refine congrArg₂ (fun o b : EReal => o + b) one_eq (congrArg x4 ((eq_ix2 _).trans (congrArg₂ ix2 ?_ rfl)))
  exact Fin.ext (by have h : (i 0 : Nat) < 1 := (i 0).isLt; show (i 0 : Nat) = 0; omega)

/-! ## Back through the projection -/

/-- The gradient in the projection's order. -/
theorem e_front (T : Fin 8192) (k : Fin 1024) : val_main_v31 (F := Ideal) x0 (ix2 T (front k)) = (token x0 x1 x2 T).p (last k) := by
  unfold val_main_v31
  refine (concatenate_pair_apply_left (s₁ := S8192x1024) (s₂ := S8192x2048) 1 _ _ _ (ix2 T (front k) : S8192x3072.Idx) rfl (ix2 T k : S8192x1024.Idx) fun b => ?_).trans ?_
  · match b with
    | ⟨0, _⟩ => rfl
    | ⟨1, _⟩ => rfl
  · rw [val_main_v8_apply, val_main_v6_apply]
    exact congrArg x0 (eq_ix2 _)

theorem e_back (T : Fin 8192) (k : Fin 2048) : val_main_v31 (F := Ideal) x0 (ix2 T (back k)) = (token x0 x1 x2 T).p (first k) := by
  unfold val_main_v31
  refine (concatenate_pair_apply_right (s₁ := S8192x1024) (s₂ := S8192x2048) 1 _ _ _ (ix2 T (back k) : S8192x3072.Idx) rfl rfl (ix2 T k : S8192x2048.Idx) (fun b hb => ?_) ?_).trans ?_
  · match b with
    | ⟨0, _⟩ => rfl
    | ⟨1, _⟩ => exact absurd rfl hb
  · show (k : Nat) + 1024 = 1024 + (k : Nat)
    omega
  · rw [val_main_v7_apply, val_main_v6_apply]
    exact congrArg x0 (eq_ix2 _)

theorem e_dh (i : S8192x1024.Idx) : val_main_v32 (F := Ideal) x0 x5 i = (params x3 x4 x5).dh (token x0 x1 x2 (i 0)) (i 1) := by
  rw [val_main_v32_apply, sum_columns]
  refine congrArg₂ (fun s t : EReal => s + t) (Finset.sum_congr rfl fun k _ => ?_) (Finset.sum_congr rfl fun k _ => ?_)
  · exact congrArg₂ (fun s t : EReal => s * t)
      ((congrArg (val_main_v31 (F := Ideal) x0) (eq_ix2 _)).trans (e_back x0 x1 x2 x3 x4 x5 (i 0) k)) (congrArg x5 (eq_ix2 _))
  · exact congrArg₂ (fun s t : EReal => s * t)
      ((congrArg (val_main_v31 (F := Ideal) x0) (eq_ix2 _)).trans (e_front x0 x1 x2 x3 x4 x5 (i 0) k)) (congrArg x5 (eq_ix2 _))

theorem e_dn (i : S8192x1024.Idx) : val_main_v39 (F := Ideal) x0 x4 x5 i = (params x3 x4 x5).dn (token x0 x1 x2 (i 0)) (i 1) := by
  rw [val_main_v39_apply, val_main_v38_apply, e_dh x0 x1 x2 x3 x4 x5 i, e_osc x0 x1 x2 x3 x4 x5 _]; rfl

/-! ## Back through the norm -/

theorem e_g (i : S8192x1024.Idx) : val_main_v44 (F := Ideal) x0 x3 x4 x5 i
    = (params x3 x4 x5).dn (token x0 x1 x2 (i 0)) (i 1) * (params x3 x4 x5).nw (i 1) := by
  rw [val_main_v44_apply, val_main_v43_apply, e_dn x0 x1 x2 x3 x4 x5 i, one_row x3]; rfl

theorem e_xg (i : S8192x1.Idx) : val_main_v47 (F := Ideal) x0 x1 x3 x4 x5 i
    = ∑ k, (token x0 x1 x2 (i 0)).x k * ((params x3 x4 x5).dn (token x0 x1 x2 (i 0)) k * (params x3 x4 x5).nw k) := by
  rw [val_main_v47_apply, flat_col i, val_main_v46_apply, val_main_cst_7_apply]
  refine from_zero zero_word (Finset.sum_congr rfl fun k _ => ?_)
  rw [val_main_v45_apply, e_g x0 x1 x2 x3 x4 x5 _]
  exact congrArg (fun b : EReal => b * ((params x3 x4 x5).dn (token x0 x1 x2 (i 0)) k * (params x3 x4 x5).nw k)) (congrArg x1 (eq_ix2 _))

theorem e_half (i : S8192x1.Idx) : val_main_v19 (F := Ideal) x1 i = Ideal.ofBits .f32 0xBF000000#32
    * Ideal.div (rms (token x0 x1 x2 (i 0)).x) (meanSq (token x0 x1 x2 (i 0)).x) := by
  rw [val_main_v19_apply, val_main_v18_apply, val_main_cst_2_apply, val_main_v17_apply, e_r x0 x1 x2 x3 x4 x5 i, e_meanSq x0 x1 x2 x3 x4 x5 i]
  rfl

theorem e_mean (i : S8192x1024.Idx) : val_main_v55 (F := Ideal) x0 x1 x3 x4 x5 i
    = Ideal.div ((∑ k, (token x0 x1 x2 (i 0)).x k * ((params x3 x4 x5).dn (token x0 x1 x2 (i 0)) k * (params x3 x4 x5).nw k))
        * (Ideal.ofBits .f32 0xBF000000#32 * Ideal.div (rms (token x0 x1 x2 (i 0)).x) (meanSq (token x0 x1 x2 (i 0)).x))) width := by
  rw [val_main_v55_apply, val_main_v54_apply, val_main_cst_9_apply, Fin.sum_univ_one, val_main_v53_apply, val_main_v51_apply,
    val_main_v52_apply, val_main_cst_8_apply, e_xg x0 x1 x2 x3 x4 x5 _, e_half x0 x1 x2 x3 x4 x5 _]
  exact from_zero zero_word rfl

theorem e_dx (i : S8192x1024.Idx) : val_main_v59 (F := Ideal) x0 x1 x2 x3 x4 x5 i = grads (params x3 x4 x5) (token x0 x1 x2) i := by
  rw [val_main_v59_apply, val_main_v57_apply, val_main_v50_apply, val_main_v49_apply, val_main_v48_apply, val_main_v56_apply,
    val_main_v58_apply, e_mean x0 x1 x2 x3 x4 x5 i, e_g x0 x1 x2 x3 x4 x5 i, e_r x0 x1 x2 x3 x4 x5 _,
    show x1 i = (token x0 x1 x2 (i 0)).x (i 1) from congrArg x1 (eq_ix2 i),
    show x2 i = (token x0 x1 x2 (i 0)).d (i 1) from congrArg x2 (eq_ix2 i)]
  exact rmsBwd_textbook (token x0 x1 x2 (i 0)).x
    (fun k => (params x3 x4 x5).dn (token x0 x1 x2 (i 0)) k * (params x3 x4 x5).nw k) (i 1) ((token x0 x1 x2 (i 0)).d (i 1))

/-! ## The small rows -/

theorem e_sum0 (j : Fin 1024) : val_main_v34 (F := Ideal) x0 x5 (ix2 0 j) = sums (params x3 x4 x5) (token x0 x1 x2) (ix2 0 j) := by
  rw [val_main_v34_apply, val_main_v33_apply, val_main_cst_4_apply]
  refine from_zero zero_word (Finset.sum_congr rfl fun T _ => ?_)
  rw [e_dh x0 x1 x2 x3 x4 x5 _]
  exact congrArg ((params x3 x4 x5).dh (token x0 x1 x2 T)) (Fin.ext (by show 0 * 1024 + j.val = j.val; omega))

theorem e_sum1 (j : Fin 1024) : val_main_v37 (F := Ideal) x0 x1 x3 x5 (ix2 0 j) = sums (params x3 x4 x5) (token x0 x1 x2) (ix2 1 j) := by
  rw [val_main_v37_apply, val_main_v36_apply, val_main_cst_5_apply]
  refine from_zero zero_word (Finset.sum_congr rfl fun T _ => ?_)
  rw [val_main_v35_apply, e_dh x0 x1 x2 x3 x4 x5 _, e_n1 x0 x1 x2 x3 x4 x5 _]
  refine (mul_comm _ _).trans (congrArg (fun b => (params x3 x4 x5).dh (token x0 x1 x2 T) b * (params x3 x4 x5).n1 (token x0 x1 x2 T) b)
    (Fin.ext (by show 0 * 1024 + j.val = j.val; omega)))

theorem e_sum2 (j : Fin 1024) : val_main_v42 (F := Ideal) x0 x1 x4 x5 (ix2 0 j) = sums (params x3 x4 x5) (token x0 x1 x2) (ix2 2 j) := by
  rw [val_main_v42_apply, val_main_v41_apply, val_main_cst_6_apply]
  refine from_zero zero_word (Finset.sum_congr rfl fun T _ => ?_)
  rw [val_main_v40_apply, e_dn x0 x1 x2 x3 x4 x5 _, e_xh x0 x1 x2 x3 x4 x5 _]
  refine (mul_comm _ _).trans (congrArg (fun b => (params x3 x4 x5).dn (token x0 x1 x2 T) b * Params.xh (token x0 x1 x2 T) b)
    (Fin.ext (by show 0 * 1024 + j.val = j.val; omega)))

theorem e_sum (i : S8x1024.Idx) : val_main_v61 (F := Ideal) x0 x1 x3 x4 x5 i = sums (params x3 x4 x5) (token x0 x1 x2) i := by
  obtain ⟨e, j, rfl⟩ : ∃ (e : Fin 8) (j : Fin 1024), i = ix2 e j := ⟨i 0, i 1, eq_ix2 i⟩
  unfold val_main_v61
  refine four_rows _ _ _ _ _ j (fun e => sums (params x3 x4 x5) (token x0 x1 x2) (ix2 e j)) (e_sum0 x0 x1 x2 x3 x4 x5 j)
    (e_sum1 x0 x1 x2 x3 x4 x5 j) (e_sum2 x0 x1 x2 x3 x4 x5 j) (fun e => ?_) e
  rw [val_main_v60_apply, val_main_cst_10_apply, zero_word]
  exact (Finset.sum_eq_zero fun T _ => Params.small_rest (params x3 x4 x5) (token x0 x1 x2 T) _ j).symm

end Cert.ProjInReferenceIdeal.Stages

end
-- ==== Proof.ProjIn.lean ====
/-
  Back through the input projection: kernel and reference return the same gradient of the residual stream and the same
  rows of sums over the tokens.
-/
module

public import proofs.«01_k».proof.Proof.ProjArrays
public import proofs.«01_k».proof.Proof.ProjReference
public import proofs.«01_k».proof.Proof.Gen.ProjInReferenceIdeal.Run
public import proofs.«01_k».proof.Defs
public import Idealize.ShloMosaic.Lib.StableHlo.RunRead

@[expose] public section

noncomputable section

namespace Cert.ProjInIdeal

open Idealize.ShloMosaic Idealize.ShloMosaic.TcCoe Proj

/-- The reference runs and leaves its arguments unchanged. -/
theorem frame_reference : Cert.quiescent_ProjInReferenceIdeal := fun m ρ _ =>
  (θ_run Cert.ProjInReferenceIdeal.defs _ _).mono (fun r h => ⟨fun c => (h c).2.2,
      Idealize.ShloMosaic.sem_eq_zero_of_no_sems (by decide) r.2⟩)
    (Cert.ProjInReferenceIdeal.Value.run (F := Ideal) m ρ)

/-- Kernel and reference return the same two arrays. -/
theorem algebraic : Cert.algebraic_ProjInIdeal_ProjInReferenceIdeal := by
  intro m g m' g' _ hagree
  refine ⟨fun c => grads (q m c) (a m c), fun c => sums (q m c) (a m c), ?_, ?_⟩
  · refine (θ_run Cert.ProjInIdeal.defs _ _).mono (fun r h c => ?_) (Cert.ProjInIdeal.Value.run_blocks (F := Ideal) m g)
    exact ⟨(h c).1.trans (returns_dx m c), (h c).2.1.trans (returns_sum m c), (h c).2.2⟩
  · refine (θ_run Cert.ProjInReferenceIdeal.defs _ _).mono (fun r h c => ?_)
      (Cert.ProjInReferenceIdeal.Value.run (F := Ideal) m' g')
    obtain ⟨h0, h1, h2, h3, h4, h5⟩ := hagree c
    refine ⟨(h c).1.trans ((Cert.ProjInReferenceIdeal.Read.val_main_v59_eq _ _).trans ?_),
      (h c).2.1.trans ((Cert.ProjInReferenceIdeal.Read.val_main_v61_eq _ _ _ _ _).trans ?_), (h c).2.2⟩
    · rw [h0, h1, h2, h3, h4, h5]
      exact funext (Cert.ProjInReferenceIdeal.Stages.e_dx _ _ _ _ _ _)
    · rw [h0, h1, h3, h4, h5]
      exact funext (Cert.ProjInReferenceIdeal.Stages.e_sum _ _ (m ((c : Thread nD τ).loc main_arg2)) _ _ _)

end Cert.ProjInIdeal

end
-- ==== Proof.Ada.lean ====
/-
  The conditioning vectors' activation and their product with the modulation's weight, in the kernel's result as in the
  reference's.
-/
module

public import proofs.«01_k».proof.Proof.Algebra
public import proofs.«01_k».proof.Proof.ProjStep
public import proofs.«01_k».proof.Proof.Gen.AdaIdeal.Value
public import proofs.«01_k».proof.Proof.Gen.AdaReferenceIdeal.Run
public import proofs.«01_k».proof.Proof.Gen.AdaReferenceIdeal.Read
public import proofs.«01_k».proof.Defs
public import Idealize.ShloMosaic.Lib.StableHlo.RunRead

@[expose] public section

noncomputable section

/-! ## What both compute -/

namespace Ada

open Idealize.ShloMosaic

/-- `x · logistic x` of every entry. -/
def act (x : (⟨2, ![8, 1024]⟩ : Shape).Idx → EReal) (i : (⟨2, ![8, 1024]⟩ : Shape).Idx) : EReal := x i * Ideal.logistic (x i)

/-- The product of the activation with the weight. -/
def modulation (x : (⟨2, ![8, 1024]⟩ : Shape).Idx → EReal) (w : (⟨2, ![1024, 1536]⟩ : Shape).Idx → EReal)
    (i : (⟨2, ![8, 1536]⟩ : Shape).Idx) : EReal := ∑ k : Fin 1024, act x (ix2 (i 0) k) * w (ix2 k (i 1))

end Ada

/-! ## The kernel -/

namespace Cert.AdaIdeal

open Idealize.ShloMosaic Idealize.ShloMosaic.TcCoe
open Cert.AdaIdeal.Gen Cert.AdaIdeal.Value Proj

theorem corner : (![0, 0] : Fin 2 → Nat) = fun _ => 0 := funext fun b => by fin_cases b <;> rfl

/-- The body's activation. -/
theorem body_act (x : Vec Ideal S8x1024 .f32) : k0_pay1 x = Ada.act x := by
  funext i
  unfold k0_pay1 Ada.act; pointwise

/-- The body's product with one block of 512 columns. -/
theorem body_product (x : Vec Ideal S8x1024 .f32) (w : Vec Ideal S1024x512 .f32) (r : Fin 8) (n : Fin 512) :
    k0_pay2 x w (ix2 r n) = ∑ k : Fin 1024, Ada.act x (ix2 r k) * w (ix2 k n) := by
  unfold k0_pay2
  rw [body_act]
  pointwise [dot_S8x1024_S1024x512_S8x512_1_0_0_1_n_n]

variable (m : (ℓ : Loc nD τ sig) → Buf (Elt Ideal) ℓ) (c : Dev nD)

/-- The conditioning vectors and the weight as launched. -/
abbrev vectors : S8x1024.Idx → EReal := m ((c : Thread nD τ).loc main_arg0)
abbrev weight : S1024x1536.Idx → EReal := m ((c : Thread nD τ).loc main_arg1)

theorem index_vectors : ∀ t : Fin grid0.N, win0_0.index t 0 = 0 ∧ win0_0.index t 1 = 0 := by decide +kernel
theorem index_weight : ∀ t : Fin grid0.N, win0_1.index t 0 = 0 ∧ win0_1.index t 1 = t.val := by decide +kernel
theorem index_act : ∀ t : Fin grid0.N, win0_2.index t 0 = 0 ∧ win0_2.index t 1 = 0 := by decide +kernel
theorem index_product : ∀ t : Fin grid0.N, win0_3.index t 0 = 0 ∧ win0_3.index t 1 = t.val := by decide +kernel

/-- Column `n` of block `t`. -/
def column (t : ℕ) (h : t < 3) (n : Fin 512) : Fin 1536 := ⟨512 * t + n.val, by omega⟩

/-- Every point reads all the vectors. -/
theorem block_vectors (t : Fin cfg0.N) : iblk m c 0 t = vectors m c := by
  funext y
  obtain ⟨r, k, rfl⟩ : ∃ (r : Fin 8) (k : Fin 1024), y = ix2 r k := ⟨y 0, y 1, eq_ix2 y⟩
  unfold iblk
  rw [View.read_apply]
  refine Eq.trans (b := V m c main_arg0 _) rfl ?_
  rw [V_main_arg0]
  refine read_at _ _ _ _ ?_ ?_
  · show win0_0.index t 0 * 8 + 1 * r.val = r.val; rw [(index_vectors t).1]; omega
  · show win0_0.index t 1 * 1024 + 1 * k.val = k.val; rw [(index_vectors t).2]; omega

/-- Point `t` reads block `t` of the weight's columns. -/
theorem block_weight (t : Fin cfg0.N) (k : Fin 1024) (n : Fin 512) :
    iblk m c 1 t (ix2 k n) = weight m c (ix2 k (column t.val (lt_of_lt_of_eq t.isLt N_0) n)) := by
  unfold iblk
  rw [View.read_apply]
  refine Eq.trans (b := V m c main_arg1 _) rfl ?_
  rw [V_main_arg1]
  refine read_at _ _ _ _ ?_ ?_
  · show win0_1.index t 0 * 1024 + 1 * k.val = k.val; rw [(index_weight t).1]; omega
  · show win0_1.index t 1 * 512 + 1 * n.val = 512 * t.val + n.val; rw [(index_weight t).2]; omega

theorem flushed_act (t : Fin cfg0.N) :
    (dats m 0 c).flushed 2 t = ((cfg0.win 2).blk t).view.read (Elt Ideal) (Ada.act (vectors m c)) := by
  rw [Value.flushed2]
  unfold out0_2
  rw [View.canon_unit_zero corner, View.ld_unit_zero corner, body_act, block_vectors]
  funext y
  obtain ⟨r, k, rfl⟩ : ∃ (r : Fin 8) (k : Fin 1024), y = ix2 r k := ⟨y 0, y 1, eq_ix2 y⟩
  rw [View.read_apply]
  refine Eq.trans (b := Ada.act (vectors m c) (ix2 r k)) rfl ?_
  refine Eq.trans ?_ (cast_eq rfl _).symm
  refine (read_at _ _ _ _ ?_ ?_).symm
  · show win0_2.index t 0 * 8 + 1 * r.val = r.val; rw [(index_act t).1]; omega
  · show win0_2.index t 1 * 1024 + 1 * k.val = k.val; rw [(index_act t).2]; omega

theorem flushed_product (t : Fin cfg0.N) :
    (dats m 0 c).flushed 3 t = ((cfg0.win 3).blk t).view.read (Elt Ideal) (Ada.modulation (vectors m c) (weight m c)) := by
  rw [Value.flushed3]
  unfold out0_3
  rw [View.canon_unit_zero corner, View.ld_unit_zero corner, View.ld_unit_zero corner, block_vectors]
  funext y
  obtain ⟨r, n, rfl⟩ : ∃ (r : Fin 8) (n : Fin 512), y = ix2 r n := ⟨y 0, y 1, eq_ix2 y⟩
  rw [View.read_apply]
  refine Eq.trans (b := k0_pay2 (vectors m c) (iblk m c 1 t) (ix2 r n)) rfl ?_
  rw [body_product]
  refine Eq.trans (b := Ada.modulation (vectors m c) (weight m c) (ix2 r (column t.val (lt_of_lt_of_eq t.isLt N_0) n)))
    (Finset.sum_congr rfl fun k _ => congrArg (Ada.act (vectors m c) (ix2 r k) * ·) (block_weight m c t k n)) ?_
  refine Eq.trans ?_ (cast_eq rfl _).symm
  refine (read_at _ _ _ _ ?_ ?_).symm
  · show win0_3.index t 0 * 8 + 1 * r.val = r.val; rw [(index_product t).1]; omega
  · show win0_3.index t 1 * 512 + 1 * n.val = 512 * t.val + n.val; rw [(index_product t).2]; omega

/-! The blocks fill the two arrays. -/

theorem cover_act (i : S8x1024.Idx) (t : Fin cfg0.N) : i ∈ ((cfg0.win 2).blk t).view.set := by
  show i ∈ ((View.whole main_v0_0).slice (win0_2.rect t)).set
  rw [View.set_slice_whole, Rect.mem_set_unit]
  intro b
  match b with
  | ⟨0, _⟩ =>
    have h : (i 0).val < 8 := (i 0).isLt
    show win0_2.index t 0 * 8 ≤ (i 0).val ∧ (i 0).val < win0_2.index t 0 * 8 + 8
    rw [(index_act t).1]; omega
  | ⟨1, _⟩ =>
    have h : (i 1).val < 1024 := (i 1).isLt
    show win0_2.index t 1 * 1024 ≤ (i 1).val ∧ (i 1).val < win0_2.index t 1 * 1024 + 1024
    rw [(index_act t).2]; omega

/-- The point whose block holds column `i 1`. -/
def point (i : S8x1536.Idx) : Fin cfg0.N :=
  ⟨(i 1).val / 512, by
    have hN : cfg0.N = 3 := N_0
    have h : (i 1).val < 1536 := (i 1).isLt
    omega⟩

theorem cover_product (i : S8x1536.Idx) : i ∈ ((cfg0.win 3).blk (point i)).view.set := by
  show i ∈ ((View.whole main_v0_1).slice (win0_3.rect (point i))).set
  rw [View.set_slice_whole, Rect.mem_set_unit]
  intro b
  match b with
  | ⟨0, _⟩ =>
    have h : (i 0).val < 8 := (i 0).isLt
    show win0_3.index (point i) 0 * 8 ≤ (i 0).val ∧ (i 0).val < win0_3.index (point i) 0 * 8 + 8
    rw [(index_product _).1]; omega
  | ⟨1, _⟩ =>
    show win0_3.index (point i) 1 * 512 ≤ (i 1).val ∧ (i 1).val < win0_3.index (point i) 1 * 512 + 512
    rw [(index_product _).2]
    show (i 1).val / 512 * 512 ≤ (i 1).val ∧ (i 1).val < (i 1).val / 512 * 512 + 512
    omega

/-- What the kernel leaves: the activation and the product. -/
theorem returns_act : (dats m 0 c).arrAt 2 cfg0.N = Ada.act (vectors m c) :=
  (dats m 0 c).arrAt_eq_of_cover 2 _ (fun t _ => flushed_act m c t) fun i =>
    ⟨⟨2, by have hN : cfg0.N = 3 := N_0; omega⟩, (flush0_2 _).mpr rfl, cover_act i _⟩

theorem returns_product : (dats m 0 c).arrAt 3 cfg0.N = Ada.modulation (vectors m c) (weight m c) :=
  (dats m 0 c).arrAt_eq_of_cover 3 _ (fun t _ => flushed_product m c t) fun i => ⟨point i, flush0_3 _, cover_product i⟩

end Cert.AdaIdeal

/-! ## The reference -/

namespace Cert.AdaReferenceIdeal

open Idealize.ShloMosaic Idealize.ShloMosaic.TcCoe
open Cert.AdaReferenceIdeal.Read

variable (x : (⟨S8x1024, .f32⟩ : BufTy).Contents (Elt Ideal)) (w : (⟨S1024x1536, .f32⟩ : BufTy).Contents (Elt Ideal))

theorem returns_act : val_main_v0 (F := Ideal) x = Ada.act x := by
  funext i
  rw [val_main_v0_apply, val_main_call0_v5_apply, val_main_call0_v4_apply, val_main_call0_v3_apply, val_main_call0_v2_apply,
    val_main_call0_v1_apply, val_main_call0_v0_apply, val_main_call0_cst_apply, val_main_call0_cst_0_apply]
  exact congrArg (fun o : EReal => x i * Ideal.div o (o + Ideal.exp (-(x i)))) Step.one_eq

theorem returns_product : val_main_v1 (F := Ideal) x w = Ada.modulation x w := by
  funext i
  rw [val_main_v1_apply, returns_act]
  exact Finset.sum_congr rfl fun k _ =>
    congrArg₂ (fun a b : EReal => a * b) (congrArg (Ada.act x) (eq_ix2 _)) (congrArg w (eq_ix2 _))

end Cert.AdaReferenceIdeal

/-! ## The claims -/

namespace Cert.AdaIdeal

open Idealize.ShloMosaic Idealize.ShloMosaic.TcCoe

/-- The reference runs and leaves its arguments unchanged. -/
theorem frame_reference : Cert.quiescent_AdaReferenceIdeal := fun m ρ _ =>
  (θ_run Cert.AdaReferenceIdeal.defs _ _).mono (fun r h => ⟨fun c => (h c).2.2,
      Idealize.ShloMosaic.sem_eq_zero_of_no_sems (by decide) r.2⟩)
    (Cert.AdaReferenceIdeal.Value.run (F := Ideal) m ρ)

/-- Kernel and reference return the same activation and the same product. -/
theorem algebraic : Cert.algebraic_AdaIdeal_AdaReferenceIdeal := by
  intro m g m' g' _ hagree
  refine ⟨fun c => Ada.act (vectors m c), fun c => Ada.modulation (vectors m c) (weight m c), ?_, ?_⟩
  · refine (θ_run Cert.AdaIdeal.defs _ _).mono (fun r h c => ?_) (Cert.AdaIdeal.Value.run_blocks (F := Ideal) m g)
    exact ⟨(h c).1.trans (returns_act m c), (h c).2.1.trans (returns_product m c), (h c).2.2⟩
  · refine (θ_run Cert.AdaReferenceIdeal.defs _ _).mono (fun r h c => ?_)
      (Cert.AdaReferenceIdeal.Value.run (F := Ideal) m' g')
    refine ⟨(h c).1.trans ((Cert.AdaReferenceIdeal.Read.val_main_v0_eq _).trans ?_),
      (h c).2.1.trans ((Cert.AdaReferenceIdeal.Read.val_main_v1_eq _ _).trans ?_), (h c).2.2⟩
    · rw [(hagree c).1]
      exact Cert.AdaReferenceIdeal.returns_act _
    · rw [(hagree c).1, (hagree c).2]
      exact Cert.AdaReferenceIdeal.returns_product _ _

end Cert.AdaIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.GradOut
public import proofs.«01_k».proof.Proof.Gen.GradOut.Skeleton
public import proofs.«01_k».proof.Proof.Gen.GradOut.Launch
public import proofs.«01_k».proof.Proof.Gen.GradOut.Points
public import proofs.«01_k».proof.Proof.Gen.GradOut.Frame
public import proofs.«01_k».proof.Proof.Gen.GradOutIdeal
public import proofs.«01_k».proof.Proof.Gen.GradOutIdeal.Skeleton
public import proofs.«01_k».proof.Proof.Gen.GradOutIdeal.Launch
public import proofs.«01_k».proof.Proof.Gen.GradOutIdeal.Points
public import proofs.«01_k».proof.Proof.Gen.GradOutIdeal.Frame
public import proofs.«01_k».proof.Proof.Gen.GradOutIdeal.Value
public import proofs.«01_k».proof.Proof.Gen.GradOutReferenceIdeal
public import proofs.«01_k».proof.Proof.Gen.GradOutReferenceIdeal.Run
public import proofs.«01_k».proof.Proof.Gen.GradOutReferenceIdeal.Read
public import proofs.«01_k».proof.Proof.Gen.GradFfnIn
public import proofs.«01_k».proof.Proof.Gen.GradFfnIn.Skeleton
public import proofs.«01_k».proof.Proof.Gen.GradFfnIn.Launch
public import proofs.«01_k».proof.Proof.Gen.GradFfnIn.Points
public import proofs.«01_k».proof.Proof.Gen.GradFfnIn.Frame
public import proofs.«01_k».proof.Proof.Gen.GradFfnInIdeal
public import proofs.«01_k».proof.Proof.Gen.GradFfnInIdeal.Skeleton
public import proofs.«01_k».proof.Proof.Gen.GradFfnInIdeal.Launch
public import proofs.«01_k».proof.Proof.Gen.GradFfnInIdeal.Points
public import proofs.«01_k».proof.Proof.Gen.GradFfnInIdeal.Frame
public import proofs.«01_k».proof.Proof.Gen.GradFfnInIdeal.Value
public import proofs.«01_k».proof.Proof.Gen.GradFfnInReferenceIdeal
public import proofs.«01_k».proof.Proof.Gen.GradFfnInReferenceIdeal.Run
public import proofs.«01_k».proof.Proof.Gen.GradFfnInReferenceIdeal.Read
public import proofs.«01_k».proof.Proof.Gen.GradFfnOut
public import proofs.«01_k».proof.Proof.Gen.GradFfnOut.Skeleton
public import proofs.«01_k».proof.Proof.Gen.GradFfnOut.Launch
public import proofs.«01_k».proof.Proof.Gen.GradFfnOut.Points
public import proofs.«01_k».proof.Proof.Gen.GradFfnOut.Frame
public import proofs.«01_k».proof.Proof.Gen.GradFfnOutIdeal
public import proofs.«01_k».proof.Proof.Gen.GradFfnOutIdeal.Skeleton
public import proofs.«01_k».proof.Proof.Gen.GradFfnOutIdeal.Launch
public import proofs.«01_k».proof.Proof.Gen.GradFfnOutIdeal.Points
public import proofs.«01_k».proof.Proof.Gen.GradFfnOutIdeal.Frame
public import proofs.«01_k».proof.Proof.Gen.GradFfnOutIdeal.Value
public import proofs.«01_k».proof.Proof.Gen.GradFfnOutReferenceIdeal
public import proofs.«01_k».proof.Proof.Gen.GradFfnOutReferenceIdeal.Run
public import proofs.«01_k».proof.Proof.Gen.GradFfnOutReferenceIdeal.Read
public import proofs.«01_k».proof.Proof.Gen.GradIn
public import proofs.«01_k».proof.Proof.Gen.GradIn.Skeleton
public import proofs.«01_k».proof.Proof.Gen.GradIn.Launch
public import proofs.«01_k».proof.Proof.Gen.GradIn.Points
public import proofs.«01_k».proof.Proof.Gen.GradIn.Frame
public import proofs.«01_k».proof.Proof.Gen.GradInIdeal
public import proofs.«01_k».proof.Proof.Gen.GradInIdeal.Skeleton
public import proofs.«01_k».proof.Proof.Gen.GradInIdeal.Launch
public import proofs.«01_k».proof.Proof.Gen.GradInIdeal.Points
public import proofs.«01_k».proof.Proof.Gen.GradInIdeal.Frame
public import proofs.«01_k».proof.Proof.Gen.GradInIdeal.Value
public import proofs.«01_k».proof.Proof.Gen.GradInReferenceIdeal
public import proofs.«01_k».proof.Proof.Gen.GradInReferenceIdeal.Run
public import proofs.«01_k».proof.Proof.Gen.GradInReferenceIdeal.Read
public import proofs.«01_k».proof.Proof.Gen.ProjIn
public import proofs.«01_k».proof.Proof.Gen.ProjIn.Skeleton
public import proofs.«01_k».proof.Proof.Gen.ProjIn.Launch
public import proofs.«01_k».proof.Proof.Gen.ProjIn.Points
public import proofs.«01_k».proof.Proof.Gen.ProjIn.Frame
public import proofs.«01_k».proof.Proof.Gen.ProjInIdeal
public import proofs.«01_k».proof.Proof.Gen.ProjInIdeal.Skeleton
public import proofs.«01_k».proof.Proof.Gen.ProjInIdeal.Launch
public import proofs.«01_k».proof.Proof.Gen.ProjInIdeal.Points
public import proofs.«01_k».proof.Proof.Gen.ProjInIdeal.Frame
public import proofs.«01_k».proof.Proof.Gen.ProjInIdeal.Value
public import proofs.«01_k».proof.Proof.Gen.ProjInReferenceIdeal
public import proofs.«01_k».proof.Proof.Gen.ProjInReferenceIdeal.Run
public import proofs.«01_k».proof.Proof.Gen.ProjInReferenceIdeal.Read
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaReferenceIdeal
public import proofs.«01_k».proof.Proof.Gen.AdaReferenceIdeal.Run
public import proofs.«01_k».proof.Proof.Gen.AdaReferenceIdeal.Read
public import proofs.«01_k».proof.Proof.Final
public import Idealize.ShloMosaic.Adequacy
public import Idealize.ShloMosaic.Init
public import proofs.«01_k».proof.Proof.GradOut
public import proofs.«01_k».proof.Proof.GradFfnIn
public import proofs.«01_k».proof.Proof.GradFfnOut
public import proofs.«01_k».proof.Proof.GradIn
public import proofs.«01_k».proof.Proof.ProjIn
public import proofs.«01_k».proof.Proof.Ada

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.GradOut.Gen.facts, Cert.GradOutIdeal.Gen.facts, Cert.GradOutReferenceIdeal.Gen.facts, Cert.GradFfnIn.Gen.facts, Cert.GradFfnInIdeal.Gen.facts, Cert.GradFfnInReferenceIdeal.Gen.facts, Cert.GradFfnOut.Gen.facts, Cert.GradFfnOutIdeal.Gen.facts, Cert.GradFfnOutReferenceIdeal.Gen.facts, Cert.GradIn.Gen.facts, Cert.GradInIdeal.Gen.facts, Cert.GradInReferenceIdeal.Gen.facts, Cert.ProjIn.Gen.facts, Cert.ProjInIdeal.Gen.facts, Cert.ProjInReferenceIdeal.Gen.facts, Cert.Ada.Gen.facts, Cert.AdaIdeal.Gen.facts, Cert.AdaReferenceIdeal.Gen.facts, Cert.Finite.facts,
    fun m ρ _ => Cert.Kernel.Gen.frame m ρ, fun m ρ _ => Cert.KernelIdeal.Gen.frame m ρ,
    fun m ρ _ => Cert.KernelIdeal.Gen.frame m ρ, Cert.Local.frame_reference,
    fun m ρ h => Cert.Local.frame_reference m ρ trivial,
    fun m ρ _ => Cert.GradOut.Gen.frame m ρ, fun m ρ _ => Cert.GradOutIdeal.Gen.frame m ρ, Cert.GradOutIdeal.frame_reference,
    fun m ρ _ => Cert.GradFfnIn.Gen.frame m ρ, fun m ρ _ => Cert.GradFfnInIdeal.Gen.frame m ρ, Cert.GradFfnInIdeal.frame_reference,
    fun m ρ _ => Cert.GradFfnOut.Gen.frame m ρ, fun m ρ _ => Cert.GradFfnOutIdeal.Gen.frame m ρ, Cert.GradFfnOutIdeal.frame_reference,
    fun m ρ _ => Cert.GradIn.Gen.frame m ρ, fun m ρ _ => Cert.GradInIdeal.Gen.frame m ρ, Cert.GradInIdeal.frame_reference,
    fun m ρ _ => Cert.ProjIn.Gen.frame m ρ, fun m ρ _ => Cert.ProjInIdeal.Gen.frame m ρ, Cert.ProjInIdeal.frame_reference,
    fun m ρ _ => Cert.Ada.Gen.frame m ρ, fun m ρ _ => Cert.AdaIdeal.Gen.frame m ρ, Cert.AdaIdeal.frame_reference,
    trivial, Cert.Local.algebraic, trivial, Cert.GradOutIdeal.algebraic, trivial, Cert.GradFfnInIdeal.algebraic, trivial, Cert.GradFfnOutIdeal.algebraic, trivial, Cert.GradInIdeal.algebraic, trivial, Cert.ProjInIdeal.algebraic,
    trivial, Cert.AdaIdeal.algebraic⟩

end Cert.Proof

end
